-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3136x384 : Shape := ⟨2, ![3136, 384]⟩
abbrev S16384x384 : Shape := ⟨2, ![16384, 384]⟩
abbrev S_ : Shape := ⟨0, ![]⟩

class Facts : Prop where
  bcast_S_S3136x384 : S_.BroadcastsInDim S3136x384 (![] : Fin 0 → Fin S3136x384.rank)
  reducesTo_S3136x384_S_d0_1 : S3136x384.ReducesTo [0, 1] S_
  h_S_ : 0 < S_.numel
  bcast_S_S16384x384 : S_.BroadcastsInDim S16384x384 (![] : Fin 0 → Fin S16384x384.rank)
  reducesTo_S16384x384_S_d0_1 : S16384x384.ReducesTo [0, 1] S_

variable [Facts]

def fn {F : FTy → Type} [FloatOps F] (main_arg0 : FVec F S3136x384 .f32) (main_arg1 : FVec F S16384x384 .f32) : IVec S_ 1 :=
  let main_v0 : FVec F S3136x384 .f32 := Host.absf main_arg0
  let main_cst : FVec F S_ .f32 := constant S_ .f32 0x7F800000#32
  let main_v1 : FVec F S3136x384 .f32 := broadcastInDim S3136x384 ![] bcast_S_S3136x384 main_cst
  let main_v2 : IVec S3136x384 1 := cmpf .olt main_v0 main_v1
  let main_c : IVec S_ 1 := constantI S_ 1 1#1
  let main_v3 : IVec S_ 1 := (fun x v => Host.reduce IntOp.andi x v reducesTo_S3136x384_S_d0_1 h_S_) main_v2 main_c
  let main_v4 : FVec F S16384x384 .f32 := Host.absf main_arg1
  let main_cst_0 : FVec F S_ .f32 := constant S_ .f32 0x7F800000#32
  let main_v5 : FVec F S16384x384 .f32 := broadcastInDim S16384x384 ![] bcast_S_S16384x384 main_cst_0
  let main_v6 : IVec S16384x384 1 := cmpf .olt main_v4 main_v5
  let main_c_1 : IVec S_ 1 := constantI S_ 1 1#1
  let main_v7 : IVec S_ 1 := (fun x v => Host.reduce IntOp.andi x v reducesTo_S16384x384_S_d0_1 h_S_) main_v6 main_c_1
  let main_v8 : IVec S_ 1 := andi main_v3 main_v7
  main_v8
-- ==== Kernel.lean ====
abbrev S3136x384 : Shape := ⟨2, ![3136, 384]⟩
abbrev S16384x384 : Shape := ⟨2, ![16384, 384]⟩
abbrev S224 : Shape := ⟨1, ![224]⟩
abbrev S33 : Shape := ⟨1, ![33]⟩
abbrev S_ : Shape := ⟨0, ![]⟩
abbrev S3328x384 : Shape := ⟨2, ![3328, 384]⟩
abbrev S13x1x256 : Shape := ⟨3, ![13, 1, 256]⟩
abbrev S1x16384 : Shape := ⟨2, ![1, 16384]⟩
abbrev S3328 : Shape := ⟨1, ![3328]⟩
abbrev S3136 : Shape := ⟨1, ![3136]⟩
abbrev S1x3328 : Shape := ⟨2, ![1, 3328]⟩
abbrev S4x784 : Shape := ⟨2, ![4, 784]⟩
abbrev S112x28 : Shape := ⟨2, ![112, 28]⟩
abbrev S224x28 : Shape := ⟨2, ![224, 28]⟩
abbrev S224x1 : Shape := ⟨2, ![224, 1]⟩
abbrev S224x33x224 : Shape := ⟨3, ![224, 33, 224]⟩
abbrev S1x33x1 : Shape := ⟨3, ![1, 33, 1]⟩
abbrev S224x224 : Shape := ⟨2, ![224, 224]⟩
abbrev S224x224x1 : Shape := ⟨3, ![224, 224, 1]⟩
abbrev S1x224x28 : Shape := ⟨3, ![1, 224, 28]⟩
abbrev S224x224x28 : Shape := ⟨3, ![224, 224, 28]⟩
abbrev S28x224 : Shape := ⟨2, ![28, 224]⟩
abbrev S896x224 : Shape := ⟨2, ![896, 224]⟩
abbrev S4x1 : Shape := ⟨2, ![4, 1]⟩
abbrev S4x1x224x224 : Shape := ⟨4, ![4, 1, 224, 224]⟩
abbrev S4 : Shape := ⟨1, ![4]⟩
abbrev S256x384 : Shape := ⟨2, ![256, 384]⟩
abbrev S1x1x256 : Shape := ⟨3, ![1, 1, 256]⟩
abbrev S16384 : Shape := ⟨1, ![16384]⟩
abbrev S256 : Shape := ⟨1, ![256]⟩
abbrev S256x1 : Shape := ⟨2, ![256, 1]⟩
abbrev S4096x384 : Shape := ⟨2, ![4096, 384]⟩
abbrev S256x4096 : Shape := ⟨2, ![256, 4096]⟩
abbrev S1x4096 : Shape := ⟨2, ![1, 4096]⟩
abbrev S4096 : Shape := ⟨1, ![4096]⟩
abbrev S4x3328 : Shape := ⟨2, ![4, 3328]⟩
abbrev S4x384 : Shape := ⟨2, ![4, 384]⟩
abbrev S4x16384 : Shape := ⟨2, ![4, 16384]⟩
abbrev S4x9 : Shape := ⟨2, ![4, 9]⟩
abbrev S28x28 : Shape := ⟨2, ![28, 28]⟩

abbrev nBuf : Space → Nat
  | .hbm => 67
  | .vmem => 19
  | .smem => 0
  | _ => 0

abbrev bufTy : (tb : Table) → Fin (tcTables nBuf tb) → BufTy
  | .hbm, ⟨0, _⟩ => ⟨S3136x384, .f32⟩
  | .hbm, ⟨1, _⟩ => ⟨S16384x384, .f32⟩
  | .hbm, ⟨2, _⟩ => ⟨S224, .i32⟩
  | .hbm, ⟨3, _⟩ => ⟨S224, .f32⟩
  | .hbm, ⟨4, _⟩ => ⟨S224, .i32⟩
  | .hbm, ⟨5, _⟩ => ⟨S224, .f32⟩
  | .hbm, ⟨6, _⟩ => ⟨S33, .f32⟩
  | .hbm, ⟨7, _⟩ => ⟨S_, .i32⟩
  | .hbm, ⟨8, _⟩ => ⟨S_, .f32⟩
  | .hbm, ⟨9, _⟩ => ⟨S3328x384, .f32⟩
  | .hbm, ⟨10, _⟩ => ⟨S13x1x256, .f32⟩
  | .hbm, ⟨11, _⟩ => ⟨S13x1x256, .f32⟩
  | .hbm, ⟨12, _⟩ => ⟨S1x16384, .f32⟩
  | .hbm, ⟨13, _⟩ => ⟨S16384x384, .bf16⟩
  | .hbm, ⟨14, _⟩ => ⟨S3328, .f32⟩
  | .hbm, ⟨15, _⟩ => ⟨S3136, .f32⟩
  | .hbm, ⟨16, _⟩ => ⟨S1x3328, .f32⟩
  | .hbm, ⟨17, _⟩ => ⟨S4x784, .f32⟩
  | .hbm, ⟨18, _⟩ => ⟨S112x28, .f32⟩
  | .hbm, ⟨19, _⟩ => ⟨S224x28, .i32⟩
  | .hbm, ⟨20, _⟩ => ⟨S224x1, .i32⟩
  | .hbm, ⟨21, _⟩ => ⟨S224x28, .i32⟩
  | .hbm, ⟨22, _⟩ => ⟨S224x28, .i1⟩
  | .hbm, ⟨23, _⟩ => ⟨S224x1, .f32⟩
  | .hbm, ⟨24, _⟩ => ⟨S_, .f32⟩
  | .hbm, ⟨25, _⟩ => ⟨S_, .f32⟩
  | .hbm, ⟨26, _⟩ => ⟨S224x28, .f32⟩
  | .hbm, ⟨27, _⟩ => ⟨S224x28, .f32⟩
  | .hbm, ⟨28, _⟩ => ⟨S224x28, .f32⟩
  | .hbm, ⟨29, _⟩ => ⟨S224x1, .i32⟩
  | .hbm, ⟨30, _⟩ => ⟨S224x28, .i32⟩
  | .hbm, ⟨31, _⟩ => ⟨S224x28, .i1⟩
  | .hbm, ⟨32, _⟩ => ⟨S224x1, .f32⟩
  | .hbm, ⟨33, _⟩ => ⟨S_, .f32⟩
  | .hbm, ⟨34, _⟩ => ⟨S_, .f32⟩
  | .hbm, ⟨35, _⟩ => ⟨S224x28, .f32⟩
  | .hbm, ⟨36, _⟩ => ⟨S224x28, .f32⟩
  | .hbm, ⟨37, _⟩ => ⟨S224x28, .f32⟩
  | .hbm, ⟨38, _⟩ => ⟨S224x28, .f32⟩
  | .hbm, ⟨39, _⟩ => ⟨S224x33x224, .i32⟩
  | .hbm, ⟨40, _⟩ => ⟨S224x33x224, .i32⟩
  | .hbm, ⟨41, _⟩ => ⟨S224x33x224, .i32⟩
  | .hbm, ⟨42, _⟩ => ⟨S224x33x224, .i32⟩
  | .hbm, ⟨43, _⟩ => ⟨S_, .i32⟩
  | .hbm, ⟨44, _⟩ => ⟨S224x33x224, .i32⟩
  | .hbm, ⟨45, _⟩ => ⟨S224x33x224, .i32⟩
  | .hbm, ⟨46, _⟩ => ⟨S224x33x224, .i1⟩
  | .hbm, ⟨47, _⟩ => ⟨S1x33x1, .f32⟩
  | .hbm, ⟨48, _⟩ => ⟨S_, .f32⟩
  | .hbm, ⟨49, _⟩ => ⟨S_, .f32⟩
  | .hbm, ⟨50, _⟩ => ⟨S224x33x224, .f32⟩
  | .hbm, ⟨51, _⟩ => ⟨S224x33x224, .f32⟩
  | .hbm, ⟨52, _⟩ => ⟨S224x33x224, .f32⟩
  | .hbm, ⟨53, _⟩ => ⟨S_, .f32⟩
  | .hbm, ⟨54, _⟩ => ⟨S224x224, .f32⟩
  | .hbm, ⟨55, _⟩ => ⟨S224x224x1, .f32⟩
  | .hbm, ⟨56, _⟩ => ⟨S1x224x28, .f32⟩
  | .hbm, ⟨57, _⟩ => ⟨S224x224x28, .f32⟩
  | .hbm, ⟨58, _⟩ => ⟨S224x224x28, .f32⟩
  | .hbm, ⟨59, _⟩ => ⟨S224x224x28, .f32⟩
  | .hbm, ⟨60, _⟩ => ⟨S_, .f32⟩
  | .hbm, ⟨61, _⟩ => ⟨S224x28, .f32⟩
  | .hbm, ⟨62, _⟩ => ⟨S28x224, .f32⟩
  | .hbm, ⟨63, _⟩ => ⟨S896x224, .f32⟩
  | .hbm, ⟨64, _⟩ => ⟨S4x1, .f32⟩
  | .hbm, ⟨65, _⟩ => ⟨S4x1x224x224, .f32⟩
  | .hbm, ⟨66, _⟩ => ⟨S4, .f32⟩
  | .local _ .vmem, ⟨0, _⟩ => ⟨S256x384, .f32⟩
  | .local _ .vmem, ⟨1, _⟩ => ⟨S256x384, .f32⟩
  | .local _ .vmem, ⟨2, _⟩ => ⟨S16384x384, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x16384, .f32⟩
  | .local _ .vmem, ⟨8, _⟩ => ⟨S16384x384, .bf16⟩
  | .local _ .vmem, ⟨9, _⟩ => ⟨S4x784, .f32⟩
  | .local _ .vmem, ⟨10, _⟩ => ⟨S112x28, .f32⟩
  | .local _ .vmem, ⟨11, _⟩ => ⟨S3328x384, .f32⟩
  | .local _ .vmem, ⟨12, _⟩ => ⟨S16384x384, .bf16⟩
  | .local _ .vmem, ⟨13, _⟩ => ⟨S1x3328, .f32⟩
  | .local _ .vmem, ⟨14, _⟩ => ⟨S1x16384, .f32⟩
  | .local _ .vmem, ⟨15, _⟩ => ⟨S224x28, .f32⟩
  | .local _ .vmem, ⟨16, _⟩ => ⟨S28x224, .f32⟩
  | .local _ .vmem, ⟨17, _⟩ => ⟨S896x224, .f32⟩
  | .local _ .vmem, ⟨18, _⟩ => ⟨S4x1, .f32⟩
  | _, _ => ⟨S3136x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_cst : Ref sig .tc := ⟨.hbm, 3, rfl⟩
abbrev main_call0_c_0 : Ref sig .tc := ⟨.hbm, 4, rfl⟩
abbrev main_call0_cst_1 : Ref sig .tc := ⟨.hbm, 5, rfl⟩
abbrev main_call0_cst_2 : Ref sig .tc := ⟨.hbm, 6, rfl⟩
abbrev main_call0_c_3 : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1_0 : Ref sig .tc := ⟨.hbm, 10, rfl⟩
abbrev main_call0_v1_1 : Ref sig .tc := ⟨.hbm, 11, rfl⟩
abbrev main_call0_v1_2 : Ref sig .tc := ⟨.hbm, 12, rfl⟩
abbrev main_call0_v1_3 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_4 : Ref sig .tc := ⟨.hbm, 24, rfl⟩
abbrev main_call0_call1_v0 : Ref sig .tc := ⟨.hbm, 25, rfl⟩
abbrev main_call0_call1_v1 : Ref sig .tc := ⟨.hbm, 26, rfl⟩
abbrev main_call0_call1_v2 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_cst_5 : Ref sig .tc := ⟨.hbm, 33, rfl⟩
abbrev main_call0_call2_v0 : Ref sig .tc := ⟨.hbm, 34, rfl⟩
abbrev main_call0_call2_v1 : Ref sig .tc := ⟨.hbm, 35, rfl⟩
abbrev main_call0_call2_v2 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_c_6 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_cst_7 : Ref sig .tc := ⟨.hbm, 48, rfl⟩
abbrev main_call0_call3_v0 : Ref sig .tc := ⟨.hbm, 49, rfl⟩
abbrev main_call0_call3_v1 : Ref sig .tc := ⟨.hbm, 50, rfl⟩
abbrev main_call0_call3_v2 : Ref sig .tc := ⟨.hbm, 51, rfl⟩
abbrev main_call0_v27 : Ref sig .tc := ⟨.hbm, 52, rfl⟩
abbrev main_call0_cst_8 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_cst_9 : Ref sig .tc := ⟨.hbm, 60, rfl⟩
abbrev main_call0_v34 : Ref sig .tc := ⟨.hbm, 61, rfl⟩
abbrev main_call0_v35 : Ref sig .tc := ⟨.hbm, 62, rfl⟩
abbrev main_call0_v36_0 : Ref sig .tc := ⟨.hbm, 63, rfl⟩
abbrev main_call0_v36_1 : Ref sig .tc := ⟨.hbm, 64, rfl⟩
abbrev main_v0_0 : Ref sig .tc := ⟨.hbm, 65, rfl⟩
abbrev main_v0_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S4x784 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S112x28 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3328x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x3328 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x16384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S224x28 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S28x224 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S896x224 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S4x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S3136x384 : Shape := ⟨2, ![3136, 384]⟩
abbrev S16384x384 : Shape := ⟨2, ![16384, 384]⟩
abbrev S33 : Shape := ⟨1, ![33]⟩
abbrev S_ : Shape := ⟨0, ![]⟩
abbrev S3136 : Shape := ⟨1, ![3136]⟩
abbrev S3136x1 : Shape := ⟨2, ![3136, 1]⟩
abbrev S16384 : Shape := ⟨1, ![16384]⟩
abbrev S16384x1 : Shape := ⟨2, ![16384, 1]⟩
abbrev S384x16384 : Shape := ⟨2, ![384, 16384]⟩
abbrev S3136x16384 : Shape := ⟨2, ![3136, 16384]⟩
abbrev S1x16384 : Shape := ⟨2, ![1, 16384]⟩
abbrev S4x784 : Shape := ⟨2, ![4, 784]⟩
abbrev S4 : Shape := ⟨1, ![4]⟩
abbrev S4x784x384 : Shape := ⟨3, ![4, 784, 384]⟩
abbrev S4x1 : Shape := ⟨2, ![4, 1]⟩
abbrev S4x2 : Shape := ⟨2, ![4, 2]⟩
abbrev S4x384 : Shape := ⟨2, ![4, 384]⟩
abbrev S4x16384 : Shape := ⟨2, ![4, 16384]⟩
abbrev S4x9 : Shape := ⟨2, ![4, 9]⟩
abbrev S4x9x1 : Shape := ⟨3, ![4, 9, 1]⟩
abbrev S4x9x384 : Shape := ⟨3, ![4, 9, 384]⟩
abbrev S4x1x384 : Shape := ⟨3, ![4, 1, 384]⟩
abbrev S4x1x1 : Shape := ⟨3, ![4, 1, 1]⟩
abbrev S4x384x9 : Shape := ⟨3, ![4, 384, 9]⟩
abbrev S4x1x9 : Shape := ⟨3, ![4, 1, 9]⟩
abbrev S4x1x28x28 : Shape := ⟨4, ![4, 1, 28, 28]⟩
abbrev S224 : Shape := ⟨1, ![224]⟩
abbrev S28 : Shape := ⟨1, ![28]⟩
abbrev S1x224 : Shape := ⟨2, ![1, 224]⟩
abbrev S28x1 : Shape := ⟨2, ![28, 1]⟩
abbrev S28x224 : Shape := ⟨2, ![28, 224]⟩
abbrev S224x4x1x28 : Shape := ⟨4, ![224, 4, 1, 28]⟩
abbrev S224x4x1x224 : Shape := ⟨4, ![224, 4, 1, 224]⟩
abbrev S4x1x224x224 : Shape := ⟨4, ![4, 1, 224, 224]⟩
abbrev S224x1 : Shape := ⟨2, ![224, 1]⟩
abbrev S1x33 : Shape := ⟨2, ![1, 33]⟩
abbrev S224x33 : Shape := ⟨2, ![224, 33]⟩
abbrev S4x1x256x224 : Shape := ⟨4, ![4, 1, 256, 224]⟩
abbrev S224x33x1 : Shape := ⟨3, ![224, 33, 1]⟩
abbrev S4x1x224x33x224 : Shape := ⟨5, ![4, 1, 224, 33, 224]⟩
abbrev S1x1x1x33x1 : Shape := ⟨5, ![1, 1, 1, 33, 1]⟩
abbrev S4x1x224x256 : Shape := ⟨4, ![4, 1, 224, 256]⟩
abbrev S4x1x224x224x33 : Shape := ⟨5, ![4, 1, 224, 224, 33]⟩
abbrev S1x1x1x1x33 : Shape := ⟨5, ![1, 1, 1, 1, 33]⟩

abbrev nBuf : Space → Nat
  | .hbm => 354
  | .vmem => 0
  | .smem => 0
  | _ => 0

abbrev hbmTy0_0 (i : Nat) : BufTy := match i % 128 with
  | 0 => ⟨S3136x384, .f32⟩
  | 1 => ⟨S16384x384, .f32⟩
  | 2 => ⟨S33, .f32⟩
  | 3 => ⟨S3136x384, .f32⟩
  | 4 => ⟨S_, .f32⟩
  | 5 => ⟨S3136, .f32⟩
  | 6 => ⟨S3136x1, .f32⟩
  | 7 => ⟨S16384x384, .f32⟩
  | 8 => ⟨S_, .f32⟩
  | 9 => ⟨S16384, .f32⟩
  | 10 => ⟨S16384x1, .f32⟩
  | 11 => ⟨S384x16384, .f32⟩
  | 12 => ⟨S3136x16384, .f32⟩
  | 13 => ⟨S_, .f32⟩
  | 14 => ⟨S3136x16384, .f32⟩
  | 15 => ⟨S3136x16384, .f32⟩
  | 16 => ⟨S3136x16384, .f32⟩
  | 17 => ⟨S3136x16384, .f32⟩
  | 18 => ⟨S1x16384, .f32⟩
  | 19 => ⟨S3136x16384, .f32⟩
  | 20 => ⟨S3136x16384, .f32⟩
  | 21 => ⟨S_, .f32⟩
  | 22 => ⟨S3136x16384, .f32⟩
  | 23 => ⟨S3136x16384, .f32⟩
  | 24 => ⟨S3136x16384, .f32⟩
  | 25 => ⟨S_, .f32⟩
  | 26 => ⟨S3136, .f32⟩
  | 27 => ⟨S3136x16384, .i32⟩
  | 28 => ⟨S_, .f32⟩
  | 29 => ⟨S_, .i32⟩
  | 30 => ⟨S3136, .f32⟩
  | 31 => ⟨S3136, .i32⟩
  | 32 => ⟨S4x784, .f32⟩
  | 33 => ⟨S4x784, .i32⟩
  | 34 => ⟨S4x784, .i32⟩
  | 35 => ⟨S_, .f32⟩
  | 36 => ⟨S_, .i32⟩
  | 37 => ⟨S4, .f32⟩
  | 38 => ⟨S4, .i32⟩
  | 39 => ⟨S4x784x384, .f32⟩
  | 40 => ⟨S4, .i32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i1⟩
  | 51 => ⟨S_, .i32⟩
  | 52 => ⟨S4, .i32⟩
  | 53 => ⟨S4, .i32⟩
  | 54 => ⟨S4, .i32⟩
  | 55 => ⟨S4x1, .i32⟩
  | 56 => ⟨S4x1, .i32⟩
  | 57 => ⟨S4x2, .i32⟩
  | 58 => ⟨S4x384, .f32⟩
  | 59 => ⟨S_, .i32⟩
  | 60 => ⟨S4, .i32⟩
  | 61 => ⟨S4, .i1⟩
  | 62 => ⟨S_, .i32⟩
  | 63 => ⟨S4, .i32⟩
  | 64 => ⟨S4, .i32⟩
  | 65 => ⟨S4, .i32⟩
  | 66 => ⟨S_, .i32⟩
  | 67 => ⟨S4, .i32⟩
  | 68 => ⟨S4, .i1⟩
  | 69 => ⟨S_, .i32⟩
  | 70 => ⟨S4, .i32⟩
  | 71 => ⟨S4, .i32⟩
  | 72 => ⟨S4, .i32⟩
  | 73 => ⟨S4x1, .i32⟩
  | 74 => ⟨S4x1, .i32⟩
  | 75 => ⟨S4x2, .i32⟩
  | 76 => ⟨S4, .f32⟩
  | 77 => ⟨S_, .i32⟩
  | 78 => ⟨S4, .i32⟩
  | 79 => ⟨S4, .i1⟩
  | 80 => ⟨S_, .i32⟩
  | 81 => ⟨S4, .i32⟩
  | 82 => ⟨S4, .i32⟩
  | 83 => ⟨S4, .i32⟩
  | 84 => ⟨S_, .i32⟩
  | 85 => ⟨S4, .i32⟩
  | 86 => ⟨S4, .i1⟩
  | 87 => ⟨S_, .i32⟩
  | 88 => ⟨S4, .i32⟩
  | 89 => ⟨S4, .i32⟩
  | 90 => ⟨S4, .i32⟩
  | 91 => ⟨S4x1, .i32⟩
  | 92 => ⟨S4x1, .i32⟩
  | 93 => ⟨S4x2, .i32⟩
  | 94 => ⟨S4, .i32⟩
  | 95 => ⟨S_, .i32⟩
  | 96 => ⟨S4, .i32⟩
  | 97 => ⟨S4, .i1⟩
  | 98 => ⟨S_, .i32⟩
  | 99 => ⟨S4, .i32⟩
  | 100 => ⟨S4, .i32⟩
  | 101 => ⟨S4, .i32⟩
  | 102 => ⟨S4x1, .i32⟩
  | 103 => ⟨S4x384, .f32⟩
  | 104 => ⟨S4x384, .f32⟩
  | 105 => ⟨S_, .f32⟩
  | 106 => ⟨S4, .f32⟩
  | 107 => ⟨S4x1, .f32⟩
  | 108 => ⟨S16384x384, .f32⟩
  | 109 => ⟨S_, .f32⟩
  | 110 => ⟨S16384, .f32⟩
  | 111 => ⟨S16384x1, .f32⟩
  | 112 => ⟨S384x16384, .f32⟩
  | 113 => ⟨S4x16384, .f32⟩
  | 114 => ⟨S_, .f32⟩
  | 115 => ⟨S4x16384, .f32⟩
  | 116 => ⟨S4x16384, .f32⟩
  | 117 => ⟨S4x16384, .f32⟩
  | 118 => ⟨S4x16384, .f32⟩
  | 119 => ⟨S1x16384, .f32⟩
  | 120 => ⟨S4x16384, .f32⟩
  | 121 => ⟨S4x16384, .f32⟩
  | 122 => ⟨S_, .f32⟩
  | 123 => ⟨S4x16384, .f32⟩
  | 124 => ⟨S4x16384, .f32⟩
  | 125 => ⟨S4x16384, .f32⟩
  | 126 => ⟨S4x16384, .f32⟩
  | 127 => ⟨S4x9, .f32⟩
  | _ => ⟨S3136x384, .f32⟩

abbrev hbmTy0_1 (i : Nat) : BufTy := match i % 128 with
  | 0 => ⟨S4x9, .i32⟩
  | 1 => ⟨S_, .i32⟩
  | 2 => ⟨S4x9, .i32⟩
  | 3 => ⟨S4x9, .i1⟩
  | 4 => ⟨S_, .i32⟩
  | 5 => ⟨S4x9, .i32⟩
  | 6 => ⟨S4x9, .i32⟩
  | 7 => ⟨S4x9, .i32⟩
  | 8 => ⟨S4x9x1, .i32⟩
  | 9 => ⟨S4x9x384, .f32⟩
  | 10 => ⟨S4x1x384, .f32⟩
  | 11 => ⟨S4x1x384, .f32⟩
  | 12 => ⟨S_, .f32⟩
  | 13 => ⟨S4x1, .f32⟩
  | 14 => ⟨S4x1x1, .f32⟩
  | 15 => ⟨S4x9x384, .f32⟩
  | 16 => ⟨S_, .f32⟩
  | 17 => ⟨S4x9, .f32⟩
  | 18 => ⟨S4x9x1, .f32⟩
  | 19 => ⟨S4x384x9, .f32⟩
  | 20 => ⟨S4x1x9, .f32⟩
  | 21 => ⟨S_, .f32⟩
  | 22 => ⟨S4x1x9, .f32⟩
  | 23 => ⟨S4x1x9, .f32⟩
  | 24 => ⟨S4x1x9, .f32⟩
  | 25 => ⟨S4x1x9, .f32⟩
  | 26 => ⟨S4x1x9, .f32⟩
  | 27 => ⟨S4x1x9, .f32⟩
  | 28 => ⟨S_, .f32⟩
  | 29 => ⟨S4x1x9, .f32⟩
  | 30 => ⟨S4x1x9, .f32⟩
  | 31 => ⟨S4x1x9, .f32⟩
  | 32 => ⟨S4x9, .f32⟩
  | 33 => ⟨S_, .f32⟩
  | 34 => ⟨S4, .f32⟩
  | 35 => ⟨S_, .f32⟩
  | 36 => ⟨S4, .f32⟩
  | 37 => ⟨S4, .f32⟩
  | 38 => ⟨S4x1, .f32⟩
  | 39 => ⟨S4x9, .f32⟩
  | 40 => ⟨S4x9, .f32⟩
  | 41 => ⟨S4x9, .f32⟩
  | 42 => ⟨S_, .f32⟩
  | 43 => ⟨S4, .f32⟩
  | 44 => ⟨S4x1, .f32⟩
  | 45 => ⟨S4x9, .f32⟩
  | 46 => ⟨S4x9, .f32⟩
  | 47 => ⟨S_, .f32⟩
  | 48 => ⟨S4x9, .f32⟩
  | 49 => ⟨S4x9, .f32⟩
  | 50 => ⟨S4x1, .f32⟩
  | 51 => ⟨S4, .f32⟩
  | 52 => ⟨S4, .f32⟩
  | 53 => ⟨S4x1x28x28, .f32⟩
  | 54 => ⟨S_, .f32⟩
  | 55 => ⟨S_, .f32⟩
  | 56 => ⟨S_, .f32⟩
  | 57 => ⟨S224, .f32⟩
  | 58 => ⟨S_, .f32⟩
  | 59 => ⟨S224, .f32⟩
  | 60 => ⟨S224, .f32⟩
  | 61 => ⟨S_, .f32⟩
  | 62 => ⟨S224, .f32⟩
  | 63 => ⟨S224, .f32⟩
  | 64 => ⟨S_, .f32⟩
  | 65 => ⟨S224, .f32⟩
  | 66 => ⟨S224, .f32⟩
  | 67 => ⟨S_, .f32⟩
  | 68 => ⟨S224, .f32⟩
  | 69 => ⟨S224, .f32⟩
  | 70 => ⟨S28, .f32⟩
  | 71 => ⟨S1x224, .f32⟩
  | 72 => ⟨S28x1, .f32⟩
  | 73 => ⟨S28x224, .f32⟩
  | 74 => ⟨S28x224, .f32⟩
  | 75 => ⟨S28x224, .f32⟩
  | 76 => ⟨S28x224, .f32⟩
  | 77 => ⟨S_, .f32⟩
  | 78 => ⟨S28x224, .f32⟩
  | 79 => ⟨S28x224, .f32⟩
  | 80 => ⟨S28x224, .f32⟩
  | 81 => ⟨S_, .f32⟩
  | 82 => ⟨S28x224, .f32⟩
  | 83 => ⟨S28x224, .f32⟩
  | 84 => ⟨S_, .f32⟩
  | 85 => ⟨S28x224, .f32⟩
  | 86 => ⟨S28x224, .f32⟩
  | 87 => ⟨S_, .f32⟩
  | 88 => ⟨S224, .f32⟩
  | 89 => ⟨S1x224, .f32⟩
  | 90 => ⟨S1x224, .f32⟩
  | 91 => ⟨S_, .f32⟩
  | 92 => ⟨S1x224, .f32⟩
  | 93 => ⟨S1x224, .i1⟩
  | 94 => ⟨S_, .f32⟩
  | 95 => ⟨S1x224, .f32⟩
  | 96 => ⟨S1x224, .i1⟩
  | 97 => ⟨S_, .f32⟩
  | 98 => ⟨S1x224, .f32⟩
  | 99 => ⟨S1x224, .f32⟩
  | 100 => ⟨S28x224, .f32⟩
  | 101 => ⟨S28x224, .f32⟩
  | 102 => ⟨S28x224, .i1⟩
  | 103 => ⟨S_, .f32⟩
  | 104 => ⟨S28x224, .f32⟩
  | 105 => ⟨S28x224, .f32⟩
  | 106 => ⟨S_, .f32⟩
  | 107 => ⟨S224, .f32⟩
  | 108 => ⟨S224, .i1⟩
  | 109 => ⟨S_, .f32⟩
  | 110 => ⟨S224, .f32⟩
  | 111 => ⟨S224, .i1⟩
  | 112 => ⟨S224, .i1⟩
  | 113 => ⟨S1x224, .i1⟩
  | 114 => ⟨S28x224, .i1⟩
  | 115 => ⟨S_, .f32⟩
  | 116 => ⟨S28x224, .f32⟩
  | 117 => ⟨S28x224, .f32⟩
  | 118 => ⟨S_, .f32⟩
  | 119 => ⟨S_, .f32⟩
  | 120 => ⟨S_, .f32⟩
  | 121 => ⟨S224, .f32⟩
  | 122 => ⟨S_, .f32⟩
  | 123 => ⟨S224, .f32⟩
  | 124 => ⟨S224, .f32⟩
  | 125 => ⟨S_, .f32⟩
  | 126 => ⟨S224, .f32⟩
  | 127 => ⟨S224, .f32⟩
  | _ => ⟨S3136x384, .f32⟩

abbrev hbmTy0_2 (i : Nat) : BufTy := match i % 128 with
  | 0 => ⟨S_, .f32⟩
  | 1 => ⟨S224, .f32⟩
  | 2 => ⟨S224, .f32⟩
  | 3 => ⟨S_, .f32⟩
  | 4 => ⟨S224, .f32⟩
  | 5 => ⟨S224, .f32⟩
  | 6 => ⟨S28, .f32⟩
  | 7 => ⟨S1x224, .f32⟩
  | 8 => ⟨S28x1, .f32⟩
  | 9 => ⟨S28x224, .f32⟩
  | 10 => ⟨S28x224, .f32⟩
  | 11 => ⟨S28x224, .f32⟩
  | 12 => ⟨S28x224, .f32⟩
  | 13 => ⟨S_, .f32⟩
  | 14 => ⟨S28x224, .f32⟩
  | 15 => ⟨S28x224, .f32⟩
  | 16 => ⟨S28x224, .f32⟩
  | 17 => ⟨S_, .f32⟩
  | 18 => ⟨S28x224, .f32⟩
  | 19 => ⟨S28x224, .f32⟩
  | 20 => ⟨S_, .f32⟩
  | 21 => ⟨S28x224, .f32⟩
  | 22 => ⟨S28x224, .f32⟩
  | 23 => ⟨S_, .f32⟩
  | 24 => ⟨S224, .f32⟩
  | 25 => ⟨S1x224, .f32⟩
  | 26 => ⟨S1x224, .f32⟩
  | 27 => ⟨S_, .f32⟩
  | 28 => ⟨S1x224, .f32⟩
  | 29 => ⟨S1x224, .i1⟩
  | 30 => ⟨S_, .f32⟩
  | 31 => ⟨S1x224, .f32⟩
  | 32 => ⟨S1x224, .i1⟩
  | 33 => ⟨S_, .f32⟩
  | 34 => ⟨S1x224, .f32⟩
  | 35 => ⟨S1x224, .f32⟩
  | 36 => ⟨S28x224, .f32⟩
  | 37 => ⟨S28x224, .f32⟩
  | 38 => ⟨S28x224, .i1⟩
  | 39 => ⟨S_, .f32⟩
  | 40 => ⟨S28x224, .f32⟩
  | 41 => ⟨S28x224, .f32⟩
  | 42 => ⟨S_, .f32⟩
  | 43 => ⟨S224, .f32⟩
  | 44 => ⟨S224, .i1⟩
  | 45 => ⟨S_, .f32⟩
  | 46 => ⟨S224, .f32⟩
  | 47 => ⟨S224, .i1⟩
  | 48 => ⟨S224, .i1⟩
  | 49 => ⟨S1x224, .i1⟩
  | 50 => ⟨S28x224, .i1⟩
  | 51 => ⟨S_, .f32⟩
  | 52 => ⟨S28x224, .f32⟩
  | 53 => ⟨S28x224, .f32⟩
  | 54 => ⟨S224x4x1x28, .f32⟩
  | 55 => ⟨S224x4x1x224, .f32⟩
  | 56 => ⟨S4x1x224x224, .f32⟩
  | 57 => ⟨S224, .i32⟩
  | 58 => ⟨S224x1, .i32⟩
  | 59 => ⟨S33, .i32⟩
  | 60 => ⟨S1x33, .i32⟩
  | 61 => ⟨S224x33, .i32⟩
  | 62 => ⟨S224x33, .i32⟩
  | 63 => ⟨S224x33, .i32⟩
  | 64 => ⟨S_, .i32⟩
  | 65 => ⟨S_, .f32⟩
  | 66 => ⟨S4x1x256x224, .f32⟩
  | 67 => ⟨S_, .i32⟩
  | 68 => ⟨S224x33, .i32⟩
  | 69 => ⟨S224x33, .i1⟩
  | 70 => ⟨S_, .i32⟩
  | 71 => ⟨S224x33, .i32⟩
  | 72 => ⟨S224x33, .i32⟩
  | 73 => ⟨S224x33, .i32⟩
  | 74 => ⟨S224x33x1, .i32⟩
  | 75 => ⟨S4x1x224x33x224, .f32⟩
  | 76 => ⟨S1x1x1x33x1, .f32⟩
  | 77 => ⟨S4x1x224x33x224, .f32⟩
  | 78 => ⟨S4x1x224x33x224, .f32⟩
  | 79 => ⟨S_, .f32⟩
  | 80 => ⟨S4x1x224x224, .f32⟩
  | 81 => ⟨S_, .i32⟩
  | 82 => ⟨S_, .f32⟩
  | 83 => ⟨S4x1x224x256, .f32⟩
  | 84 => ⟨S_, .i32⟩
  | 85 => ⟨S224x33, .i32⟩
  | 86 => ⟨S224x33, .i1⟩
  | 87 => ⟨S_, .i32⟩
  | 88 => ⟨S224x33, .i32⟩
  | 89 => ⟨S224x33, .i32⟩
  | 90 => ⟨S224x33, .i32⟩
  | 91 => ⟨S224x33x1, .i32⟩
  | 92 => ⟨S4x1x224x224x33, .f32⟩
  | 93 => ⟨S1x1x1x1x33, .f32⟩
  | 94 => ⟨S4x1x224x224x33, .f32⟩
  | 95 => ⟨S4x1x224x224x33, .f32⟩
  | 96 => ⟨S_, .f32⟩
  | 97 => ⟨S4x1x224x224, .f32⟩
  | _ => ⟨S3136x384, .f32⟩

abbrev hbmTy (i : Nat) : BufTy := match i / 128 with
  | 0 => hbmTy0_0 i
  | 1 => hbmTy0_1 i
  | 2 => hbmTy0_2 i
  | _ => ⟨S3136x384, .f32⟩

abbrev bufTy : (tb : Table) → Fin (tcTables nBuf tb) → BufTy
  | .hbm, ⟨i, _⟩ => hbmTy i
  | _, _ => ⟨S3136x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_cst : Ref sig .tc := ⟨.hbm, 35, rfl⟩
abbrev main_call1_c : Ref sig .tc := ⟨.hbm, 36, rfl⟩
abbrev main_call1_v1_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_values : Ref sig .tc := ⟨.hbm, 127, rfl⟩
abbrev main_indices : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_24 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_27 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_28 : Ref sig .tc := ⟨.hbm, 161, rfl⟩
abbrev main_v119 : Ref sig .tc := ⟨.hbm, 162, rfl⟩
abbrev main_cst_29 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_30 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_31 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_32 : Ref sig .tc := ⟨.hbm, 182, rfl⟩
abbrev main_cst_33 : Ref sig .tc := ⟨.hbm, 183, rfl⟩
abbrev main_v136 : Ref sig .tc := ⟨.hbm, 184, rfl⟩
abbrev main_v137 : Ref sig .tc := ⟨.hbm, 185, rfl⟩
abbrev main_cst_34 : Ref sig .tc := ⟨.hbm, 186, rfl⟩
abbrev main_v138 : Ref sig .tc := ⟨.hbm, 187, rfl⟩
abbrev main_v139 : Ref sig .tc := ⟨.hbm, 188, rfl⟩
abbrev main_cst_35 : Ref sig .tc := ⟨.hbm, 189, rfl⟩
abbrev main_v140 : Ref sig .tc := ⟨.hbm, 190, rfl⟩
abbrev main_v141 : Ref sig .tc := ⟨.hbm, 191, rfl⟩
abbrev main_cst_36 : Ref sig .tc := ⟨.hbm, 192, rfl⟩
abbrev main_v142 : Ref sig .tc := ⟨.hbm, 193, rfl⟩
abbrev main_v143 : Ref sig .tc := ⟨.hbm, 194, rfl⟩
abbrev main_cst_37 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_38 : Ref sig .tc := ⟨.hbm, 209, rfl⟩
abbrev main_v157 : Ref sig .tc := ⟨.hbm, 210, rfl⟩
abbrev main_v158 : Ref sig .tc := ⟨.hbm, 211, rfl⟩
abbrev main_cst_39 : Ref sig .tc := ⟨.hbm, 212, rfl⟩
abbrev main_v159 : Ref sig .tc := ⟨.hbm, 213, rfl⟩
abbrev main_v160 : Ref sig .tc := ⟨.hbm, 214, rfl⟩
abbrev main_cst_40 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_41 : Ref sig .tc := ⟨.hbm, 219, rfl⟩
abbrev main_v164 : Ref sig .tc := ⟨.hbm, 220, rfl⟩
abbrev main_v165 : Ref sig .tc := ⟨.hbm, 221, rfl⟩
abbrev main_cst_42 : Ref sig .tc := ⟨.hbm, 222, rfl⟩
abbrev main_v166 : Ref sig .tc := ⟨.hbm, 223, rfl⟩
abbrev main_v167 : Ref sig .tc := ⟨.hbm, 224, rfl⟩
abbrev main_cst_43 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_44 : Ref sig .tc := ⟨.hbm, 231, rfl⟩
abbrev main_v173 : Ref sig .tc := ⟨.hbm, 232, rfl⟩
abbrev main_v174 : Ref sig .tc := ⟨.hbm, 233, rfl⟩
abbrev main_cst_45 : Ref sig .tc := ⟨.hbm, 234, rfl⟩
abbrev main_v175 : Ref sig .tc := ⟨.hbm, 235, rfl⟩
abbrev main_v176 : Ref sig .tc := ⟨.hbm, 236, rfl⟩
abbrev main_cst_46 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_47 : Ref sig .tc := ⟨.hbm, 243, rfl⟩
abbrev main_v182 : Ref sig .tc := ⟨.hbm, 244, rfl⟩
abbrev main_v183 : Ref sig .tc := ⟨.hbm, 245, rfl⟩
abbrev main_cst_48 : Ref sig .tc := ⟨.hbm, 246, rfl⟩
abbrev main_cst_49 : Ref sig .tc := ⟨.hbm, 247, rfl⟩
abbrev main_v184 : Ref sig .tc := ⟨.hbm, 248, rfl⟩
abbrev main_v185 : Ref sig .tc := ⟨.hbm, 249, rfl⟩
abbrev main_cst_50 : Ref sig .tc := ⟨.hbm, 250, rfl⟩
abbrev main_v186 : Ref sig .tc := ⟨.hbm, 251, rfl⟩
abbrev main_v187 : Ref sig .tc := ⟨.hbm, 252, rfl⟩
abbrev main_cst_51 : Ref sig .tc := ⟨.hbm, 253, rfl⟩
abbrev main_v188 : Ref sig .tc := ⟨.hbm, 254, rfl⟩
abbrev main_v189 : Ref sig .tc := ⟨.hbm, 255, rfl⟩
abbrev main_cst_52 : Ref sig .tc := ⟨.hbm, 256, rfl⟩
abbrev main_v190 : Ref sig .tc := ⟨.hbm, 257, rfl⟩
abbrev main_v191 : Ref sig .tc := ⟨.hbm, 258, rfl⟩
abbrev main_cst_53 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_cst_54 : Ref sig .tc := ⟨.hbm, 273, rfl⟩
abbrev main_v205 : Ref sig .tc := ⟨.hbm, 274, rfl⟩
abbrev main_v206 : Ref sig .tc := ⟨.hbm, 275, rfl⟩
abbrev main_cst_55 : Ref sig .tc := ⟨.hbm, 276, rfl⟩
abbrev main_v207 : Ref sig .tc := ⟨.hbm, 277, rfl⟩
abbrev main_v208 : Ref sig .tc := ⟨.hbm, 278, rfl⟩
abbrev main_cst_56 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_cst_57 : Ref sig .tc := ⟨.hbm, 283, rfl⟩
abbrev main_v212 : Ref sig .tc := ⟨.hbm, 284, rfl⟩
abbrev main_v213 : Ref sig .tc := ⟨.hbm, 285, rfl⟩
abbrev main_cst_58 : Ref sig .tc := ⟨.hbm, 286, rfl⟩
abbrev main_v214 : Ref sig .tc := ⟨.hbm, 287, rfl⟩
abbrev main_v215 : Ref sig .tc := ⟨.hbm, 288, rfl⟩
abbrev main_cst_59 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_cst_60 : Ref sig .tc := ⟨.hbm, 295, rfl⟩
abbrev main_v221 : Ref sig .tc := ⟨.hbm, 296, rfl⟩
abbrev main_v222 : Ref sig .tc := ⟨.hbm, 297, rfl⟩
abbrev main_cst_61 : Ref sig .tc := ⟨.hbm, 298, rfl⟩
abbrev main_v223 : Ref sig .tc := ⟨.hbm, 299, rfl⟩
abbrev main_v224 : Ref sig .tc := ⟨.hbm, 300, rfl⟩
abbrev main_cst_62 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_cst_63 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_c_64 : Ref sig .tc := ⟨.hbm, 320, rfl⟩
abbrev main_call2_v0 : Ref sig .tc := ⟨.hbm, 321, rfl⟩
abbrev main_v242 : Ref sig .tc := ⟨.hbm, 322, rfl⟩
abbrev main_c_65 : Ref sig .tc := ⟨.hbm, 323, rfl⟩
abbrev main_v243 : Ref sig .tc := ⟨.hbm, 324, rfl⟩
abbrev main_v244 : Ref sig .tc := ⟨.hbm, 325, rfl⟩
abbrev main_c_66 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_cst_67 : Ref sig .tc := ⟨.hbm, 335, rfl⟩
abbrev main_v253 : Ref sig .tc := ⟨.hbm, 336, rfl⟩
abbrev main_c_68 : Ref sig .tc := ⟨.hbm, 337, rfl⟩
abbrev main_call3_v0 : Ref sig .tc := ⟨.hbm, 338, rfl⟩
abbrev main_v254 : Ref sig .tc := ⟨.hbm, 339, rfl⟩
abbrev main_c_69 : Ref sig .tc := ⟨.hbm, 340, rfl⟩
abbrev main_v255 : Ref sig .tc := ⟨.hbm, 341, rfl⟩
abbrev main_v256 : Ref sig .tc := ⟨.hbm, 342, rfl⟩
abbrev main_c_70 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_cst_71 : Ref sig .tc := ⟨.hbm, 352, rfl⟩
abbrev main_v265 : Ref sig .tc := ⟨.hbm, 353, rfl⟩

abbrev nD : Nat := 1
abbrev τ : Topo := Topo.v7x

variable {F : FTy → Type} [FloatOps F]
-- ==== Proof.IdealRegion0.lean ====
/-
  The first pallas_call: 13 points of 256 rows. At the first point the body stores the rows' norms of the
  memory bank and the bank times −2, and every later point reads them back; at every point it stores its rows'
  scores and norms.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

abbrev rE : Rect S256x384 := Rect.unit (s := S256x384) ![0, 0] S256x384.size inb_S256x384_S256x384_0_0
abbrev rM : Rect S16384x384 := Rect.unit (s := S16384x384) ![0, 0] S16384x384.size inb_S16384x384_S16384x384_0_0
abbrev rS : Rect S1x1x256 := Rect.unit (s := S1x1x256) ![0, 0, 0] S1x1x256.size inb_S1x1x256_S1x1x256_0_0_0
abbrev rY : Rect S1x16384 := Rect.unit (s := S1x16384) ![0, 0] S1x16384.size inb_S1x16384_S1x16384_0_0
abbrev rB0 : Rect S16384x384 := Rect.unit (s := S16384x384) ![0, 0] S4096x384.size inb_S16384x384_S4096x384_0_0
abbrev rB1 : Rect S16384x384 := Rect.unit (s := S16384x384) ![4096, 0] S4096x384.size inb_S16384x384_S4096x384_4096_0
abbrev rB2 : Rect S16384x384 := Rect.unit (s := S16384x384) ![8192, 0] S4096x384.size inb_S16384x384_S4096x384_8192_0
abbrev rB3 : Rect S16384x384 := Rect.unit (s := S16384x384) ![12288, 0] S4096x384.size inb_S16384x384_S4096x384_12288_0
abbrev rY0 : Rect S1x16384 := Rect.unit (s := S1x16384) ![0, 0] S1x4096.size inb_S1x16384_S1x4096_0_0
abbrev rY1 : Rect S1x16384 := Rect.unit (s := S1x16384) ![0, 4096] S1x4096.size inb_S1x16384_S1x4096_0_4096
abbrev rY2 : Rect S1x16384 := Rect.unit (s := S1x16384) ![0, 8192] S1x4096.size inb_S1x16384_S1x4096_0_8192
abbrev rY3 : Rect S1x16384 := Rect.unit (s := S1x16384) ![0, 12288] S1x4096.size inb_S1x16384_S1x4096_0_12288

/-- The bank's row norms, from the bank. -/
def bankNorms (x1 : Vec F S16384x384 .f32) : Vec F S1x16384 .f32 := View.canon [⟨rY, k0_pay2 (View.ld x1 rM)⟩]
/-- The bank times −2, from the bank. -/
def bankScaled (x1 : Vec F S16384x384 .f32) : Vec F S16384x384 .bf16 := View.canon [⟨rM, k0_pay3 (View.ld x1 rM)⟩]
/-- The norms of a block of rows. -/
def normsOf (x0 : Vec F S256x384 .f32) : Vec F S1x1x256 .f32 := View.canon [⟨rS, k0_pay7 (View.ld x0 rE)⟩]
/-- The scores of a block of rows, from the bank's norms and the scaled bank. -/
def scoresOf (x0 : Vec F S256x384 .f32) (y : Vec F S1x16384 .f32) (b : Vec F S16384x384 .bf16) : Vec F S1x1x256 .f32 :=
  View.canon [⟨rS, k0_pay1 (k0_pay5 (View.ld x0 rE)) (k0_pay6 (View.ld x0 rE))
    (k0_pay8 (View.ld x0 rE) (View.ld b rB0) (View.ld y rY0) (View.ld b rB1) (View.ld y rY1))
    (View.ld b rB2) (View.ld y rY2) (View.ld b rB3) (View.ld y rY3)⟩]

theorem cover_S (p : Vec F S1x1x256 .f32) (y : S1x1x256.Idx) : ∃ pc ∈ ([⟨rS, p⟩] : List (View.Piece (Elt F) S1x1x256 .f32)), y ∈ pc.1.set :=
  View.cover_of_tiled [⟨rS, p⟩] S1x1x256.size (by rfl) y
theorem cover_Y (p : Vec F S1x16384 .f32) (y : S1x16384.Idx) : ∃ pc ∈ ([⟨rY, p⟩] : List (View.Piece (Elt F) S1x16384 .f32)), y ∈ pc.1.set :=
  View.cover_of_tiled [⟨rY, p⟩] S1x16384.size (by rfl) y
theorem cover_B (p : Vec F S16384x384 .bf16) (y : S16384x384.Idx) : ∃ pc ∈ ([⟨rM, p⟩] : List (View.Piece (Elt F) S16384x384 .bf16)), y ∈ pc.1.set :=
  View.cover_of_tiled [⟨rM, p⟩] S16384x384.size (by rfl) y

/-! ## The body's triple -/

set_option maxHeartbeats 1000000 in
/-- At a point but the first: the bank's two buffers are read as they are found. -/
theorem later_point (c : Dev nD) (E : Set ℕ) (i : grid0.Coords) (hi : ¬ k0_cond1 i = 1#1)
    (arg1 : Memref sig .tc .vmem S256x384 .f32) (harg1 : arg1.IsWhole)
    (arg2 : Memref sig .tc .vmem S16384x384 .f32) (harg2 : arg2.IsWhole)
    (arg3 : Memref sig .tc .vmem S1x1x256 .f32) (harg3 : arg3.IsWhole)
    (arg4 : Memref sig .tc .vmem S1x1x256 .f32) (harg4 : arg4.IsWhole)
    (arg5 : Memref sig .tc .vmem S1x16384 .f32) (harg5 : arg5.IsWhole)
    (arg6 : Memref sig .tc .vmem S16384x384 .bf16) (harg6 : arg6.IsWhole)
    (x0 : Vec F S256x384 .f32) (x1 : Vec F S16384x384 .f32) (y : Vec F S1x16384 .f32) (b : Vec F S16384x384 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare y ∗ owns (c : Thread nD τ) arg6 fullShare b
        ∗ (iprop(owns (c : Thread nD τ) arg1 fullShare x0 ∗ owns (c : Thread nD τ) arg2 fullShare x1 ∗ owns (c : Thread nD τ) arg3 fullShare (scoresOf x0 y b) ∗ owns (c : Thread nD τ) arg4 fullShare (normsOf x0) ∗ owns (c : Thread nD τ) arg5 fullShare y ∗ owns (c : Thread nD τ) arg6 fullShare b) -∗ K ⟨⟩))
      ⊢ wp frame (wpE (defs₀ (F := F)) Variants.none c none) E (cc0__k1_body i arg1 harg1 arg2 harg2 arg3 harg3 arg4 harg4 arg5 harg5 arg6 harg6) K := by
  simp only [cc0__k1_body_eq_skeleton]; unfold cc0__k1_body_skel
  simp only [k0_part1_eq_skeleton]; unfold k0_part1_skel
  simp only [dif_neg hi]
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0 hf1 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_S _)).trans ?_
    rfl
  isplitl [H3]
  · iexists _; isplitr
    swap; · iexact H3
    ipureintro
    refine (View.read_writes_eq_canon _ _ _ (cover_S _)).trans ?_
    rfl
  isplitl [H4]
  · iexists f4; isplitr; · ipureintro; rfl
    iexact H4
  iexists f5; isplitr; · ipureintro; rfl
  iexact H5

set_option maxHeartbeats 1000000 in
/-- At the first point: the bank's two buffers are stored, then read. -/
theorem first_point (c : Dev nD) (E : Set ℕ) (i : grid0.Coords) (hi : k0_cond1 i = 1#1)
    (arg1 : Memref sig .tc .vmem S256x384 .f32) (harg1 : arg1.IsWhole)
    (arg2 : Memref sig .tc .vmem S16384x384 .f32) (harg2 : arg2.IsWhole)
    (arg3 : Memref sig .tc .vmem S1x1x256 .f32) (harg3 : arg3.IsWhole)
    (arg4 : Memref sig .tc .vmem S1x1x256 .f32) (harg4 : arg4.IsWhole)
    (arg5 : Memref sig .tc .vmem S1x16384 .f32) (harg5 : arg5.IsWhole)
    (arg6 : Memref sig .tc .vmem S16384x384 .bf16) (harg6 : arg6.IsWhole)
    (x0 : Vec F S256x384 .f32) (x1 : Vec F S16384x384 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (scoresOf x0 (bankNorms x1) (bankScaled x1)) ∗ owns (c : Thread nD τ) arg4 fullShare (normsOf x0) ∗ owns (c : Thread nD τ) arg5 fullShare (bankNorms x1) ∗ owns (c : Thread nD τ) arg6 fullShare (bankScaled x1)) -∗ K ⟨⟩))
      ⊢ wp frame (wpE (defs₀ (F := F)) Variants.none c none) E (cc0__k1_body i arg1 harg1 arg2 harg2 arg3 harg3 arg4 harg4 arg5 harg5 arg6 harg6) K := by
  simp only [cc0__k1_body_eq_skeleton]; unfold cc0__k1_body_skel
  simp only [k0_part1_eq_skeleton]; unfold k0_part1_skel
  simp only [dif_pos hi]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  have e4 : arg5.view.read (Elt F) (arg5.view.writes (Elt F) f4 [⟨rY, k0_pay2 (View.ld (arg2.view.read (Elt F) f1) rM)⟩]) = bankNorms (arg2.view.read (Elt F) f1) :=
    View.read_writes_eq_canon _ _ _ (cover_Y _)
  have e5 : arg6.view.read (Elt F) (arg6.view.writes (Elt F) f5 [⟨rM, k0_pay3 (View.ld (arg2.view.read (Elt F) f1) rM)⟩]) = bankScaled (arg2.view.read (Elt F) f1) :=
    View.read_writes_eq_canon _ _ _ (cover_B _)
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_S _)).trans ?_
    have v12 : first_point.sl.v12 c arg2 arg6 f1 = View.ld (bankScaled (arg2.view.read (Elt F) f1)) rB0 :=
      View.readCov_eq_canon_ld _ _ _ (cover_B _)
    have v15 : first_point.sl.v15 c arg2 arg5 f1 = View.ld (bankNorms (arg2.view.read (Elt F) f1)) rY0 :=
      View.readCov_eq_canon_ld _ _ _ (cover_Y _)
    have v23 : first_point.sl.v23 c arg2 arg6 f1 = View.ld (bankScaled (arg2.view.read (Elt F) f1)) rB1 :=
      View.readCov_eq_canon_ld _ _ _ (cover_B _)
    have v26 : first_point.sl.v26 c arg2 arg5 f1 = View.ld (bankNorms (arg2.view.read (Elt F) f1)) rY1 :=
      View.readCov_eq_canon_ld _ _ _ (cover_Y _)
    have v34 : first_point.sl.v34 c arg2 arg6 f1 = View.ld (bankScaled (arg2.view.read (Elt F) f1)) rB2 :=
      View.readCov_eq_canon_ld _ _ _ (cover_B _)
    have v37 : first_point.sl.v37 c arg2 arg5 f1 = View.ld (bankNorms (arg2.view.read (Elt F) f1)) rY2 :=
      View.readCov_eq_canon_ld _ _ _ (cover_Y _)
    have v45 : first_point.sl.v45 c arg2 arg6 f1 = View.ld (bankScaled (arg2.view.read (Elt F) f1)) rB3 :=
      View.readCov_eq_canon_ld _ _ _ (cover_B _)
    have v48 : first_point.sl.v48 c arg2 arg5 f1 = View.ld (bankNorms (arg2.view.read (Elt F) f1)) rY3 :=
      View.readCov_eq_canon_ld _ _ _ (cover_Y _)
    rw [v12, v15, v23, v26, v34, v37, v45, v48]
    rfl
  isplitl [H3]
  · iexists _; isplitr
    swap; · iexact H3
    ipureintro
    refine (View.read_writes_eq_canon _ _ _ (cover_S _)).trans ?_
    rfl
  isplitl [H4]
  · iexists _; isplitr
    swap; · iexact H4
    ipureintro; exact e4
  iexists _; isplitr
  swap; · iexact H5
  ipureintro; exact e5

/-! ## The proof data -/

/-- The bank is the same block at every point. -/
theorem bank_block (c : Dev nD) (t t' : Fin cfg0.N) : iblk0 V c 1 t = iblk0 V c 1 t' := rfl

/-- The proof data of pipeline 0 on core `c`: the arrays as the region finds them (`V`); after the body at
    point `t` each input's buffer at its block and each output's at what is stored; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => scoresOf (iblk0 V c 0 t) (bankNorms (iblk0 V c 1 t)) (bankScaled (iblk0 V c 1 t))
    | ⟨3, _⟩ => normsOf (iblk0 V c 0 t)
    | ⟨4, _⟩ => bankNorms (iblk0 V c 1 t)
    | ⟨5, _⟩ => bankScaled (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = scoresOf (iblk0 V c 0 t) (bankNorms (iblk0 V c 1 t)) (bankScaled (iblk0 V c 1 t)) := by dsimp only [dat0]
theorem after0_3 (c : Dev nD) (t : Fin cfg0.N) : (dat0 V c).after 3 t = normsOf (iblk0 V c 0 t) := by dsimp only [dat0]
theorem after0_4 (c : Dev nD) (t : Fin cfg0.N) : (dat0 V c).after 4 t = bankNorms (iblk0 V c 1 t) := by dsimp only [dat0]
theorem after0_5 (c : Dev nD) (t : Fin cfg0.N) : (dat0 V c).after 5 t = bankScaled (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the bank's norms' buffer holds before a point: anything while it is fresh, the norms afterwards. -/
theorem before0_4 (c : Dev nD) (t : Fin cfg0.N) (d) :
    (dat0 V c).before 4 t d = if cfg0.fresh 4 t.val then d else bankNorms (iblk0 V c 1 t) :=
  ((dat0 V c).before_out_traj 4 rfl (fun _ _ => rfl) (fun t _ _ _ => by rw [after0_4, after0_4, bank_block]) t.val t rfl d).trans
    (by rw [after0_4, bank_block V c _ t])
/-- The scaled bank's buffer likewise. -/
theorem before0_5 (c : Dev nD) (t : Fin cfg0.N) (d) :
    (dat0 V c).before 5 t d = if cfg0.fresh 5 t.val then d else bankScaled (iblk0 V c 1 t) :=
  ((dat0 V c).before_out_traj 5 rfl (fun _ _ => rfl) (fun t _ _ _ => by rw [after0_5, after0_5, bank_block]) t.val t rfl d).trans
    (by rw [after0_5, bank_block V c _ t])

/-- After the first point neither buffer is fresh. -/
theorem notFresh4 : ∀ t : Fin cfg0.N, ¬ k0_cond1 (grid0.coords t) = 1#1 → cfg0.fresh 4 t.val = false := by decide +kernel
theorem notFresh5 : ∀ t : Fin cfg0.N, ¬ k0_cond1 (grid0.coords t) = 1#1 → cfg0.fresh 5 t.val = false := by decide +kernel

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the point's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h : k0_cond1 (grid0.coords t) = 1#1
  · iintro ⟨HΦ, Ho, ⟨%d0, H0⟩, ⟨%d1, H1⟩, ⟨%d2, H2⟩, ⟨%d3, H3⟩, ⟨%d4, H4⟩, ⟨%d5, H5⟩⟩
    iapply (first_point c Set.univ (grid0.coords t) h _ _ _ _ _ _ _ _ _ _ _ _ (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [notFresh4 t h, notFresh5 t h, Bool.false_eq_true, if_false]
    iintro ⟨HΦ, Ho, ⟨%d0, H0⟩, ⟨%d1, H1⟩, ⟨%d2, H2⟩, ⟨%d3, H3⟩, ⟨%d4, H4⟩, ⟨%d5, H5⟩⟩
    iapply (later_point c Set.univ (grid0.coords t) h _ _ _ _ _ _ _ _ _ _ _ _ (iblk0 V c 0 t) (iblk0 V c 1 t) (bankNorms (iblk0 V c 1 t)) (bankScaled (iblk0 V c 1 t)) _)
    isplitl [H0]; · iexact H0
    isplitl [H1]; · iexact H1
    isplitl [H2]; · iexists _; iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- A window the body may leave as found: holding the same contents before and after, it meets the obligation's post. -/
theorem leaves_of {w : Fin cfg0.W} (c : Dev nD) (t : Fin cfg0.N) (x : (cfg0.win w).block.Idx → Elt F (cfg0.win w).elt)
    (ha : (dat0 V c).after w t = x) (hb : ∃ d, (dat0 V c).before w t d = x) :
    (owns (c : Thread nD τ) ((cfg0.win w).stage (cfg0.slots t w)) fullShare x : sProp 𝕄) ⊢
      (match cfg0.idle w (cfg0.grid.coords t) with
        | true =>
          match (cfg0.win w).flush t with
          | false => iprop(∃ d, owns (c : Thread nD τ) ((cfg0.win w).stage (cfg0.slots t w)) fullShare ((dat0 V c).before w t d))
          | true => owns (c : Thread nD τ) ((cfg0.win w).stage (cfg0.slots t w)) fullShare ((dat0 V c).after w t)
        | false => owns (c : Thread nD τ) ((cfg0.win w).stage (cfg0.slots t w)) fullShare ((dat0 V c).after w t)) := by
  obtain ⟨d, hd⟩ := hb
  cases cfg0.idle w (cfg0.grid.coords t)
  · dsimp only; rw [ha]
  · cases (cfg0.win w).flush t
    · iintro H; iexists d; rw [hd]; iexact H
    · dsimp only; rw [ha]

/-- The library's body obligation, at every point. -/
theorem body_obligation0 (c : Dev nD) : BodyObligation (dat0 (F := F) V c) (defs₀ (F := F)) Variants.none () Set.univ := fun t => by
  rw [bigSep_W0, bigSep_W0, defs₀_row0]
  refine triple_restated (sound_body0 V c t) rfl .rfl fun _ => ?_
  unfold bodyPost0
  dsimp only
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (leaves_of V (w := 4) c t ((dat0 V c).after 4 t) rfl ⟨_, (before0_4 V c t _).trans ((ite_self _).trans (after0_4 V c t).symm)⟩)
    iexact H4
  · iapply (leaves_of V (w := 5) c t ((dat0 V c).after 5 t) rfl ⟨_, (before0_5 V c t _).trans ((ite_self _).trans (after0_5 V c t).symm)⟩)
    iexact H5

end Regions

end Cert.KernelIdeal.Run

end
-- ==== Proof.IdealRegion1.lean ====
/-
  The second pallas_call: one point, no grid. Its body loads its eight inputs whole and stores the map in four pieces and
  the four scores.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__k2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4x784 := Rect.unit (s := S4x784) ![0, 0] S4x784.size inb_S4x784_S4x784_0_0
abbrev r1_1 : Rect S3328x384 := Rect.unit (s := S3328x384) ![0, 0] S3328x384.size inb_S3328x384_S3328x384_0_0
abbrev r1_2 : Rect S1x3328 := Rect.unit (s := S1x3328) ![0, 0] S1x3328.size inb_S1x3328_S1x3328_0_0
abbrev r1_3 : Rect S16384x384 := Rect.unit (s := S16384x384) ![0, 0] S16384x384.size inb_S16384x384_S16384x384_0_0
abbrev r1_4 : Rect S1x16384 := Rect.unit (s := S1x16384) ![0, 0] S1x16384.size inb_S1x16384_S1x16384_0_0
abbrev r1_5 : Rect S4x1 := Rect.unit (s := S4x1) ![0, 0] S4x1.size inb_S4x1_S4x1_0_0
abbrev r1_6 : Rect S224x28 := Rect.unit (s := S224x28) ![0, 0] S224x28.size inb_S224x28_S224x28_0_0
abbrev r1_7 : Rect S28x224 := Rect.unit (s := S28x224) ![0, 0] S28x224.size inb_S28x224_S28x224_0_0
abbrev r1_8 : Rect S112x28 := Rect.unit (s := S112x28) ![0, 0] S28x28.size inb_S112x28_S28x28_0_0
abbrev r1_9 : Rect S896x224 := Rect.unit (s := S896x224) ![0, 0] S224x224.size inb_S896x224_S224x224_0_0
abbrev r1_10 : Rect S112x28 := Rect.unit (s := S112x28) ![28, 0] S28x28.size inb_S112x28_S28x28_28_0
abbrev r1_11 : Rect S896x224 := Rect.unit (s := S896x224) ![224, 0] S224x224.size inb_S896x224_S224x224_224_0
abbrev r1_12 : Rect S112x28 := Rect.unit (s := S112x28) ![56, 0] S28x28.size inb_S112x28_S28x28_56_0
abbrev r1_13 : Rect S896x224 := Rect.unit (s := S896x224) ![448, 0] S224x224.size inb_S896x224_S224x224_448_0
abbrev r1_14 : Rect S112x28 := Rect.unit (s := S112x28) ![84, 0] S28x28.size inb_S112x28_S28x28_84_0
abbrev r1_15 : Rect S896x224 := Rect.unit (s := S896x224) ![672, 0] S224x224.size inb_S896x224_S224x224_672_0

/-! ## What the body leaves in each output window's buffer -/

/-! ### Values of the body that the stores' payloads, spelt out, would write more than once

    Each is a vector the body binds (often a part call's result), stated over the input windows' blocks and
    numbered on from the skeleton's payload functions (`k1_pay46` …, after `k1_pay45`), so that
    `out1_W` and the values after it name it instead of spelling it out; the comment after each is the printed function's
    name for the value (a count appended where that name is bound again). -/

def k1_pay46 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x384 .bf16 :=
  k1_pay7 (View.ld x0 r1_0) (View.ld x2 r1_1) -- `v29`
def k1_pay47 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x1 .f32 :=
  k1_pay8 (View.ld x0 r1_0) (View.ld x4 r1_2) -- `v37`
def k1_pay48 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S16384x384 .bf16 :=
  k1_pay9 (View.ld x3 r1_3) -- `v39`
def k1_pay49 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : IVec S4x16384 32 :=
  iota .tc S4x16384 32 [1] iota_S4x16384_d1_w32 -- `v50`
def k1_pay50 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x16384 .f32 :=
  k1_pay12 (k1_pay46 x0 x1 x2 x3 x4 x5 x6 x7) (k1_pay47 x0 x1 x2 x3 x4 x5 x6 x7) (k1_pay48 x0 x1 x2 x3 x4 x5 x6 x7) (View.ld x5 r1_4) -- `v49`
def k1_pay51 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x16384 .f32 :=
  k1_pay13 (k1_pay46 x0 x1 x2 x3 x4 x5 x6 x7) (k1_pay47 x0 x1 x2 x3 x4 x5 x6 x7) (k1_pay48 x0 x1 x2 x3 x4 x5 x6 x7) (View.ld x5 r1_4) -- `v81`
def k1_pay52 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : IVec S4x16384 32 :=
  k1_pay14 (k1_pay46 x0 x1 x2 x3 x4 x5 x6 x7) (k1_pay47 x0 x1 x2 x3 x4 x5 x6 x7) (k1_pay48 x0 x1 x2 x3 x4 x5 x6 x7) (View.ld x5 r1_4) -- `v87`
def k1_pay53 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x16384 .f32 :=
  k1_pay23 (k1_pay49 x0 x1 x2 x3 x4 x5 x6 x7) (k1_pay51 x0 x1 x2 x3 x4 x5 x6 x7) (k1_pay52 x0 x1 x2 x3 x4 x5 x6 x7) -- `v129`
def k1_pay54 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4 .f32 :=
  k1_pay24 (k1_pay49 x0 x1 x2 x3 x4 x5 x6 x7) (k1_pay51 x0 x1 x2 x3 x4 x5 x6 x7) (k1_pay52 x0 x1 x2 x3 x4 x5 x6 x7) -- `v130`
def k1_pay55 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S4x16384 .f32 :=
  k1_pay30 (k1_pay49 x0 x1 x2 x3 x4 x5 x6 x7) (k1_pay53 x0 x1 x2 x3 x4 x5 x6 x7) (k1_pay54 x0 x1 x2 x3 x4 x5 x6 x7) -- `v161`
def k1_pay56 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : IVec S4x16384 1 :=
  k1_pay31 (k1_pay49 x0 x1 x2 x3 x4 x5 x6 x7) (k1_pay53 x0 x1 x2 x3 x4 x5 x6 x7) (k1_pay54 x0 x1 x2 x3 x4 x5 x6 x7) -- `v171`
def k1_pay57 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S224x28 .f32 :=
  k1_pay42 (View.ld x6 r1_6) -- `v239`
def k1_pay58 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : FVec F S28x224 .f32 :=
  k1_pay43 (View.ld x7 r1_7) -- `v241`

/-- Window 8's staging buffer after the body, from the input windows' blocks: its 4 stores as pieces, LAST
    FIRST (Lib/Pipeline/FrameBody.lean `View.canon`; the payloads are the skeleton's and the values stated above). -/
def out1_8 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : Vec F S896x224 .f32 :=
  View.canon [⟨r1_15, k1_pay2 (k1_pay57 x0 x1 x2 x3 x4 x5 x6 x7) (k1_pay58 x0 x1 x2 x3 x4 x5 x6 x7) (View.ld x1 r1_14)⟩,
    ⟨r1_13, k1_pay1 (k1_pay57 x0 x1 x2 x3 x4 x5 x6 x7) (k1_pay58 x0 x1 x2 x3 x4 x5 x6 x7) (View.ld x1 r1_12)⟩,
    ⟨r1_11, k1_pay45 (View.ld x6 r1_6) (View.ld x7 r1_7) (View.ld x1 r1_10)⟩,
    ⟨r1_9, k1_pay44 (View.ld x6 r1_6) (View.ld x7 r1_7) (View.ld x1 r1_8)⟩]

/-- Its stores tile the buffer (checked by evaluation), so they cover it. -/
theorem cover1_8 (p0 : Vec F S224x224 .f32) (p1 : Vec F S224x224 .f32) (p2 : Vec F S224x224 .f32) (p3 : Vec F S224x224 .f32) (y : S896x224.Idx) :
    ∃ pc ∈ ([⟨r1_15, p0⟩, ⟨r1_13, p1⟩, ⟨r1_11, p2⟩, ⟨r1_9, p3⟩] : List (View.Piece (Elt F) S896x224 .f32)), y ∈ pc.1.set :=
  View.cover_of_tiled [⟨r1_15, p0⟩, ⟨r1_13, p1⟩, ⟨r1_11, p2⟩, ⟨r1_9, p3⟩] S224x224.size (by rfl) y

/-- Window 9's staging buffer after the body, from the input windows' blocks: its 1 store as pieces, LAST
    FIRST (Lib/Pipeline/FrameBody.lean `View.canon`; the payloads are the skeleton's and the values stated above). -/
def out1_9 (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) : Vec F S4x1 .f32 :=
  View.canon [⟨r1_5, k1_pay41 (k1_pay5 (View.ld x0 r1_0)) (k1_pay50 x0 x1 x2 x3 x4 x5 x6 x7) (k1_pay49 x0 x1 x2 x3 x4 x5 x6 x7) (k1_pay16 (k1_pay50 x0 x1 x2 x3 x4 x5 x6 x7) (k1_pay49 x0 x1 x2 x3 x4 x5 x6 x7) (k1_pay52 x0 x1 x2 x3 x4 x5 x6 x7)) (k1_pay19 (k1_pay50 x0 x1 x2 x3 x4 x5 x6 x7) (k1_pay49 x0 x1 x2 x3 x4 x5 x6 x7) (k1_pay51 x0 x1 x2 x3 x4 x5 x6 x7) (k1_pay52 x0 x1 x2 x3 x4 x5 x6 x7)) (k1_pay22 (k1_pay50 x0 x1 x2 x3 x4 x5 x6 x7) (k1_pay49 x0 x1 x2 x3 x4 x5 x6 x7) (k1_pay51 x0 x1 x2 x3 x4 x5 x6 x7) (k1_pay52 x0 x1 x2 x3 x4 x5 x6 x7)) (k1_pay26 (k1_pay50 x0 x1 x2 x3 x4 x5 x6 x7) (k1_pay49 x0 x1 x2 x3 x4 x5 x6 x7) (k1_pay53 x0 x1 x2 x3 x4 x5 x6 x7) (k1_pay54 x0 x1 x2 x3 x4 x5 x6 x7)) (k1_pay29 (k1_pay50 x0 x1 x2 x3 x4 x5 x6 x7) (k1_pay49 x0 x1 x2 x3 x4 x5 x6 x7) (k1_pay53 x0 x1 x2 x3 x4 x5 x6 x7) (k1_pay54 x0 x1 x2 x3 x4 x5 x6 x7)) (k1_pay33 (k1_pay32 (k1_pay50 x0 x1 x2 x3 x4 x5 x6 x7) (k1_pay49 x0 x1 x2 x3 x4 x5 x6 x7) (k1_pay53 x0 x1 x2 x3 x4 x5 x6 x7) (k1_pay54 x0 x1 x2 x3 x4 x5 x6 x7))) (k1_pay36 (k1_pay50 x0 x1 x2 x3 x4 x5 x6 x7) (k1_pay49 x0 x1 x2 x3 x4 x5 x6 x7) (k1_pay55 x0 x1 x2 x3 x4 x5 x6 x7) (k1_pay56 x0 x1 x2 x3 x4 x5 x6 x7)) (k1_pay39 (k1_pay50 x0 x1 x2 x3 x4 x5 x6 x7) (k1_pay49 x0 x1 x2 x3 x4 x5 x6 x7) (k1_pay55 x0 x1 x2 x3 x4 x5 x6 x7) (k1_pay56 x0 x1 x2 x3 x4 x5 x6 x7)) (k1_pay40 (k1_pay49 x0 x1 x2 x3 x4 x5 x6 x7) (k1_pay55 x0 x1 x2 x3 x4 x5 x6 x7) (k1_pay56 x0 x1 x2 x3 x4 x5 x6 x7))⟩]

/-- Its stores tile the buffer (checked by evaluation), so they cover it. -/
theorem cover1_9 (p0 : Vec F S4x1 .f32) (y : S4x1.Idx) :
    ∃ pc ∈ ([⟨r1_5, p0⟩] : List (View.Piece (Elt F) S4x1 .f32)), y ∈ pc.1.set :=
  View.cover_of_tiled [⟨r1_5, p0⟩] S4x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S4x784 .f32) (harg0 : arg0.IsWhole) (arg1 : Memref sig .tc .vmem S112x28 .f32) (harg1 : arg1.IsWhole) (arg2 : Memref sig .tc .vmem S3328x384 .f32) (harg2 : arg2.IsWhole) (arg3 : Memref sig .tc .vmem S16384x384 .bf16) (harg3 : arg3.IsWhole) (arg4 : Memref sig .tc .vmem S1x3328 .f32) (harg4 : arg4.IsWhole) (arg5 : Memref sig .tc .vmem S1x16384 .f32) (harg5 : arg5.IsWhole) (arg6 : Memref sig .tc .vmem S224x28 .f32) (harg6 : arg6.IsWhole) (arg7 : Memref sig .tc .vmem S28x224 .f32) (harg7 : arg7.IsWhole) (arg8 : Memref sig .tc .vmem S896x224 .f32) (harg8 : arg8.IsWhole) (arg9 : Memref sig .tc .vmem S4x1 .f32) (harg9 : arg9.IsWhole)
    (x0 : Vec F S4x784 .f32) (x1 : Vec F S112x28 .f32) (x2 : Vec F S3328x384 .f32) (x3 : Vec F S16384x384 .bf16) (x4 : Vec F S1x3328 .f32) (x5 : Vec F S1x16384 .f32) (x6 : Vec F S224x28 .f32) (x7 : Vec F S28x224 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7) ∗ owns (c : Thread nD τ) arg9 fullShare (out1_9 x0 x1 x2 x3 x4 x5 x6 x7)) -∗ K ⟨⟩))
      ⊢ wp frame (wpE (defs₀ (F := F)) Variants.none c none) E (cc1__k2_body arg0 harg0 arg1 harg1 arg2 harg2 arg3 harg3 arg4 harg4 arg5 harg5 arg6 harg6 arg7 harg7 arg8 harg8 arg9 harg9) K := by
  simp only [cc1__k2_body_eq_skeleton]; unfold cc1__k2_body_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _ _ _ _)).trans ?_
    rfl
  iexists _; isplitr
  swap; · iexact H9
  ipureintro
  refine (View.read_writes_eq_canon _ _ _ (cover1_9 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.IdealRun.lean ====
/-
  The whole run: host operations and the two calls in turn, the contents of every buffer at each boundary.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealRegion0
public import proofs.«01_k».proof.Proof.IdealRegion1
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_c, main_call0_cst, main_call0_c_0, main_call0_cst_1, main_call0_cst_2, main_call0_c_3, main_call0_call0_v0, main_call0_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v2, main_call0_v3, main_call0_v4, main_call0_v5, main_call0_v6, main_call0_v7, main_call0_v8, main_call0_v9, main_call0_v10, main_call0_v11, main_call0_cst_4, main_call0_call1_v0, main_call0_call1_v1, main_call0_call1_v2, main_call0_v12, main_call0_v13, main_call0_v14, main_call0_v15, main_call0_v16, main_call0_cst_5, main_call0_call2_v0, main_call0_call2_v1, main_call0_call2_v2, main_call0_v17, main_call0_v18, main_call0_v19, main_call0_v20, main_call0_v21, main_call0_v22, main_call0_c_6, main_call0_v23, main_call0_v24, main_call0_v25, main_call0_v26, main_call0_cst_7, main_call0_call3_v0, main_call0_call3_v1, main_call0_call3_v2, main_call0_v27, main_call0_cst_8, main_call0_v28, main_call0_v29, main_call0_v30, main_call0_v31, main_call0_v32, main_call0_v33, main_call0_cst_9, main_call0_v34, main_call0_v35]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v0_0, main_v0_1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main on the TensorCores terminates, nothing
    faulting; every unscoped buffer ends at the last boundary's contents, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W5_main_arg0 m ρ c),
     (h.1 c _ (mem_uc main_arg1 (by decide))).trans (W5_main_arg1 m ρ c)⟩, h.2⟩) (run m ρ)

/-- The run with the result read: what the last boundary holds in it, the arguments as launched. -/
theorem result : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h.1 c _ (mem_uc main_v0_0 (by decide)),
     h.1 c _ (mem_uc main_v0_1 (by decide)),
     (h.1 c _ (mem_uc main_arg0 (by decide))).trans (W5_main_arg0 m ρ c),
     (h.1 c _ (mem_uc main_arg1 (by decide))).trans (W5_main_arg1 m ρ c)⟩) (run m ρ)

end Cert.KernelIdeal.Run

end
-- ==== Proof.KernelTerm.lean ====
/-
  What the kernel's host operations compute, as terms: the padded rows, the interpolation-and-blur matrix, the score image;
  and where each operand of the two launched bodies comes from.
-/
module

public import proofs.«01_k».proof.Proof.IdealRun
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo

/-- The rows padded to 3328 by zeros. -/
def padRows (x : FVec Ideal S3136x384 .f32) : FVec Ideal S3328x384 .f32 :=
  pad S3328x384 ![0, 0] ![192, 0] ![0, 0] x (sitofp .f32 (constantI S_ 32 0#32)) pads_S3136x384_S3328x384_01920_000 h_S_

/-- The two tables of interpolation neighbours, -/
def near0 : IVec S224 32 := fun i => lit0 (S224.rowMajor i)
def near1 : IVec S224 32 := fun i => lit2 (S224.rowMajor i)
/-- the two tables of their weights, -/
def weight0 : FVec Ideal S224 .f32 := fun i => FloatOps.ofBits .f32 (lit1 (S224.rowMajor i))
def weight1 : FVec Ideal S224 .f32 := fun i => FloatOps.ofBits .f32 (lit3 (S224.rowMajor i))
/-- and the 33 taps of the blur. -/
def taps : FVec Ideal S33 .f32 := fun i => FloatOps.ofBits .f32 (lit4 (S33.rowMajor i))

/-- One table of weights placed at its neighbours. -/
def placed (n : IVec S224 32) (w : FVec Ideal S224 .f32) : FVec Ideal S224x28 .f32 :=
  select (cmpi .eq (iotaInDim S224x28 32 1) (broadcastInDim S224x28 ![0, 1] bcast_S224x1_S224x28_0_1 (broadcastInDim S224x1 ![0] bcast_S224_S224x1_0 n)))
    (broadcastInDim S224x28 ![0, 1] bcast_S224x1_S224x28_0_1 (broadcastInDim S224x1 ![0] bcast_S224_S224x1_0 w))
    (broadcastInDim S224x28 ![] bcast_S_S224x28 (id (constant S_ .f32 0x00000000#32)))

/-- The interpolation matrix, -/
def interp : FVec Ideal S224x28 .f32 := addf (placed near0 weight0) (placed near1 weight1)

/-- the blur matrix, -/
def blur : FVec Ideal S224x224 .f32 :=
  Host.reduceAdd (select (cmpi .eq (addi (iotaInDim S224x33x224 32 0) (iotaInDim S224x33x224 32 1)) (addi (iotaInDim S224x33x224 32 2) (broadcastInDim S224x33x224 ![] bcast_S_S224x33x224 (constantI S_ 32 16#32))))
    (broadcastInDim S224x33x224 ![0, 1, 2] bcast_S1x33x1_S224x33x224_0_1_2 (broadcastInDim S1x33x1 ![1] bcast_S33_S1x33x1_1 taps))
    (broadcastInDim S224x33x224 ![] bcast_S_S224x33x224 (id (constant S_ .f32 0x00000000#32))))
    (constant S_ .f32 0x00000000#32) reducesTo_S224x33x224_S224x224_d1 h_S_

/-- and their product. -/
def both : FVec Ideal S224x28 .f32 :=
  Host.reduceAdd (mulf (broadcastInDim S224x224x28 ![0, 1, 2] bcast_S224x224x1_S224x224x28_0_1_2 (broadcastInDim S224x224x1 ![0, 1] bcast_S224x224_S224x224x1_0_1 blur))
    (broadcastInDim S224x224x28 ![0, 1, 2] bcast_S1x224x28_S224x224x28_0_1_2 (broadcastInDim S1x224x28 ![1, 2] bcast_S224x28_S1x224x28_1_2 interp)))
    (constant S_ .f32 0x00000000#32) reducesTo_S224x224x28_S224x28_d1 h_S_

/-- The scores as the first body leaves them, cut back to the 3136 rows and laid out as four images. -/
def image (s : FVec Ideal S13x1x256 .f32) : FVec Ideal S112x28 .f32 :=
  shapeCast S112x28 (extractStridedSlice S3136 ![0] (shapeCast S3328 s shapeCasts_S13x1x256_S3328) slices_S3328_S3136_0) shapeCasts_S3136_S112x28

/-- The 3136 scores, an image to a row; and the squared lengths, all in one. -/
def imageRows (s : FVec Ideal S13x1x256 .f32) : FVec Ideal S4x784 .f32 :=
  shapeCast S4x784 (extractStridedSlice S3136 ![0] (shapeCast S3328 s shapeCasts_S13x1x256_S3328) slices_S3328_S3136_0) shapeCasts_S3136_S4x784
def oneRow (s : FVec Ideal S13x1x256 .f32) : FVec Ideal S1x3328 .f32 := shapeCast S1x3328 s shapeCasts_S13x1x256_S1x3328

variable (m : (ℓ : Loc nD τ sig) → Buf (Elt Ideal) ℓ) (ρ : Dev nD → PrngReg) (c : Dev nD)

theorem V1_pad : V1 m ρ c main_call0_v0 = padRows (m ((c.tc : Thread nD τ).loc main_arg0)) := by
  show StableHlo.after hostOps0 (W0 m ρ c) (Proc.devRef .tc main_call0_v0) = _
  entry_read
  rfl

theorem V1_bank : V1 m ρ c main_arg1 = m ((c.tc : Thread nD τ).loc main_arg1) :=
  W1_args m ρ c main_arg1 (by decide)

theorem W2_c : W2 m ρ c (Proc.devRef .tc main_call0_c) = near0 := by
  rw [W2_of_ne m ρ c main_call0_c (by decide)]
  show StableHlo.after hostOps0 (W0 m ρ c) (Proc.devRef .tc main_call0_c) = _
  entry_read
  rfl
theorem W2_cst : W2 m ρ c (Proc.devRef .tc main_call0_cst) = weight0 := by
  rw [W2_of_ne m ρ c main_call0_cst (by decide)]
  show StableHlo.after hostOps0 (W0 m ρ c) (Proc.devRef .tc main_call0_cst) = _
  entry_read
  rfl
theorem W2_c_0 : W2 m ρ c (Proc.devRef .tc main_call0_c_0) = near1 := by
  rw [W2_of_ne m ρ c main_call0_c_0 (by decide)]
  show StableHlo.after hostOps0 (W0 m ρ c) (Proc.devRef .tc main_call0_c_0) = _
  entry_read
  rfl
theorem W2_cst_1 : W2 m ρ c (Proc.devRef .tc main_call0_cst_1) = weight1 := by
  rw [W2_of_ne m ρ c main_call0_cst_1 (by decide)]
  show StableHlo.after hostOps0 (W0 m ρ c) (Proc.devRef .tc main_call0_cst_1) = _
  entry_read
  rfl
theorem W2_cst_2 : W2 m ρ c (Proc.devRef .tc main_call0_cst_2) = taps := by
  rw [W2_of_ne m ρ c main_call0_cst_2 (by decide)]
  show StableHlo.after hostOps0 (W0 m ρ c) (Proc.devRef .tc main_call0_cst_2) = _
  entry_read
  rfl

theorem V3_both : V3 m ρ c main_call0_v34 = both := by
  show StableHlo.after hostOps1 (W2 m ρ c) (Proc.devRef .tc main_call0_v34) = _
  entry_read
  rw [W2_c, W2_cst, W2_c_0, W2_cst_1, W2_cst_2]
  rfl
theorem V3_bothT : V3 m ρ c main_call0_v35 = transpose S28x224 [1, 0] both transposes_S224x28_S28x224_1_0 := by
  show StableHlo.after hostOps1 (W2 m ρ c) (Proc.devRef .tc main_call0_v35) = _
  entry_read
  rw [W2_c, W2_cst, W2_c_0, W2_cst_1, W2_cst_2]
  rfl
theorem V3_image : V3 m ρ c main_call0_v6 = image ((dat0 (V1 m ρ) c).arrAt 2 cfg0.N) := by
  rw [← show W2 m ρ c (Proc.devRef .tc main_call0_v1_0) = (dat0 (V1 m ρ) c).arrAt 2 cfg0.N from W2_arr m ρ c 2]
  show StableHlo.after hostOps1 (W2 m ρ c) (Proc.devRef .tc main_call0_v6) = _
  entry_read
  rfl
theorem V3_rows : V3 m ρ c main_call0_v5 = imageRows ((dat0 (V1 m ρ) c).arrAt 2 cfg0.N) := by
  rw [← show W2 m ρ c (Proc.devRef .tc main_call0_v1_0) = (dat0 (V1 m ρ) c).arrAt 2 cfg0.N from W2_arr m ρ c 2]
  show StableHlo.after hostOps1 (W2 m ρ c) (Proc.devRef .tc main_call0_v5) = _
  entry_read
  rfl
theorem V3_norms : V3 m ρ c main_call0_v4 = oneRow ((dat0 (V1 m ρ) c).arrAt 3 cfg0.N) := by
  rw [← show W2 m ρ c (Proc.devRef .tc main_call0_v1_1) = (dat0 (V1 m ρ) c).arrAt 3 cfg0.N from W2_arr m ρ c 3]
  show StableHlo.after hostOps1 (W2 m ρ c) (Proc.devRef .tc main_call0_v4) = _
  entry_read
  rfl
theorem V3_bankNorms : V3 m ρ c main_call0_v1_2 = (dat0 (V1 m ρ) c).arrAt 4 cfg0.N := by
  rw [← show W2 m ρ c (Proc.devRef .tc main_call0_v1_2) = (dat0 (V1 m ρ) c).arrAt 4 cfg0.N from W2_arr m ρ c 4]
  show StableHlo.after hostOps1 (W2 m ρ c) (Proc.devRef .tc main_call0_v1_2) = _
  entry_read
  rfl
theorem V3_bankScaled : V3 m ρ c main_call0_v1_3 = (dat0 (V1 m ρ) c).arrAt 5 cfg0.N := by
  rw [← show W2 m ρ c (Proc.devRef .tc main_call0_v1_3) = (dat0 (V1 m ρ) c).arrAt 5 cfg0.N from W2_arr m ρ c 5]
  show StableHlo.after hostOps1 (W2 m ρ c) (Proc.devRef .tc main_call0_v1_3) = _
  entry_read
  rfl
theorem V3_pad : V3 m ρ c main_call0_v0 = padRows (m ((c.tc : Thread nD τ).loc main_arg0)) := by
  rw [← V1_pad m ρ c, ← show W2 m ρ c (Proc.devRef .tc main_call0_v0) = V1 m ρ c main_call0_v0 from
    W2_of m ρ c main_call0_v0 (by decide)]
  show StableHlo.after hostOps1 (W2 m ρ c) (Proc.devRef .tc main_call0_v0) = _
  entry_read
  rfl
theorem W5_out : W5 m ρ c (Proc.devRef .tc main_v0_0) = shapeCast S4x1x224x224 ((dat1 (V3 m ρ) c).arrAt 8 cfg1.N) shapeCasts_S896x224_S4x1x224x224 := by
  rw [← show W4 m ρ c (Proc.devRef .tc main_call0_v36_0) = (dat1 (V3 m ρ) c).arrAt 8 cfg1.N from W4_arr m ρ c 8]
  show StableHlo.after hostOps2 (W4 m ρ c) (Proc.devRef .tc main_v0_0) = _
  entry_read
  rfl
theorem W5_pred : W5 m ρ c (Proc.devRef .tc main_v0_1) = shapeCast S4 ((dat1 (V3 m ρ) c).arrAt 9 cfg1.N) shapeCasts_S4x1_S4 := by
  rw [← show W4 m ρ c (Proc.devRef .tc main_call0_v36_1) = (dat1 (V3 m ρ) c).arrAt 9 cfg1.N from W4_arr m ρ c 9]
  show StableHlo.after hostOps2 (W4 m ρ c) (Proc.devRef .tc main_v0_1) = _
  entry_read
  rfl

end Cert.KernelIdeal.Run

end
-- ==== Proof.Score.lean ====
/-
  The patch score, over the extended reals: the least of the distances, and the root taken once after the least rather than
  at every distance.
-/
module

public import Idealize.ShloMosaic.Lib.Pointwise
public import Idealize.ShloMosaic.Lib.IdealHost

@[expose] public section

set_option maxRecDepth 16384

noncomputable section

namespace Cert.Maths

open Finset Idealize.ShloMosaic

theorem ofBits_top : Ideal.ofBits .f32 0x7F800000#32 = ⊤ := by simp [Ideal.ofBits, Ideal.ieee]

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul, -EReal.coe_neg]; norm_num

/-- The root of the part above zero. -/
def root (a : EReal) : EReal := Ideal.sqrt (max a 0)

theorem root_coe (a : ℝ) : root (a : EReal) = ((√(max a 0) : ℝ) : EReal) := by
  unfold root
  rw [show max (a : EReal) 0 = ((max a 0 : ℝ) : EReal) from (EReal.coe_strictMono.monotone.map_max (a := a) (b := 0)).symm,
    Ideal.sqrt_coe, if_neg (not_lt.mpr (le_max_right a 0))]

theorem root_top : root ⊤ = ⊤ := by
  unfold root
  rw [max_eq_left le_top]
  rfl

theorem root_mono : Monotone root := by
  intro a b h
  induction a with
  | bot =>
    have e : root ⊥ = 0 := by
      unfold root
      rw [max_eq_right bot_le, show (0 : EReal) = ((0 : ℝ) : EReal) from rfl, Ideal.sqrt_coe]
      simp
    rw [e]
    induction b with
    | bot => rw [e]
    | top => rw [root_top]; exact le_top
    | coe b => rw [root_coe]; exact_mod_cast Real.sqrt_nonneg _
  | top => rw [top_le_iff.mp h]
  | coe a =>
    induction b with
    | bot => exact absurd h (by simp)
    | top => rw [root_top]; exact le_top
    | coe b =>
      rw [root_coe, root_coe]
      have : a ≤ b := by exact_mod_cast h
      exact_mod_cast Real.sqrt_le_sqrt (max_le_max_right 0 this)

/-- The least of a list of extended reals. -/
def least {n : ℕ} (f : Fin n → EReal) : EReal := Finset.fold min ⊤ f univ

theorem least_le {n : ℕ} (f : Fin n → EReal) (j : Fin n) : least f ≤ f j :=
  (Finset.le_fold_min _).mp le_rfl |>.2 j (mem_univ j)

theorem le_least {n : ℕ} (f : Fin n → EReal) (c : EReal) (h : ∀ j, c ≤ f j) : c ≤ least f :=
  (Finset.le_fold_min _).mpr ⟨le_top, fun j _ => h j⟩

/-- A monotone map that keeps the top passes through the least. -/
theorem map_least {n : ℕ} (f : Fin n → EReal) (φ : EReal → EReal) (hm : Monotone φ) (ht : φ ⊤ = ⊤) :
    φ (least f) = least fun j => φ (f j) := by
  have h := Finset.fold_hom (op := min) (op' := min) (m := φ) (b := ⊤) (f := f) (s := univ) (fun x y => hm.map_min)
  rw [ht] at h
  exact h.symm

/-- The least of reals, one at least, is a real. -/
theorem least_real {n : ℕ} (hn : 0 < n) (f : Fin n → ℝ) : ∃ r : ℝ, least (fun j => (f j : EReal)) = (r : EReal) := by
  have h1 : least (fun j => (f j : EReal)) ≠ ⊤ := fun e => by
    have := least_le (fun j => (f j : EReal)) ⟨0, hn⟩
    rw [e] at this
    simp at this
  have h2 : least (fun j => (f j : EReal)) ≠ ⊥ := fun e => by
    haveI : Nonempty (Fin n) := ⟨⟨0, hn⟩⟩
    obtain ⟨m, hm⟩ := Finite.exists_min f
    have := le_least (fun j => (f j : EReal)) (f m : EReal) fun j => by exact_mod_cast hm j
    rw [e] at this
    simp at this
  exact ⟨_, (EReal.coe_toReal h1 h2).symm⟩

/-- The least over 16384, taken 4096 at a time. -/
theorem least_chunks (f : Fin 16384 → EReal) :
    min (min (min (min ⊤ (least fun k : Fin 4096 => f ⟨k.val, by omega⟩)) (least fun k : Fin 4096 => f ⟨4096 + k.val, by omega⟩))
      (least fun k : Fin 4096 => f ⟨8192 + k.val, by omega⟩)) (least fun k : Fin 4096 => f ⟨12288 + k.val, by omega⟩) = least f := by
  apply le_antisymm
  · refine le_least _ _ fun j => ?_
    have hj := j.isLt
    rcases lt_or_ge j.val 4096 with h | h
    · exact (min_le_left _ _).trans ((min_le_left _ _).trans ((min_le_left _ _).trans ((min_le_right _ _).trans (least_le _ ⟨j.val, h⟩))))
    rcases lt_or_ge j.val 8192 with h' | h'
    · exact (min_le_left _ _).trans ((min_le_left _ _).trans ((min_le_right _ _).trans ((least_le _ ⟨j.val - 4096, by omega⟩).trans (le_of_eq (congrArg f (Fin.ext (Nat.add_sub_of_le ‹_›)))))))
    rcases lt_or_ge j.val 12288 with h'' | h''
    · exact (min_le_left _ _).trans ((min_le_right _ _).trans ((least_le _ ⟨j.val - 8192, by omega⟩).trans (le_of_eq (congrArg f (Fin.ext (Nat.add_sub_of_le ‹_›))))))
    · exact (min_le_right _ _).trans ((least_le _ ⟨j.val - 12288, by omega⟩).trans (le_of_eq (congrArg f (Fin.ext (Nat.add_sub_of_le ‹_›)))))
  · refine le_min (le_min (le_min (le_min le_top ?_) ?_) ?_) ?_ <;> exact le_least _ _ fun k => least_le f _

/-- A real sum, summed in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- A sum of real products is the real sum. -/
theorem sum_mul_coe {n : ℕ} (a b : Fin n → ℝ) : ∑ k, (a k : EReal) * (b k : EReal) = ((∑ k, a k * b k : ℝ) : EReal) := by
  rw [coe_sum]
  exact sum_congr rfl fun k _ => (EReal.coe_mul _ _).symm

/-- The squared distance of two rows. -/
def dist2 (x b : Fin 384 → ℝ) : ℝ := ∑ k, x k * x k - 2 * ∑ k, x k * b k + ∑ k, b k * b k

/-- The score as the plain definition has it: the root at every distance, then the least. -/
def score (x : Fin 384 → EReal) (B : Fin 16384 → Fin 384 → EReal) : EReal :=
  least fun j => root (∑ k, x k * x k - ((2 : ℝ) : EReal) * ∑ k, x k * B j k + ∑ k, B j k * B j k)

theorem score_coe (x : Fin 384 → ℝ) (B : Fin 16384 → Fin 384 → ℝ) :
    score (fun k => (x k : EReal)) (fun j k => (B j k : EReal)) = least fun j => ((√(max (dist2 x (B j)) 0) : ℝ) : EReal) := by
  refine congrArg least (funext fun j => ?_)
  rw [sum_mul_coe, sum_mul_coe, sum_mul_coe, ← EReal.coe_mul, ← EReal.coe_sub, ← EReal.coe_add, root_coe]
  rfl

/-- Of finite rows the score is finite. -/
theorem score_real (x : Fin 384 → ℝ) (B : Fin 16384 → Fin 384 → ℝ) :
    ∃ r : ℝ, score (fun k => (x k : EReal)) (fun j k => (B j k : EReal)) = (r : EReal) := by
  rw [score_coe]
  exact least_real (by norm_num) _

/-- The score with the row's own norm added, and the root taken, after the least. -/
theorem score_late (x : Fin 384 → ℝ) (B : Fin 16384 → Fin 384 → ℝ) :
    root ((least fun j => ∑ k, (x k : EReal) * (((-2 : ℝ) : EReal) * (B j k : EReal)) + ∑ k, (B j k : EReal) * (B j k : EReal)) + ∑ k, (x k : EReal) * (x k : EReal))
      = score (fun k => (x k : EReal)) (fun j k => (B j k : EReal)) := by
  rw [score_coe, sum_mul_coe]
  have h := map_least (fun j => ∑ k, (x k : EReal) * (((-2 : ℝ) : EReal) * (B j k : EReal)) + ∑ k, (B j k : EReal) * (B j k : EReal))
    (fun a => root (a + ((∑ k, x k * x k : ℝ) : EReal))) (fun a b h => root_mono (add_le_add_left h _)) (by rw [EReal.top_add_coe, root_top])
  refine h.trans (congrArg least (funext fun j => ?_))
  show root (_ + _ + _) = _
  have e : ∀ k, (x k : EReal) * (((-2 : ℝ) : EReal) * (B j k : EReal)) = (x k : EReal) * ((-2 * B j k : ℝ) : EReal) := fun k => by rw [EReal.coe_mul]
  simp only [e]
  rw [sum_mul_coe, sum_mul_coe, ← EReal.coe_add, ← EReal.coe_add, root_coe]
  have : ∑ k, x k * (-2 * B j k) = -2 * ∑ k, x k * B j k := by
    rw [mul_sum]; exact sum_congr rfl fun k _ => by ring
  rw [this]
  refine congrArg (fun t : ℝ => ((√(max t 0) : ℝ) : EReal)) ?_
  unfold dist2
  ring

end Cert.Maths

end
-- ==== Proof.KernelBlock.lean ====
/-
  One block's scores in the first body.
-/
module

public import proofs.«01_k».proof.Proof.KernelTerm
public import proofs.«01_k».proof.Proof.Score

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo
open Idealize.ShloMosaic.Pipeline (Dat)

/-- The norms of the bank's rows, -/
theorem bankNorms_apply (x : FVec Ideal S16384x384 .f32) (j : Fin 16384) :
    (bankNorms (F := Ideal) x : FVec Ideal S1x16384 .f32) (ix2 0 j) = ∑ k, x (ix2 j k) * x (ix2 j k) := by
  unfold bankNorms rY rM
  rw [View.canon_cons_unit_lit _ _ _ (by decide)]
  pointwise [k0_pay2]

/-- and its entries times −2. -/
theorem bankScaled_apply (x : FVec Ideal S16384x384 .f32) (j : Fin 16384) (k : Fin 384) :
    (bankScaled (F := Ideal) x : FVec Ideal S16384x384 .bf16) (ix2 j k) = ((-2 : ℝ) : EReal) * x (ix2 j k) := by
  unfold bankScaled rM
  rw [View.canon_cons_unit_lit _ _ _ (by decide)]
  pointwise [k0_pay3]
  rw [ofBits_neg_two]

/-- One block's scores: the least over the bank, the row's own norm added and the root taken at the end. -/
theorem scoresOf_apply (x : FVec Ideal S256x384 .f32) (y : FVec Ideal S1x16384 .f32) (b : FVec Ideal S16384x384 .bf16) (j : Fin 256) :
    (scoresOf (F := Ideal) x y b : FVec Ideal S1x1x256 .f32) (ix3 0 0 j)
      = root (least (fun l : Fin 16384 => ∑ k, x (ix2 j k) * b (ix2 l k) + y (ix2 0 l)) + ∑ k, x (ix2 j k) * x (ix2 j k)) := by
  rw [← least_chunks]
  unfold scoresOf rS rE rB0 rB1 rB2 rB3 rY0 rY1 rY2 rY3
  rw [View.canon_cons_unit_lit _ _ _ (by decide)]
  pointwise [k0_pay1, k0_pay5, k0_pay6, k0_pay8, k0_pay4]
  rw [ofBits_top]
  rfl

/-- A row's score with the root taken after the least. -/
def lateScore (x : Fin 384 → EReal) (B : Fin 16384 → Fin 384 → EReal) : EReal :=
  root ((least fun j => ∑ k, x k * (((-2 : ℝ) : EReal) * B j k) + ∑ k, B j k * B j k) + ∑ k, x k * x k)

theorem scoresOf_bank (x : FVec Ideal S256x384 .f32) (B : FVec Ideal S16384x384 .f32) (j : Fin 256) :
    (scoresOf (F := Ideal) x (bankNorms (F := Ideal) B) (bankScaled (F := Ideal) B) : FVec Ideal S1x1x256 .f32) (ix3 0 0 j)
      = lateScore (fun k => x (ix2 j k)) (fun l k => B (ix2 l k)) := by
  rw [scoresOf_apply]
  simp only [bankNorms_apply, bankScaled_apply]
  rfl

end Cert.KernelIdeal.Run

end
-- ==== Proof.KernelScore.lean ====
/-
  The first body's scores: the array the grid leaves.
-/
module

public import proofs.«01_k».proof.Proof.KernelBlock

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo
open Idealize.ShloMosaic.Pipeline (Dat)

/-- The scores of all blocks of the padded rows. -/
def allScores (P : FVec Ideal S3328x384 .f32) (B : FVec Ideal S16384x384 .f32) : FVec Ideal S13x1x256 .f32 :=
  fun y => lateScore (fun k => P (ix2 ⟨256 * (y 0).val + (y 2).val, by
    have h0 : (y 0).val < 13 := (y 0).isLt
    have h2 : (y 2).val < 256 := (y 2).isLt
    omega⟩ k)) (fun l k => B (ix2 l k))

theorem idx0 : ∀ t : Fin cfg0.N, win0_0.index t = ![t.val, 0] ∧ win0_1.index t = ![0, 0] ∧ win0_2.index t = ![t.val, 0, 0] :=
  (by decide +kernel : ∀ t : Fin grid0.N, _)

variable (V : (c : Dev nD) → (b : Ref sig .tc) → Buf (Elt Ideal) ((c : Thread nD τ).loc b)) (c : Dev nD)

theorem blockRows (t : Fin cfg0.N) (j : Fin 256) (k : Fin 384) (h : 256 * t.val + j.val < 3328) :
    (iblk0 V c 0 t : FVec Ideal S256x384 .f32) (ix2 j k) = (V c main_call0_v0 : FVec Ideal S3328x384 .f32) (ix2 ⟨256 * t.val + j.val, h⟩ k) := by
  blk_simp [iblk0, idx0 t]
  blk_ext [iblk0, idx0 t]

theorem blockBank (t : Fin cfg0.N) :
    (iblk0 V c 1 t : FVec Ideal S16384x384 .f32) = (V c main_arg1 : FVec Ideal S16384x384 .f32) := by
  funext y
  idx_vars y
  blk_simp [iblk0, idx0 t]
  blk_ext [iblk0, idx0 t]

theorem scores_final : (dat0 V c).arrAt 2 cfg0.N = allScores (V c main_call0_v0) (V c main_arg1) := by
  refine (dat0 V c).arrAt_eq_of_covers 2 _ (by decide +kernel) fun t _ y => ?_
  idx_vars y
  blk_simp [idx0 t]
  rw [after0_2, blockBank]
  obtain rfl : y0 = 0 := Subsingleton.elim _ _
  obtain rfl : y1 = 0 := Subsingleton.elim _ _
  have ht : t.val < 13 := t.isLt
  have e : (win0_2.blk t).view.emb (ix3 0 0 y2) = ix3 ⟨t.val, ht⟩ 0 y2 := by blk_ext [idx0 t]
  rw [e]
  refine (scoresOf_bank _ _ _).trans (congrArg (fun f => lateScore f _) (funext fun k => ?_))
  exact blockRows V c t y2 k _

/-- The array's score at row `n`. -/
theorem image_apply (P : FVec Ideal S3328x384 .f32) (B : FVec Ideal S16384x384 .f32) (b : Fin 4) (p q : Fin 28) (n : Fin 3136)
    (hn : n.val = b.val * 784 + p.val * 28 + q.val) :
    image (allScores P B) (ix2 ⟨28 * b.val + p.val, by omega⟩ q) = lateScore (fun k => P (ix2 ⟨n.val, by omega⟩ k)) (fun l k => B (ix2 l k)) := by
  pointwise [image]
  refine congrArg (fun f => lateScore f _) (funext fun k => congrArg (fun a => P (ix2 a k)) (Fin.ext ?_))
  show 256 * (((28 * b.val + p.val) * 28 + q.val) / 256) + ((28 * b.val + p.val) * 28 + q.val) % 256 = n.val
  omega

theorem padRows_apply (x : FVec Ideal S3136x384 .f32) (n : Fin 3136) (k : Fin 384) :
    padRows x (ix2 ⟨n.val, by omega⟩ k) = x (ix2 n k) := by
  pointwise [padRows]

end Cert.KernelIdeal.Run

end
-- ==== Proof.KernelMap.lean ====
/-
  The second body's map: what its four row pieces hold, and the result the launch leaves.
-/
module

public import proofs.«01_k».proof.Proof.KernelTerm

@[expose] public section

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.Pipeline (Dat)

/-- The four images, each between the matrix and its transpose, one under the other. -/
def maps (s : FVec Ideal S112x28 .f32) (l : FVec Ideal S224x28 .f32) (r : FVec Ideal S28x224 .f32) : FVec Ideal S896x224 .f32 :=
  fun y => ∑ q : Fin 28, (∑ p : Fin 28, l (ix2 ⟨(y 0).val % 224, Nat.mod_lt _ (by norm_num)⟩ p)
    * s (ix2 ⟨28 * ((y 0).val / 224) + p.val, by have h : (y 0).val < 896 := (y 0).isLt; omega⟩ q)) * r (ix2 q ⟨(y 1).val, (y 1).isLt⟩)

theorem out1_8_eq (x0 : FVec Ideal S4x784 .f32) (x1 : FVec Ideal S112x28 .f32) (x2 : FVec Ideal S3328x384 .f32) (x3 : FVec Ideal S16384x384 .bf16)
    (x4 : FVec Ideal S1x3328 .f32) (x5 : FVec Ideal S1x16384 .f32) (x6 : FVec Ideal S224x28 .f32) (x7 : FVec Ideal S28x224 .f32) :
    (out1_8 (F := Ideal) x0 x1 x2 x3 x4 x5 x6 x7 : FVec Ideal S896x224 .f32) = maps x1 x6 x7 := by
  funext y
  idx_vars y
  unfold out1_8
  canon_tiles x h
  all_goals pointwise [k1_pay1, k1_pay2, k1_pay44, k1_pay45, k1_pay42, k1_pay43, k1_pay57, k1_pay58, maps]
  all_goals
    change y0.val = _ at h0
    change y1.val = _ at h1
    refine Finset.sum_congr rfl fun q _ => congrArg₂ _ (Finset.sum_congr rfl fun p _ => congrArg₂ _
      (congrArg (fun a => x6 (ix2 a p)) (Fin.ext ?_)) (congrArg (fun a => x1 (ix2 a q)) (Fin.ext ?_))) (congrArg (fun a => x7 (ix2 q a)) (Fin.ext h1.symm))
    · show (x 0).val = y0.val % 224
      omega
    · have hp := p.isLt
      simp only []
      omega

theorem idx1 : ∀ t : Fin cfg1.N, win1_1.index t = ![0, 0] ∧ win1_6.index t = ![0, 0] ∧ win1_7.index t = ![0, 0] ∧ win1_8.index t = ![0, 0] :=
  (by decide +kernel : ∀ t : Fin grid1.N, _)

variable (V : (c : Dev nD) → (b : Ref sig .tc) → Buf (Elt Ideal) ((c : Thread nD τ).loc b)) (c : Dev nD)

theorem block1 (t : Fin cfg1.N) : (iblk1 V c 1 t : FVec Ideal S112x28 .f32) = (V c main_call0_v6 : FVec Ideal S112x28 .f32) := by
  funext y
  idx_vars y
  blk_simp [iblk1, idx1 t]
  blk_ext [iblk1, idx1 t]
theorem block6 (t : Fin cfg1.N) : (iblk1 V c 6 t : FVec Ideal S224x28 .f32) = (V c main_call0_v34 : FVec Ideal S224x28 .f32) := by
  funext y
  idx_vars y
  blk_simp [iblk1, idx1 t]
  blk_ext [iblk1, idx1 t]
theorem block7 (t : Fin cfg1.N) : (iblk1 V c 7 t : FVec Ideal S28x224 .f32) = (V c main_call0_v35 : FVec Ideal S28x224 .f32) := by
  funext y
  idx_vars y
  blk_simp [iblk1, idx1 t]
  blk_ext [iblk1, idx1 t]

theorem maps_final : (dat1 V c).arrAt 8 cfg1.N = maps (V c main_call0_v6) (V c main_call0_v34) (V c main_call0_v35) := by
  refine (dat1 V c).arrAt_eq_of_covers 8 _ (by decide +kernel) fun t _ y => ?_
  idx_vars y
  blk_simp [idx1 t]
  rw [after1_8, out1_8_eq, block1, block6, block7]
  have e : (win1_8.blk t).view.emb (ix2 y0 y1) = ix2 y0 y1 := by blk_ext [idx1 t]
  rw [e]

/-- The launch's result at an index: the image's scores between the matrix and itself. -/
theorem map_apply (s : FVec Ideal S112x28 .f32) (l : FVec Ideal S224x28 .f32) (b : Fin 4) (i j : Fin 224) :
    (shapeCast S4x1x224x224 (maps s l (transpose S28x224 [1, 0] l transposes_S224x28_S28x224_1_0)) shapeCasts_S896x224_S4x1x224x224) (ix4 b 0 i j)
      = ∑ q, (∑ p, l (ix2 i p) * s (ix2 ⟨28 * b.val + p.val, by omega⟩ q)) * l (ix2 j q) := by
  pointwise [maps]
  refine Finset.sum_congr rfl fun q _ => congrArg (· * l (ix2 j q)) (Finset.sum_congr rfl fun p _ => congrArg₂ _
    (congrArg (fun a => l (ix2 a p)) (Fin.ext ?_)) (congrArg (fun a => s (ix2 a q)) (Fin.ext ?_)))
  · show (b.val * 224 + i.val) % 224 = i.val
    omega
  · show 28 * ((b.val * 224 + i.val) / 224) + p.val = 28 * b.val + p.val
    omega

end Cert.KernelIdeal.Run

end
-- ==== Proof.Words.lean ====
/-
  The literal tables' words as reals.
-/
module

public import Idealize.ShloMosaic.Lib.Pointwise
public import Idealize.ShloMosaic.Lib.IdealHost

@[expose] public section

set_option maxRecDepth 16384

noncomputable section

namespace Cert.Maths

open Idealize.ShloMosaic

/-- A word whose exponent is not the greatest is a real. -/
theorem ofBits_real (b : BitVec 32) (h : (b.extractLsb' 23 8).toNat ≠ 255) : ∃ r : ℝ, Ideal.ofBits .f32 b = (r : EReal) := by
  show ∃ r : ℝ, Ideal.ieee 8 23 b = (r : EReal)
  unfold Ideal.ieee
  simp only
  rw [if_neg (by simpa using h)]
  split
  · exact ⟨_, rfl⟩
  · exact ⟨_, rfl⟩

/-- The number of sixteenths in a word of the interpolation tables. -/
def sixteenths (b : BitVec 32) : ℕ :=
  if b = 0x3D800000#32 then 1 else if b = 0x3E400000#32 then 3 else if b = 0x3EA00000#32 then 5 else if b = 0x3EE00000#32 then 7
  else if b = 0x3F100000#32 then 9 else if b = 0x3F300000#32 then 11 else if b = 0x3F500000#32 then 13 else if b = 0x3F700000#32 then 15 else 0

theorem ofBits_sixteenths (b : BitVec 32) (h : sixteenths b ≠ 0) : Ideal.ofBits .f32 b = ((sixteenths b / 16 : ℝ) : EReal) := by
  unfold sixteenths at h ⊢
  split_ifs at h ⊢ with h1 h2 h3 h4 h5 h6 h7 h8 <;> first | exact absurd rfl h | (subst_vars; simp [Ideal.ofBits, Ideal.ieee, -EReal.coe_mul]; norm_num)

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_eighth : Ideal.ofBits .f32 0x3E000000#32 = ((1 / 8 : ℝ) : EReal) := by
  simp [Ideal.ofBits, Ideal.ieee, -EReal.coe_mul]; norm_num
theorem ofBits_last : Ideal.ofBits .f32 0x41DC0000#32 = ((55 / 2 : ℝ) : EReal) := by
  simp [Ideal.ofBits, Ideal.ieee, -EReal.coe_mul]; norm_num
theorem ofBits_small : ∃ r : ℝ, Ideal.ofBits .f32 0x38FA0000#32 = (r : EReal) ∧ r < 1 / 16 :=
  ⟨16384000 * (2 : ℝ) ^ (-37 : ℤ), by simp [Ideal.ofBits, Ideal.ieee, -EReal.coe_mul], by norm_num⟩

end Cert.Maths

end
-- ==== Proof.Maths.lean ====
/-
  The numbers of the map, over the reals: the interpolation weights in sixteenths, a list padded by zeros on both sides,
  and the one matrix that interpolates and blurs at once.
-/
module

public import Idealize.ShloMosaic.Lib.Pointwise
public import Idealize.ShloMosaic.Lib.IdealHost

@[expose] public section

noncomputable section

namespace Cert.Maths

open Finset

/-- Sixteen times the triangle around sample `j` at input coordinate `p`: the sample lies at `(2 j - 7) / 16`. -/
def tri (p : Fin 28) (j : Fin 224) : ℕ := 16 - (2 * (j.val : ℤ) - 7 - 16 * (p.val : ℤ)).natAbs

/-- Sixteen times the triangle's total over the input coordinates. -/
def tot (j : Fin 224) : ℕ := ∑ p : Fin 28, tri p j

/-- Sixteen times the interpolation weight: a whole number. -/
def wn (p : Fin 28) (j : Fin 224) : ℕ := 16 * tri p j / tot j

theorem wn_mul_tot : ∀ (j : Fin 224) (p : Fin 28), wn p j * tot j = 16 * tri p j := by decide +kernel

theorem tot_pos : ∀ j : Fin 224, 1 ≤ tot j := by decide +kernel

/-- The interpolation weight. -/
def w (p : Fin 28) (j : Fin 224) : ℝ := (wn p j : ℝ) / 16

theorem tri_div_tot (p : Fin 28) (j : Fin 224) : ((tri p j : ℝ) / 16) / ((tot j : ℝ) / 16) = w p j := by
  have h : (wn p j : ℝ) * (tot j : ℝ) = 16 * (tri p j : ℝ) := by exact_mod_cast wn_mul_tot j p
  have ht : (0 : ℝ) < (tot j : ℝ) := by exact_mod_cast tot_pos j
  unfold w
  field_simp
  linarith

/-- The triangle as the real expression it comes from. -/
theorem tri_eq (p : Fin 28) (j : Fin 224) :
    max 0 (1 - |(2 * (j.val : ℝ) - 7) / 16 - (p.val : ℝ)|) = (tri p j : ℝ) / 16 := by
  have hc : |(2 * (j.val : ℝ) - 7) / 16 - (p.val : ℝ)| = ((2 * (j.val : ℤ) - 7 - 16 * (p.val : ℤ)).natAbs : ℝ) / 16 := by
    rw [Nat.cast_natAbs, Int.cast_abs, show (16 : ℝ) = |16| by norm_num, ← abs_div]
    congr 1
    push_cast
    rw [show |(16 : ℝ)| = 16 by norm_num]
    ring
  rw [hc]
  unfold tri
  generalize (2 * (j.val : ℤ) - 7 - 16 * (p.val : ℤ)).natAbs = d
  rcases le_total d 16 with h | h
  · rw [Nat.cast_sub h, max_eq_right]
    · push_cast; ring
    · have : (d : ℝ) ≤ 16 := by exact_mod_cast h
      linarith
  · rw [Nat.sub_eq_zero_of_le h, max_eq_left]
    · simp
    · have : (16 : ℝ) ≤ d := by exact_mod_cast h
      linarith

/-- A list of 224 between sixteen zeros on either side. -/
def padded (f : Fin 224 → ℝ) (k : ℕ) : ℝ := if h : 16 ≤ k ∧ k < 240 then f ⟨k - 16, by omega⟩ else 0

/-- Interpolation followed by the blur of taps `k`, as one matrix. -/
def lin (k : Fin 33 → ℝ) (i : Fin 224) (p : Fin 28) : ℝ := ∑ t : Fin 33, padded (w p) (i.val + t.val) * k t

theorem padded_sum {ι : Type} (s : Finset ι) (f : ι → Fin 224 → ℝ) (c : ι → ℝ) (k : ℕ) :
    padded (fun j => ∑ q ∈ s, c q * f q j) k = ∑ q ∈ s, c q * padded (f q) k := by
  unfold padded
  split
  · rfl
  · simp

/-- Taps placed where they meet the list and summed against it: the padded list against the taps. -/
theorem place_sum (k : Fin 33 → ℝ) (f : Fin 224 → ℝ) (i : Fin 224) :
    ∑ j : Fin 224, (∑ t : Fin 33, if i.val + t.val = j.val + 16 then k t else 0) * f j = ∑ t : Fin 33, padded f (i.val + t.val) * k t := by
  simp only [sum_mul]
  rw [sum_comm]
  refine sum_congr rfl fun t _ => ?_
  unfold padded
  split_ifs with h
  · rw [sum_eq_single (⟨i.val + t.val - 16, by omega⟩ : Fin 224)]
    · rw [if_pos (by show i.val + t.val = i.val + t.val - 16 + 16; omega), mul_comm]
    · intro j _ hj
      rw [if_neg, zero_mul]
      intro e
      exact hj (Fin.ext (by show j.val = i.val + t.val - 16; omega))
    · exact fun h => absurd (mem_univ _) h
  · rw [zero_mul]
    refine sum_eq_zero fun j _ => ?_
    rw [if_neg, zero_mul]
    have := j.isLt
    omega

/-- A combination of the weights' rows, blurred: the same combination of the matrix's columns. -/
theorem blur_one (k : Fin 33 → ℝ) (c : Fin 28 → ℝ) (i : Fin 224) :
    ∑ t : Fin 33, padded (fun x => ∑ q, c q * w q x) (i.val + t.val) * k t = ∑ q, c q * lin k i q := by
  simp only [padded_sum univ w c, sum_mul, lin, mul_sum]
  rw [sum_comm]
  exact sum_congr rfl fun q _ => sum_congr rfl fun t _ => by ring

/-- The interpolated picture blurred along its rows and then its columns: the matrix on both sides. -/
theorem blur_both (k : Fin 33 → ℝ) (s : Fin 28 → Fin 28 → ℝ) (i j : Fin 224) :
    ∑ t' : Fin 33, padded (fun y => ∑ t : Fin 33, padded (fun x => ∑ q, (∑ p, w p x * s p q) * w q y) (i.val + t.val) * k t) (j.val + t'.val) * k t'
      = ∑ q, (∑ p, lin k i p * s p q) * lin k j q := by
  have h1 : ∀ y : Fin 224, (∑ t : Fin 33, padded (fun x => ∑ q, (∑ p, w p x * s p q) * w q y) (i.val + t.val) * k t)
      = ∑ q, (∑ p, lin k i p * s p q) * w q y := by
    intro y
    have e : (fun x => ∑ q, (∑ p, w p x * s p q) * w q y) = fun x => ∑ p, (∑ q, s p q * w q y) * w p x := by
      funext x
      simp only [sum_mul]
      rw [sum_comm]
      exact sum_congr rfl fun q _ => sum_congr rfl fun p _ => by ring
    rw [e, blur_one]
    simp only [sum_mul]
    rw [sum_comm]
    exact sum_congr rfl fun q _ => sum_congr rfl fun p _ => by ring
  simp only [h1]
  exact blur_one k (fun q => ∑ p, lin k i p * s p q) j

end Cert.Maths

end
-- ==== Proof.KernelLin.lean ====
/-
  The kernel's matrix is the one that interpolates and blurs, over the reals.
-/
module

public import proofs.«01_k».proof.Proof.KernelTerm
public import proofs.«01_k».proof.Proof.Words
public import Idealize.ShloMosaic.Lib.WordCmp
public import proofs.«01_k».proof.Proof.Score
public import proofs.«01_k».proof.Proof.Maths

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo

/-- Every tap is a real. -/
theorem taps_real : ∃ k : Fin 33 → ℝ, ∀ t, taps (ix1 t) = (k t : EReal) := by
  have h : ∀ t : Fin 33, ((lit4 (S33.rowMajor (ix1 t))).extractLsb' 23 8).toNat ≠ 255 := by decide +kernel
  exact ⟨fun t => (ofBits_real _ (h t)).choose, fun t => (ofBits_real _ (h t)).choose_spec⟩

/-- One table of neighbours and weights, in sixteenths. -/
def share (n w : BitVec 32) (p : Fin 28) : ℕ := if BitVec.ofNat 32 p.val = n then sixteenths w else 0

theorem shares : ∀ (i : Fin 224) (p : Fin 28),
    share (lit0 (S224.rowMajor (ix1 i))) (lit1 (S224.rowMajor (ix1 i))) p + share (lit2 (S224.rowMajor (ix1 i))) (lit3 (S224.rowMajor (ix1 i))) p = wn p i := by
  decide +kernel
theorem sixteenths0 : ∀ i : Fin 224, sixteenths (lit1 (S224.rowMajor (ix1 i))) ≠ 0 := by decide +kernel
theorem sixteenths1 : ∀ i : Fin 224, sixteenths (lit3 (S224.rowMajor (ix1 i))) ≠ 0 := by decide +kernel

theorem placed_apply (n : IVec S224 32) (w : FVec Ideal S224 .f32) (i : Fin 224) (p : Fin 28) (b : BitVec 32) (hw : w (ix1 i) = Ideal.ofBits .f32 b)
    (hb : sixteenths b ≠ 0) : placed n w (ix2 i p) = ((share (n (ix1 i)) b p / 16 : ℝ) : EReal) := by
  pointwise [placed]
  rw [WordCmp.cmpi_eq_eq, WordCmp.select_ofBool, hw, ofBits_sixteenths b hb]
  unfold share
  by_cases h : BitVec.ofNat 32 p.val = n (ix1 i)
  · rw [if_pos (by simpa using h), if_pos h]
  · rw [if_neg (by simpa using h), if_neg h]
    simp [constant, FloatOps.ofBits]

theorem interp_apply (i : Fin 224) (p : Fin 28) : interp (ix2 i p) = (w p i : EReal) := by
  pointwise [interp]
  rw [placed_apply near0 weight0 i p _ rfl (sixteenths0 i), placed_apply near1 weight1 i p _ rfl (sixteenths1 i), ← EReal.coe_add]
  unfold w
  rw [← shares i p]
  refine congrArg _ ?_
  push_cast
  rw [add_div]
  rfl

theorem blur_apply (k : Fin 33 → ℝ) (hk : ∀ t, taps (ix1 t) = (k t : EReal)) (i j : Fin 224) :
    blur (ix2 i j) = ((∑ t : Fin 33, if i.val + t.val = j.val + 16 then k t else 0 : ℝ) : EReal) := by
  pointwise [blur]
  rw [coe_sum]
  refine Finset.sum_congr rfl fun t _ => ?_
  rw [WordCmp.cmpi_eq_eq, WordCmp.select_ofBool, hk]
  have hi := i.isLt
  have hj := j.isLt
  have ht := t.isLt
  have e : (IntOp.addi (BitVec.ofNat 32 i.val) (BitVec.ofNat 32 t.val) = IntOp.addi (BitVec.ofNat 32 j.val) 16#32) ↔ i.val + t.val = j.val + 16 := by
    unfold IntOp.addi
    rw [← BitVec.toNat_inj]
    simp only [BitVec.toNat_add, BitVec.toNat_ofNat]
    omega
  by_cases h : i.val + t.val = j.val + 16
  · rw [if_pos (by simpa using e.mpr h), if_pos h]
  · rw [if_neg (by simpa using fun h' => h (e.mp h')), if_neg h]
    simp [constant, FloatOps.ofBits]

theorem both_apply (k : Fin 33 → ℝ) (hk : ∀ t, taps (ix1 t) = (k t : EReal)) (i : Fin 224) (p : Fin 28) :
    both (ix2 i p) = (lin k i p : EReal) := by
  pointwise [both]
  simp only [blur_apply k hk, interp_apply]
  rw [sum_mul_coe, place_sum]
  rfl

end Cert.KernelIdeal.Run

end
-- ==== Proof.RefOps.lean ====
/-
  The reference program as a list of its host operations, window by window, and what each window may touch.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v37`, named: its operands side by side. -/
def fn_main_v37 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- The function of the operation that writes `main_v51`, named: its operands side by side. -/
def fn_main_v51 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- The function of the operation that writes `main_v65`, named: its operands side by side. -/
def fn_main_v65 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- @main's operations 1 … 30 of 352 (window `main_part0`). -/
abbrev ops_part0_0 : List (HloOp τ sig (Elt F)) :=
  [ nullary main_cst (fun i => FloatOps.ofBits .f32 (lit0 (S33.rowMajor i))),
    binary main_arg0 main_arg0 main_v0 (mulf : (⟨S3136x384, .f32⟩ : BufTy).Contents (Elt F) → (⟨S3136x384, .f32⟩ : BufTy).Contents (Elt F) → (⟨S3136x384, .f32⟩ : BufTy).Contents (Elt F)),
    nullary main_cst_0 (constant S_ .f32 0x00000000#32),
    binary main_v0 main_cst_0 main_v1 ((fun x v => Host.reduceAdd x v reducesTo_S3136x384_S3136_d1 h_S_) : (⟨S3136x384, .f32⟩ : BufTy).Contents (Elt F) → (⟨S_, .f32⟩ : BufTy).Contents (Elt F) → (⟨S3136, .f32⟩ : BufTy).Contents (Elt F)),
    unary main_v1 main_v2 (broadcastInDim S3136x1 ![0] bcast_S3136_S3136x1_0 : (⟨S3136, .f32⟩ : BufTy).Contents (Elt F) → (⟨S3136x1, .f32⟩ : BufTy).Contents (Elt F)),
    binary main_arg1 main_arg1 main_v3 (mulf : (⟨S16384x384, .f32⟩ : BufTy).Contents (Elt F) → (⟨S16384x384, .f32⟩ : BufTy).Contents (Elt F) → (⟨S16384x384, .f32⟩ : BufTy).Contents (Elt F)),
    nullary main_cst_1 (constant S_ .f32 0x00000000#32),
    binary main_v3 main_cst_1 main_v4 ((fun x v => Host.reduceAdd x v reducesTo_S16384x384_S16384_d1 h_S_) : (⟨S16384x384, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    unary main_arg1 main_v6 ((transpose S384x16384 [1, 0] · transposes_S16384x384_S384x16384_1_0) : (⟨S16384x384, .f32⟩ : BufTy).Contents (Elt F) → (⟨S384x16384, .f32⟩ : BufTy).Contents (Elt F)),
    binary main_arg0 main_v6 main_v7 ((fun l r => Host.dotGeneral dot_S3136x384_S384x16384_S3136x16384_1_0_0_1_n_n none l r) : (⟨S3136x384, .f32⟩ : BufTy).Contents (Elt F) → (⟨S384x16384, .f32⟩ : BufTy).Contents (Elt F) → (⟨S3136x16384, .f32⟩ : BufTy).Contents (Elt F)),
    nullary main_cst_2 (constant S_ .f32 0x40000000#32),
    unary main_cst_2 main_v8 (broadcastInDim S3136x16384 ![] bcast_S_S3136x16384 : (⟨S_, .f32⟩ : BufTy).Contents (Elt F) → (⟨S3136x16384, .f32⟩ : BufTy).Contents (Elt F)),
    binary main_v8 main_v7 main_v9 (mulf : (⟨S3136x16384, .f32⟩ : BufTy).Contents (Elt F) → (⟨S3136x16384, .f32⟩ : BufTy).Contents (Elt F) → (⟨S3136x16384, .f32⟩ : BufTy).Contents (Elt F)),
    unary main_v2 main_v10 (broadcastInDim S3136x16384 ![0, 1] bcast_S3136x1_S3136x16384_0_1 : (⟨S3136x1, .f32⟩ : BufTy).Contents (Elt F) → (⟨S3136x16384, .f32⟩ : BufTy).Contents (Elt F)),
    binary main_v10 main_v9 main_v11 (subf : (⟨S3136x16384, .f32⟩ : BufTy).Contents (Elt F) → (⟨S3136x16384, .f32⟩ : BufTy).Contents (Elt F) → (⟨S3136x16384, .f32⟩ : BufTy).Contents (Elt F)),
    unary main_v5 main_v12 ((transpose S1x16384 [1, 0] · transposes_S16384x1_S1x16384_1_0) : (⟨S16384x1, .f32⟩ : BufTy).Contents (Elt F) → (⟨S1x16384, .f32⟩ : BufTy).Contents (Elt F)),
    unary main_v12 main_v13 (broadcastInDim S3136x16384 ![0, 1] bcast_S1x16384_S3136x16384_0_1 : (⟨S1x16384, .f32⟩ : BufTy).Contents (Elt F) → (⟨S3136x16384, .f32⟩ : BufTy).Contents (Elt F)),
    binary main_v11 main_v13 main_v14 (addf : (⟨S3136x16384, .f32⟩ : BufTy).Contents (Elt F) → (⟨S3136x16384, .f32⟩ : BufTy).Contents (Elt F) → (⟨S3136x16384, .f32⟩ : BufTy).Contents (Elt F)),
    nullary main_cst_3 (constant S_ .f32 0x00000000#32),
    unary main_cst_3 main_v15 (broadcastInDim S3136x16384 ![] bcast_S_S3136x16384 : (⟨S_, .f32⟩ : BufTy).Contents (Elt F) → (⟨S3136x16384, .f32⟩ : BufTy).Contents (Elt F)),
    binary main_v14 main_v15 main_v16 (maximumf : (⟨S3136x16384, .f32⟩ : BufTy).Contents (Elt F) → (⟨S3136x16384, .f32⟩ : BufTy).Contents (Elt F) → (⟨S3136x16384, .f32⟩ : BufTy).Contents (Elt F)),
    unary main_v16 main_v17 (Host.sqrt : (⟨S3136x16384, .f32⟩ : BufTy).Contents (Elt F) → (⟨S3136x16384, .f32⟩ : BufTy).Contents (Elt F)),
    nullary main_cst_4 (constant S_ .f32 0x7F800000#32),
    binary main_v17 main_cst_4 main_v18 ((fun x v => Host.reduce FloatOps.minimumf x v reducesTo_S3136x16384_S3136_d1 h_S_) : (⟨S3136x16384, .f32⟩ : BufTy).Contents (Elt F) → (⟨S_, .f32⟩ : BufTy).Contents (Elt F) → (⟨S3136, .f32⟩ : BufTy).Contents (Elt F)),
    TRef.nullary (TRef.of (T := ⟨S3136x16384, .i32⟩) main_call0_v0) (iotaInDim S3136x16384 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S3136x16384, .f32⟩) main_v17) (TRef.of (T := ⟨S3136x16384, .i32⟩) main_call0_v0) (TRef.of (T := ⟨S_, .f32⟩) main_call0_cst) (TRef.of (T := ⟨S_, .i32⟩) main_call0_c) (TRef.of (T := ⟨S3136, .f32⟩) main_call0_v1_0) (fun x y u v j => (Host.argReduce reducer_argmin_f32_i32 x y u v reducesTo_S3136x16384_S3136_d1 h_S_ j).1),
    TRef.quaternary (TRef.of (T := ⟨S3136x16384, .f32⟩) main_v17) (TRef.of (T := ⟨S3136x16384, .i32⟩) main_call0_v0) (TRef.of (T := ⟨S_, .f32⟩) main_call0_cst) (TRef.of (T := ⟨S_, .i32⟩) main_call0_c) (TRef.of (T := ⟨S3136, .i32⟩) main_v19) (fun x y u v j => (Host.argReduce reducer_argmin_f32_i32 x y u v reducesTo_S3136x16384_S3136_d1 h_S_ j).2) ]

/-- @main's operations 31 … 60 of 352 (window `main_part0`). -/
abbrev ops_part0_1 : List (HloOp τ sig (Elt F)) :=
  [ reshape main_v18 main_v20 (rfl : (.f32 : EltTy) = .f32) shapeCasts_S3136_S4x784,
    reshape main_v19 main_v21 (rfl : (.i32 : EltTy) = .i32) shapeCasts_S3136_S4x784,
    TRef.nullary (TRef.of (T := ⟨S4x784, .i32⟩) main_call1_v0) (iotaInDim S4x784 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x784, .f32⟩) main_v20) (TRef.of (T := ⟨S4x784, .i32⟩) main_call1_v0) (TRef.of (T := ⟨S_, .f32⟩) main_call1_cst) (TRef.of (T := ⟨S_, .i32⟩) main_call1_c) (TRef.of (T := ⟨S4, .f32⟩) main_call1_v1_0) (fun x y u v j => (Host.argReduce reducer_argmax_f32_i32 x y u v reducesTo_S4x784_S4_d1 h_S_ j).1),
    TRef.quaternary (TRef.of (T := ⟨S4x784, .f32⟩) main_v20) (TRef.of (T := ⟨S4x784, .i32⟩) main_call1_v0) (TRef.of (T := ⟨S_, .f32⟩) main_call1_cst) (TRef.of (T := ⟨S_, .i32⟩) main_call1_c) (TRef.of (T := ⟨S4, .i32⟩) main_v22) (fun x y u v j => (Host.argReduce reducer_argmax_f32_i32 x y u v reducesTo_S4x784_S4_d1 h_S_ j).2),
    reshape main_arg0 main_v23 (rfl : (.f32 : EltTy) = .f32) shapeCasts_S3136x384_S4x784x384,
    nullary main_v24 (iotaInDim S4 32 0),
    nullary main_c (constantI S_ 32 0#32),
    unary main_c main_v25 (broadcastInDim S4 ![] bcast_S_S4 : (⟨S_, .i32⟩ : BufTy).Contents (Elt F) → (⟨S4, .i32⟩ : BufTy).Contents (Elt F)),
    binary main_v24 main_v25 main_v26 (cmpi .slt : (⟨S4, .i32⟩ : BufTy).Contents (Elt F) → (⟨S4, .i32⟩ : BufTy).Contents (Elt F) → (⟨S4, .i1⟩ : BufTy).Contents (Elt F)),
    nullary main_c_5 (constantI S_ 32 4#32),
    unary main_c_5 main_v27 (broadcastInDim S4 ![] bcast_S_S4 : (⟨S_, .i32⟩ : BufTy).Contents (Elt F) → (⟨S4, .i32⟩ : BufTy).Contents (Elt F)),
    binary main_v24 main_v27 main_v28 (addi : (⟨S4, .i32⟩ : BufTy).Contents (Elt F) → (⟨S4, .i32⟩ : BufTy).Contents (Elt F) → (⟨S4, .i32⟩ : BufTy).Contents (Elt F)),
    ternary main_v26 main_v28 main_v24 main_v29 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_6 (constantI S_ 32 0#32),
    unary main_c_6 main_v30 (broadcastInDim S4 ![] bcast_S_S4 : (⟨S_, .i32⟩ : BufTy).Contents (Elt F) → (⟨S4, .i32⟩ : BufTy).Contents (Elt F)),
    binary main_v22 main_v30 main_v31 (cmpi .slt : (⟨S4, .i32⟩ : BufTy).Contents (Elt F) → (⟨S4, .i32⟩ : BufTy).Contents (Elt F) → (⟨S4, .i1⟩ : BufTy).Contents (Elt F)),
    nullary main_c_7 (constantI S_ 32 784#32),
    unary main_c_7 main_v32 (broadcastInDim S4 ![] bcast_S_S4 : (⟨S_, .i32⟩ : BufTy).Contents (Elt F) → (⟨S4, .i32⟩ : BufTy).Contents (Elt F)),
    binary main_v22 main_v32 main_v33 (addi : (⟨S4, .i32⟩ : BufTy).Contents (Elt F) → (⟨S4, .i32⟩ : BufTy).Contents (Elt F) → (⟨S4, .i32⟩ : BufTy).Contents (Elt F)),
    ternary main_v31 main_v33 main_v22 main_v34 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v29 main_v35 (broadcastInDim S4x1 ![0] bcast_S4_S4x1_0 : (⟨S4, .i32⟩ : BufTy).Contents (Elt F) → (⟨S4x1, .i32⟩ : BufTy).Contents (Elt F)),
    unary main_v34 main_v36 (broadcastInDim S4x1 ![0] bcast_S4_S4x1_0 : (⟨S4, .i32⟩ : BufTy).Contents (Elt F) → (⟨S4x1, .i32⟩ : BufTy).Contents (Elt F)),
    binary main_v35 main_v36 main_v37 (fn_main_v37 (F := F)),
    binary main_v23 main_v37 main_v38 ((fun x i => Host.gather gather_S4x784x384_S4x2_S4x384_1_01_n_n_01_1_11384 x i) : (⟨S4x784x384, .f32⟩ : BufTy).Contents (Elt F) → (⟨S4x2, .i32⟩ : BufTy).Contents (Elt F) → (⟨S4x384, .f32⟩ : BufTy).Contents (Elt F)),
    nullary main_c_8 (constantI S_ 32 0#32),
    unary main_c_8 main_v39 (broadcastInDim S4 ![] bcast_S_S4 : (⟨S_, .i32⟩ : BufTy).Contents (Elt F) → (⟨S4, .i32⟩ : BufTy).Contents (Elt F)),
    binary main_v24 main_v39 main_v40 (cmpi .slt : (⟨S4, .i32⟩ : BufTy).Contents (Elt F) → (⟨S4, .i32⟩ : BufTy).Contents (Elt F) → (⟨S4, .i1⟩ : BufTy).Contents (Elt F)) ]

/-- @main's operations 61 … 68 of 352 (window `main_part0`). -/
abbrev ops_part0_2 : List (HloOp τ sig (Elt F)) :=
  [ nullary main_c_9 (constantI S_ 32 4#32),
    unary main_c_9 main_v41 (broadcastInDim S4 ![] bcast_S_S4 : (⟨S_, .i32⟩ : BufTy).Contents (Elt F) → (⟨S4, .i32⟩ : BufTy).Contents (Elt F)),
    binary main_v24 main_v41 main_v42 (addi : (⟨S4, .i32⟩ : BufTy).Contents (Elt F) → (⟨S4, .i32⟩ : BufTy).Contents (Elt F) → (⟨S4, .i32⟩ : BufTy).Contents (Elt F)),
    ternary main_v40 main_v42 main_v24 main_v43 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_10 (constantI S_ 32 0#32),
    unary main_c_10 main_v44 (broadcastInDim S4 ![] bcast_S_S4 : (⟨S_, .i32⟩ : BufTy).Contents (Elt F) → (⟨S4, .i32⟩ : BufTy).Contents (Elt F)),
    binary main_v22 main_v44 main_v45 (cmpi .slt : (⟨S4, .i32⟩ : BufTy).Contents (Elt F) → (⟨S4, .i32⟩ : BufTy).Contents (Elt F) → (⟨S4, .i1⟩ : BufTy).Contents (Elt F)),
    nullary main_c_11 (constantI S_ 32 784#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 69 … 128 of 352 (window `main_part1`). -/
abbrev ops_part1 : List (HloOp τ sig (Elt F)) :=
  [ unary main_c_11 main_v46 (broadcastInDim S4 ![] bcast_S_S4 : (⟨S_, .i32⟩ : BufTy).Contents (Elt F) → (⟨S4, .i32⟩ : BufTy).Contents (Elt F)),
    binary main_v22 main_v46 main_v47 (addi : (⟨S4, .i32⟩ : BufTy).Contents (Elt F) → (⟨S4, .i32⟩ : BufTy).Contents (Elt F) → (⟨S4, .i32⟩ : BufTy).Contents (Elt F)),
    ternary main_v45 main_v47 main_v22 main_v48 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v43 main_v49 (broadcastInDim S4x1 ![0] bcast_S4_S4x1_0 : (⟨S4, .i32⟩ : BufTy).Contents (Elt F) → (⟨S4x1, .i32⟩ : BufTy).Contents (Elt F)),
    unary main_v48 main_v50 (broadcastInDim S4x1 ![0] bcast_S4_S4x1_0 : (⟨S4, .i32⟩ : BufTy).Contents (Elt F) → (⟨S4x1, .i32⟩ : BufTy).Contents (Elt F)),
    binary main_v49 main_v50 main_v51 (fn_main_v51 (F := F)),
    binary main_v20 main_v51 main_v52 ((fun x i => Host.gather gather_S4x784_S4x2_S4_n_01_n_n_01_1_11 x i) : (⟨S4x784, .f32⟩ : BufTy).Contents (Elt F) → (⟨S4x2, .i32⟩ : BufTy).Contents (Elt F) → (⟨S4, .f32⟩ : BufTy).Contents (Elt F)),
    nullary main_c_12 (constantI S_ 32 0#32),
    unary main_c_12 main_v53 (broadcastInDim S4 ![] bcast_S_S4 : (⟨S_, .i32⟩ : BufTy).Contents (Elt F) → (⟨S4, .i32⟩ : BufTy).Contents (Elt F)),
    binary main_v24 main_v53 main_v54 (cmpi .slt : (⟨S4, .i32⟩ : BufTy).Contents (Elt F) → (⟨S4, .i32⟩ : BufTy).Contents (Elt F) → (⟨S4, .i1⟩ : BufTy).Contents (Elt F)),
    nullary main_c_13 (constantI S_ 32 4#32),
    unary main_c_13 main_v55 (broadcastInDim S4 ![] bcast_S_S4 : (⟨S_, .i32⟩ : BufTy).Contents (Elt F) → (⟨S4, .i32⟩ : BufTy).Contents (Elt F)),
    binary main_v24 main_v55 main_v56 (addi : (⟨S4, .i32⟩ : BufTy).Contents (Elt F) → (⟨S4, .i32⟩ : BufTy).Contents (Elt F) → (⟨S4, .i32⟩ : BufTy).Contents (Elt F)),
    ternary main_v54 main_v56 main_v24 main_v57 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_14 (constantI S_ 32 0#32),
    unary main_c_14 main_v58 (broadcastInDim S4 ![] bcast_S_S4 : (⟨S_, .i32⟩ : BufTy).Contents (Elt F) → (⟨S4, .i32⟩ : BufTy).Contents (Elt F)),
    binary main_v22 main_v58 main_v59 (cmpi .slt : (⟨S4, .i32⟩ : BufTy).Contents (Elt F) → (⟨S4, .i32⟩ : BufTy).Contents (Elt F) → (⟨S4, .i1⟩ : BufTy).Contents (Elt F)),
    nullary main_c_15 (constantI S_ 32 784#32),
    unary main_c_15 main_v60 (broadcastInDim S4 ![] bcast_S_S4 : (⟨S_, .i32⟩ : BufTy).Contents (Elt F) → (⟨S4, .i32⟩ : BufTy).Contents (Elt F)),
    binary main_v22 main_v60 main_v61 (addi : (⟨S4, .i32⟩ : BufTy).Contents (Elt F) → (⟨S4, .i32⟩ : BufTy).Contents (Elt F) → (⟨S4, .i32⟩ : BufTy).Contents (Elt F)),
    ternary main_v59 main_v61 main_v22 main_v62 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v57 main_v63 (broadcastInDim S4x1 ![0] bcast_S4_S4x1_0 : (⟨S4, .i32⟩ : BufTy).Contents (Elt F) → (⟨S4x1, .i32⟩ : BufTy).Contents (Elt F)),
    unary main_v62 main_v64 (broadcastInDim S4x1 ![0] bcast_S4_S4x1_0 : (⟨S4, .i32⟩ : BufTy).Contents (Elt F) → (⟨S4x1, .i32⟩ : BufTy).Contents (Elt F)),
    binary main_v63 main_v64 main_v65 (fn_main_v65 (F := F)),
    binary main_v21 main_v65 main_v66 ((fun x i => Host.gather gather_S4x784_S4x2_S4_n_01_n_n_01_1_11 x i) : (⟨S4x784, .i32⟩ : BufTy).Contents (Elt F) → (⟨S4x2, .i32⟩ : BufTy).Contents (Elt F) → (⟨S4, .i32⟩ : BufTy).Contents (Elt F)),
    nullary main_c_16 (constantI S_ 32 0#32),
    unary main_c_16 main_v67 (broadcastInDim S4 ![] bcast_S_S4 : (⟨S_, .i32⟩ : BufTy).Contents (Elt F) → (⟨S4, .i32⟩ : BufTy).Contents (Elt F)),
    binary main_v66 main_v67 main_v68 (cmpi .slt : (⟨S4, .i32⟩ : BufTy).Contents (Elt F) → (⟨S4, .i32⟩ : BufTy).Contents (Elt F) → (⟨S4, .i1⟩ : BufTy).Contents (Elt F)),
    nullary main_c_17 (constantI S_ 32 16384#32),
    unary main_c_17 main_v69 (broadcastInDim S4 ![] bcast_S_S4 : (⟨S_, .i32⟩ : BufTy).Contents (Elt F) → (⟨S4, .i32⟩ : BufTy).Contents (Elt F)),
    binary main_v66 main_v69 main_v70 (addi : (⟨S4, .i32⟩ : BufTy).Contents (Elt F) → (⟨S4, .i32⟩ : BufTy).Contents (Elt F) → (⟨S4, .i32⟩ : BufTy).Contents (Elt F)),
    ternary main_v68 main_v70 main_v66 main_v71 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v71 main_v72 (broadcastInDim S4x1 ![0] bcast_S4_S4x1_0 : (⟨S4, .i32⟩ : BufTy).Contents (Elt F) → (⟨S4x1, .i32⟩ : BufTy).Contents (Elt F)),
    binary main_arg1 main_v72 main_v73 ((fun x i => Host.gather gather_S16384x384_S4x1_S4x384_1_0_n_n_0_1_1384 x i) : (⟨S16384x384, .f32⟩ : BufTy).Contents (Elt F) → (⟨S4x1, .i32⟩ : BufTy).Contents (Elt F) → (⟨S4x384, .f32⟩ : BufTy).Contents (Elt F)),
    binary main_v73 main_v73 main_v74 (mulf : (⟨S4x384, .f32⟩ : BufTy).Contents (Elt F) → (⟨S4x384, .f32⟩ : BufTy).Contents (Elt F) → (⟨S4x384, .f32⟩ : BufTy).Contents (Elt F)),
    nullary main_cst_18 (constant S_ .f32 0x00000000#32),
    binary main_v74 main_cst_18 main_v75 ((fun x v => Host.reduceAdd x v reducesTo_S4x384_S4_d1 h_S_) : (⟨S4x384, .f32⟩ : BufTy).Contents (Elt F) → (⟨S_, .f32⟩ : BufTy).Contents (Elt F) → (⟨S4, .f32⟩ : BufTy).Contents (Elt F)),
    unary main_v75 main_v76 (broadcastInDim S4x1 ![0] bcast_S4_S4x1_0 : (⟨S4, .f32⟩ : BufTy).Contents (Elt F) → (⟨S4x1, .f32⟩ : BufTy).Contents (Elt F)),
    binary main_arg1 main_arg1 main_v77 (mulf : (⟨S16384x384, .f32⟩ : BufTy).Contents (Elt F) → (⟨S16384x384, .f32⟩ : BufTy).Contents (Elt F) → (⟨S16384x384, .f32⟩ : BufTy).Contents (Elt F)),
    nullary main_cst_19 (constant S_ .f32 0x00000000#32),
    binary main_v77 main_cst_19 main_v78 ((fun x v => Host.reduceAdd x v reducesTo_S16384x384_S16384_d1 h_S_) : (⟨S16384x384, .f32⟩ : BufTy).Contents (Elt F) → (⟨S_, .f32⟩ : BufTy).Contents (Elt F) → (⟨S16384, .f32⟩ : BufTy).Contents (Elt F)),
    unary main_v78 main_v79 (broadcastInDim S16384x1 ![0] bcast_S16384_S16384x1_0 : (⟨S16384, .f32⟩ : BufTy).Contents (Elt F) → (⟨S16384x1, .f32⟩ : BufTy).Contents (Elt F)),
    unary main_arg1 main_v80 ((transpose S384x16384 [1, 0] · transposes_S16384x384_S384x16384_1_0) : (⟨S16384x384, .f32⟩ : BufTy).Contents (Elt F) → (⟨S384x16384, .f32⟩ : BufTy).Contents (Elt F)),
    binary main_v73 main_v80 main_v81 ((fun l r => Host.dotGeneral dot_S4x384_S384x16384_S4x16384_1_0_0_1_n_n none l r) : (⟨S4x384, .f32⟩ : BufTy).Contents (Elt F) → (⟨S384x16384, .f32⟩ : BufTy).Contents (Elt F) → (⟨S4x16384, .f32⟩ : BufTy).Contents (Elt F)),
    nullary main_cst_20 (constant S_ .f32 0x40000000#32),
    unary main_cst_20 main_v82 (broadcastInDim S4x16384 ![] bcast_S_S4x16384 : (⟨S_, .f32⟩ : BufTy).Contents (Elt F) → (⟨S4x16384, .f32⟩ : BufTy).Contents (Elt F)),
    binary main_v82 main_v81 main_v83 (mulf : (⟨S4x16384, .f32⟩ : BufTy).Contents (Elt F) → (⟨S4x16384, .f32⟩ : BufTy).Contents (Elt F) → (⟨S4x16384, .f32⟩ : BufTy).Contents (Elt F)),
    unary main_v76 main_v84 (broadcastInDim S4x16384 ![0, 1] bcast_S4x1_S4x16384_0_1 : (⟨S4x1, .f32⟩ : BufTy).Contents (Elt F) → (⟨S4x16384, .f32⟩ : BufTy).Contents (Elt F)),
    binary main_v84 main_v83 main_v85 (subf : (⟨S4x16384, .f32⟩ : BufTy).Contents (Elt F) → (⟨S4x16384, .f32⟩ : BufTy).Contents (Elt F) → (⟨S4x16384, .f32⟩ : BufTy).Contents (Elt F)),
    unary main_v79 main_v86 ((transpose S1x16384 [1, 0] · transposes_S16384x1_S1x16384_1_0) : (⟨S16384x1, .f32⟩ : BufTy).Contents (Elt F) → (⟨S1x16384, .f32⟩ : BufTy).Contents (Elt F)),
    unary main_v86 main_v87 (broadcastInDim S4x16384 ![0, 1] bcast_S1x16384_S4x16384_0_1 : (⟨S1x16384, .f32⟩ : BufTy).Contents (Elt F) → (⟨S4x16384, .f32⟩ : BufTy).Contents (Elt F)),
    binary main_v85 main_v87 main_v88 (addf : (⟨S4x16384, .f32⟩ : BufTy).Contents (Elt F) → (⟨S4x16384, .f32⟩ : BufTy).Contents (Elt F) → (⟨S4x16384, .f32⟩ : BufTy).Contents (Elt F)),
    nullary main_cst_21 (constant S_ .f32 0x00000000#32),
    unary main_cst_21 main_v89 (broadcastInDim S4x16384 ![] bcast_S_S4x16384 : (⟨S_, .f32⟩ : BufTy).Contents (Elt F) → (⟨S4x16384, .f32⟩ : BufTy).Contents (Elt F)),
    binary main_v88 main_v89 main_v90 (maximumf : (⟨S4x16384, .f32⟩ : BufTy).Contents (Elt F) → (⟨S4x16384, .f32⟩ : BufTy).Contents (Elt F) → (⟨S4x16384, .f32⟩ : BufTy).Contents (Elt F)),
    unary main_v90 main_v91 (Host.sqrt : (⟨S4x16384, .f32⟩ : BufTy).Contents (Elt F) → (⟨S4x16384, .f32⟩ : BufTy).Contents (Elt F)),
    unary main_v91 main_v92 (Host.negf : (⟨S4x16384, .f32⟩ : BufTy).Contents (Elt F) → (⟨S4x16384, .f32⟩ : BufTy).Contents (Elt F)),
    unary main_v92 main_values ((fun x => (Host.topK S4x9 1 (FloatOps.cmpfTotal .gt) x sliceFits_S4x16384_S4x9).1) : (⟨S4x16384, .f32⟩ : BufTy).Contents (Elt F) → (⟨S4x9, .f32⟩ : BufTy).Contents (Elt F)),
    unary main_v92 main_indices ((fun x => (Host.topK S4x9 1 (FloatOps.cmpfTotal .gt) x sliceFits_S4x16384_S4x9).2) : (⟨S4x16384, .f32⟩ : BufTy).Contents (Elt F) → (⟨S4x9, .i32⟩ : BufTy).Contents (Elt F)),
    nullary main_c_22 (constantI S_ 32 0#32) ]

/-- @main's operations 129 … 188 of 352 (window `main_part2`). -/
abbrev ops_part2 : List (HloOp τ sig (Elt F)) :=
  [ unary main_c_22 main_v93 (broadcastInDim S4x9 ![] bcast_S_S4x9 : (⟨S_, .i32⟩ : BufTy).Contents (Elt F) → (⟨S4x9, .i32⟩ : BufTy).Contents (Elt F)),
    binary main_indices main_v93 main_v94 (cmpi .slt : (⟨S4x9, .i32⟩ : BufTy).Contents (Elt F) → (⟨S4x9, .i32⟩ : BufTy).Contents (Elt F) → (⟨S4x9, .i1⟩ : BufTy).Contents (Elt F)),
    nullary main_c_23 (constantI S_ 32 16384#32),
    unary main_c_23 main_v95 (broadcastInDim S4x9 ![] bcast_S_S4x9 : (⟨S_, .i32⟩ : BufTy).Contents (Elt F) → (⟨S4x9, .i32⟩ : BufTy).Contents (Elt F)),
    binary main_indices main_v95 main_v96 (addi : (⟨S4x9, .i32⟩ : BufTy).Contents (Elt F) → (⟨S4x9, .i32⟩ : BufTy).Contents (Elt F) → (⟨S4x9, .i32⟩ : BufTy).Contents (Elt F)),
    ternary main_v94 main_v96 main_indices main_v97 (select : (⟨S4x9, .i1⟩ : BufTy).Contents (Elt F) → (⟨S4x9, .i32⟩ : BufTy).Contents (Elt F) → (⟨S4x9, .i32⟩ : BufTy).Contents (Elt F) → (⟨S4x9, .i32⟩ : BufTy).Contents (Elt F)),
    unary main_v97 main_v98 (broadcastInDim S4x9x1 ![0, 1] bcast_S4x9_S4x9x1_0_1 : (⟨S4x9, .i32⟩ : BufTy).Contents (Elt F) → (⟨S4x9x1, .i32⟩ : BufTy).Contents (Elt F)),
    binary main_arg1 main_v98 main_v99 ((fun x i => Host.gather gather_S16384x384_S4x9x1_S4x9x384_2_0_n_n_0_2_1384 x i) : (⟨S16384x384, .f32⟩ : BufTy).Contents (Elt F) → (⟨S4x9x1, .i32⟩ : BufTy).Contents (Elt F) → (⟨S4x9x384, .f32⟩ : BufTy).Contents (Elt F)),
    unary main_v38 main_v100 (broadcastInDim S4x1x384 ![0, 2] bcast_S4x384_S4x1x384_0_2 : (⟨S4x384, .f32⟩ : BufTy).Contents (Elt F) → (⟨S4x1x384, .f32⟩ : BufTy).Contents (Elt F)),
    binary main_v100 main_v100 main_v101 (mulf : (⟨S4x1x384, .f32⟩ : BufTy).Contents (Elt F) → (⟨S4x1x384, .f32⟩ : BufTy).Contents (Elt F) → (⟨S4x1x384, .f32⟩ : BufTy).Contents (Elt F)),
    nullary main_cst_24 (constant S_ .f32 0x00000000#32),
    binary main_v101 main_cst_24 main_v102 ((fun x v => Host.reduceAdd x v reducesTo_S4x1x384_S4x1_d2 h_S_) : (⟨S4x1x384, .f32⟩ : BufTy).Contents (Elt F) → (⟨S_, .f32⟩ : BufTy).Contents (Elt F) → (⟨S4x1, .f32⟩ : BufTy).Contents (Elt F)),
    unary main_v102 main_v103 (broadcastInDim S4x1x1 ![0, 1] bcast_S4x1_S4x1x1_0_1 : (⟨S4x1, .f32⟩ : BufTy).Contents (Elt F) → (⟨S4x1x1, .f32⟩ : BufTy).Contents (Elt F)),
    binary main_v99 main_v99 main_v104 (mulf : (⟨S4x9x384, .f32⟩ : BufTy).Contents (Elt F) → (⟨S4x9x384, .f32⟩ : BufTy).Contents (Elt F) → (⟨S4x9x384, .f32⟩ : BufTy).Contents (Elt F)),
    nullary main_cst_25 (constant S_ .f32 0x00000000#32),
    binary main_v104 main_cst_25 main_v105 ((fun x v => Host.reduceAdd x v reducesTo_S4x9x384_S4x9_d2 h_S_) : (⟨S4x9x384, .f32⟩ : BufTy).Contents (Elt F) → (⟨S_, .f32⟩ : BufTy).Contents (Elt F) → (⟨S4x9, .f32⟩ : BufTy).Contents (Elt F)),
    unary main_v105 main_v106 (broadcastInDim S4x9x1 ![0, 1] bcast_S4x9_S4x9x1_0_1 : (⟨S4x9, .f32⟩ : BufTy).Contents (Elt F) → (⟨S4x9x1, .f32⟩ : BufTy).Contents (Elt F)),
    unary main_v99 main_v107 ((transpose S4x384x9 [0, 2, 1] · transposes_S4x9x384_S4x384x9_0_2_1) : (⟨S4x9x384, .f32⟩ : BufTy).Contents (Elt F) → (⟨S4x384x9, .f32⟩ : BufTy).Contents (Elt F)),
    binary main_v100 main_v107 main_v108 ((fun l r => Host.dotGeneral dot_S4x1x384_S4x384x9_S4x1x9_2_1_1_2_0_0 none l r) : (⟨S4x1x384, .f32⟩ : BufTy).Contents (Elt F) → (⟨S4x384x9, .f32⟩ : BufTy).Contents (Elt F) → (⟨S4x1x9, .f32⟩ : BufTy).Contents (Elt F)),
    nullary main_cst_26 (constant S_ .f32 0x40000000#32),
    unary main_cst_26 main_v109 (broadcastInDim S4x1x9 ![] bcast_S_S4x1x9 : (⟨S_, .f32⟩ : BufTy).Contents (Elt F) → (⟨S4x1x9, .f32⟩ : BufTy).Contents (Elt F)),
    binary main_v109 main_v108 main_v110 (mulf : (⟨S4x1x9, .f32⟩ : BufTy).Contents (Elt F) → (⟨S4x1x9, .f32⟩ : BufTy).Contents (Elt F) → (⟨S4x1x9, .f32⟩ : BufTy).Contents (Elt F)),
    unary main_v103 main_v111 (broadcastInDim S4x1x9 ![0, 1, 2] bcast_S4x1x1_S4x1x9_0_1_2 : (⟨S4x1x1, .f32⟩ : BufTy).Contents (Elt F) → (⟨S4x1x9, .f32⟩ : BufTy).Contents (Elt F)),
    binary main_v111 main_v110 main_v112 (subf : (⟨S4x1x9, .f32⟩ : BufTy).Contents (Elt F) → (⟨S4x1x9, .f32⟩ : BufTy).Contents (Elt F) → (⟨S4x1x9, .f32⟩ : BufTy).Contents (Elt F)),
    unary main_v106 main_v113 ((transpose S4x1x9 [0, 2, 1] · transposes_S4x9x1_S4x1x9_0_2_1) : (⟨S4x9x1, .f32⟩ : BufTy).Contents (Elt F) → (⟨S4x1x9, .f32⟩ : BufTy).Contents (Elt F)),
    binary main_v112 main_v113 main_v114 (addf : (⟨S4x1x9, .f32⟩ : BufTy).Contents (Elt F) → (⟨S4x1x9, .f32⟩ : BufTy).Contents (Elt F) → (⟨S4x1x9, .f32⟩ : BufTy).Contents (Elt F)),
    nullary main_cst_27 (constant S_ .f32 0x00000000#32),
    unary main_cst_27 main_v115 (broadcastInDim S4x1x9 ![] bcast_S_S4x1x9 : (⟨S_, .f32⟩ : BufTy).Contents (Elt F) → (⟨S4x1x9, .f32⟩ : BufTy).Contents (Elt F)),
    binary main_v114 main_v115 main_v116 (maximumf : (⟨S4x1x9, .f32⟩ : BufTy).Contents (Elt F) → (⟨S4x1x9, .f32⟩ : BufTy).Contents (Elt F) → (⟨S4x1x9, .f32⟩ : BufTy).Contents (Elt F)),
    unary main_v116 main_v117 (Host.sqrt : (⟨S4x1x9, .f32⟩ : BufTy).Contents (Elt F) → (⟨S4x1x9, .f32⟩ : BufTy).Contents (Elt F)),
    reshape main_v117 main_v118 (rfl : (.f32 : EltTy) = .f32) shapeCasts_S4x1x9_S4x9,
    nullary main_cst_28 (constant S_ .f32 0xFF800000#32),
    binary main_v118 main_cst_28 main_v119 ((fun x v => Host.reduce FloatOps.maximumf x v reducesTo_S4x9_S4_d1 h_S_) : (⟨S4x9, .f32⟩ : BufTy).Contents (Elt F) → (⟨S_, .f32⟩ : BufTy).Contents (Elt F) → (⟨S4, .f32⟩ : BufTy).Contents (Elt F)),
    nullary main_cst_29 (constant S_ .f32 0xFF800000#32),
    unary main_cst_29 main_v120 (broadcastInDim S4 ![] bcast_S_S4 : (⟨S_, .f32⟩ : BufTy).Contents (Elt F) → (⟨S4, .f32⟩ : BufTy).Contents (Elt F)),
    binary main_v120 main_v119 main_v121 (maximumf : (⟨S4, .f32⟩ : BufTy).Contents (Elt F) → (⟨S4, .f32⟩ : BufTy).Contents (Elt F) → (⟨S4, .f32⟩ : BufTy).Contents (Elt F)),
    unary main_v121 main_v122 (broadcastInDim S4x1 ![0] bcast_S4_S4x1_0 : (⟨S4, .f32⟩ : BufTy).Contents (Elt F) → (⟨S4x1, .f32⟩ : BufTy).Contents (Elt F)),
    unary main_v122 main_v123 (broadcastInDim S4x9 ![0, 1] bcast_S4x1_S4x9_0_1 : (⟨S4x1, .f32⟩ : BufTy).Contents (Elt F) → (⟨S4x9, .f32⟩ : BufTy).Contents (Elt F)),
    binary main_v118 main_v123 main_v124 (subf : (⟨S4x9, .f32⟩ : BufTy).Contents (Elt F) → (⟨S4x9, .f32⟩ : BufTy).Contents (Elt F) → (⟨S4x9, .f32⟩ : BufTy).Contents (Elt F)),
    unary main_v124 main_v125 (Host.exp : (⟨S4x9, .f32⟩ : BufTy).Contents (Elt F) → (⟨S4x9, .f32⟩ : BufTy).Contents (Elt F)),
    nullary main_cst_30 (constant S_ .f32 0x00000000#32),
    binary main_v125 main_cst_30 main_v126 ((fun x v => Host.reduceAdd x v reducesTo_S4x9_S4_d1 h_S_) : (⟨S4x9, .f32⟩ : BufTy).Contents (Elt F) → (⟨S_, .f32⟩ : BufTy).Contents (Elt F) → (⟨S4, .f32⟩ : BufTy).Contents (Elt F)),
    unary main_v126 main_v127 (broadcastInDim S4x1 ![0] bcast_S4_S4x1_0 : (⟨S4, .f32⟩ : BufTy).Contents (Elt F) → (⟨S4x1, .f32⟩ : BufTy).Contents (Elt F)),
    unary main_v127 main_v128 (broadcastInDim S4x9 ![0, 1] bcast_S4x1_S4x9_0_1 : (⟨S4x1, .f32⟩ : BufTy).Contents (Elt F) → (⟨S4x9, .f32⟩ : BufTy).Contents (Elt F)),
    binary main_v125 main_v128 main_v129 (Host.divf : (⟨S4x9, .f32⟩ : BufTy).Contents (Elt F) → (⟨S4x9, .f32⟩ : BufTy).Contents (Elt F) → (⟨S4x9, .f32⟩ : BufTy).Contents (Elt F)),
    nullary main_cst_31 (constant S_ .f32 0x3F800000#32),
    unary main_cst_31 main_v130 (broadcastInDim S4x9 ![] bcast_S_S4x9 : (⟨S_, .f32⟩ : BufTy).Contents (Elt F) → (⟨S4x9, .f32⟩ : BufTy).Contents (Elt F)),
    binary main_v130 main_v129 main_v131 (subf : (⟨S4x9, .f32⟩ : BufTy).Contents (Elt F) → (⟨S4x9, .f32⟩ : BufTy).Contents (Elt F) → (⟨S4x9, .f32⟩ : BufTy).Contents (Elt F)),
    unary main_v131 main_v132 ((extractStridedSlice S4x1 ![0, 0] · slices_S4x9_S4x1_0_0) : (⟨S4x9, .f32⟩ : BufTy).Contents (Elt F) → (⟨S4x1, .f32⟩ : BufTy).Contents (Elt F)),
    reshape main_v132 main_v133 (rfl : (.f32 : EltTy) = .f32) shapeCasts_S4x1_S4,
    binary main_v133 main_v52 main_v134 (mulf : (⟨S4, .f32⟩ : BufTy).Contents (Elt F) → (⟨S4, .f32⟩ : BufTy).Contents (Elt F) → (⟨S4, .f32⟩ : BufTy).Contents (Elt F)),
    reshape main_v20 main_v135 (rfl : (.f32 : EltTy) = .f32) shapeCasts_S4x784_S4x1x28x28,
    nullary main_cst_32 (constant S_ .f32 0x3E000000#32),
    nullary main_cst_33 (constant S_ .f32 0x3F800000#32),
    binary main_cst_32 main_cst_33 main_v136 (maximumf : (⟨S_, .f32⟩ : BufTy).Contents (Elt F) → (⟨S_, .f32⟩ : BufTy).Contents (Elt F) → (⟨S_, .f32⟩ : BufTy).Contents (Elt F)),
    nullary main_v137 (sitofp .f32 (iotaInDim S224 32 0)),
    nullary main_cst_34 (constant S_ .f32 0x3F000000#32),
    unary main_cst_34 main_v138 (broadcastInDim S224 ![] bcast_S_S224 : (⟨S_, .f32⟩ : BufTy).Contents (Elt F) → (⟨S224, .f32⟩ : BufTy).Contents (Elt F)),
    binary main_v137 main_v138 main_v139 (addf : (⟨S224, .f32⟩ : BufTy).Contents (Elt F) → (⟨S224, .f32⟩ : BufTy).Contents (Elt F) → (⟨S224, .f32⟩ : BufTy).Contents (Elt F)),
    nullary main_cst_35 (constant S_ .f32 0x3E000000#32) ]

/-- @main's operations 189 … 248 of 352 (window `main_part3`). -/
abbrev ops_part3 : List (HloOp τ sig (Elt F)) :=
  [ unary main_cst_35 main_v140 (broadcastInDim S224 ![] bcast_S_S224 : (⟨S_, .f32⟩ : BufTy).Contents (Elt F) → (⟨S224, .f32⟩ : BufTy).Contents (Elt F)),
    binary main_v139 main_v140 main_v141 (mulf : (⟨S224, .f32⟩ : BufTy).Contents (Elt F) → (⟨S224, .f32⟩ : BufTy).Contents (Elt F) → (⟨S224, .f32⟩ : BufTy).Contents (Elt F)),
    nullary main_cst_36 (constant S_ .f32 0x00000000#32),
    unary main_cst_36 main_v142 (broadcastInDim S224 ![] bcast_S_S224 : (⟨S_, .f32⟩ : BufTy).Contents (Elt F) → (⟨S224, .f32⟩ : BufTy).Contents (Elt F)),
    binary main_v141 main_v142 main_v143 (subf : (⟨S224, .f32⟩ : BufTy).Contents (Elt F) → (⟨S224, .f32⟩ : BufTy).Contents (Elt F) → (⟨S224, .f32⟩ : BufTy).Contents (Elt F)),
    nullary main_cst_37 (constant S_ .f32 0x3F000000#32),
    unary main_cst_37 main_v144 (broadcastInDim S224 ![] bcast_S_S224 : (⟨S_, .f32⟩ : BufTy).Contents (Elt F) → (⟨S224, .f32⟩ : BufTy).Contents (Elt F)),
    binary main_v143 main_v144 main_v145 (subf : (⟨S224, .f32⟩ : BufTy).Contents (Elt F) → (⟨S224, .f32⟩ : BufTy).Contents (Elt F) → (⟨S224, .f32⟩ : BufTy).Contents (Elt F)),
    nullary main_v146 (sitofp .f32 (iotaInDim S28 32 0)),
    unary main_v145 main_v147 (broadcastInDim S1x224 ![1] bcast_S224_S1x224_1 : (⟨S224, .f32⟩ : BufTy).Contents (Elt F) → (⟨S1x224, .f32⟩ : BufTy).Contents (Elt F)),
    unary main_v146 main_v148 (broadcastInDim S28x1 ![0] bcast_S28_S28x1_0 : (⟨S28, .f32⟩ : BufTy).Contents (Elt F) → (⟨S28x1, .f32⟩ : BufTy).Contents (Elt F)),
    unary main_v147 main_v149 (broadcastInDim S28x224 ![0, 1] bcast_S1x224_S28x224_0_1 : (⟨S1x224, .f32⟩ : BufTy).Contents (Elt F) → (⟨S28x224, .f32⟩ : BufTy).Contents (Elt F)),
    unary main_v148 main_v150 (broadcastInDim S28x224 ![0, 1] bcast_S28x1_S28x224_0_1 : (⟨S28x1, .f32⟩ : BufTy).Contents (Elt F) → (⟨S28x224, .f32⟩ : BufTy).Contents (Elt F)),
    binary main_v149 main_v150 main_v151 (subf : (⟨S28x224, .f32⟩ : BufTy).Contents (Elt F) → (⟨S28x224, .f32⟩ : BufTy).Contents (Elt F) → (⟨S28x224, .f32⟩ : BufTy).Contents (Elt F)),
    unary main_v151 main_v152 (Host.absf : (⟨S28x224, .f32⟩ : BufTy).Contents (Elt F) → (⟨S28x224, .f32⟩ : BufTy).Contents (Elt F)),
    unary main_v136 main_v153 (id : (⟨S_, .f32⟩ : BufTy).Contents (Elt F) → (⟨S_, .f32⟩ : BufTy).Contents (Elt F)),
    unary main_v153 main_v154 (broadcastInDim S28x224 ![] bcast_S_S28x224 : (⟨S_, .f32⟩ : BufTy).Contents (Elt F) → (⟨S28x224, .f32⟩ : BufTy).Contents (Elt F)),
    binary main_v152 main_v154 main_v155 (Host.divf : (⟨S28x224, .f32⟩ : BufTy).Contents (Elt F) → (⟨S28x224, .f32⟩ : BufTy).Contents (Elt F) → (⟨S28x224, .f32⟩ : BufTy).Contents (Elt F)),
    unary main_v155 main_v156 (Host.absf : (⟨S28x224, .f32⟩ : BufTy).Contents (Elt F) → (⟨S28x224, .f32⟩ : BufTy).Contents (Elt F)),
    nullary main_cst_38 (constant S_ .f32 0x3F800000#32),
    unary main_cst_38 main_v157 (broadcastInDim S28x224 ![] bcast_S_S28x224 : (⟨S_, .f32⟩ : BufTy).Contents (Elt F) → (⟨S28x224, .f32⟩ : BufTy).Contents (Elt F)),
    binary main_v157 main_v156 main_v158 (subf : (⟨S28x224, .f32⟩ : BufTy).Contents (Elt F) → (⟨S28x224, .f32⟩ : BufTy).Contents (Elt F) → (⟨S28x224, .f32⟩ : BufTy).Contents (Elt F)),
    nullary main_cst_39 (constant S_ .f32 0x00000000#32),
    unary main_cst_39 main_v159 (broadcastInDim S28x224 ![] bcast_S_S28x224 : (⟨S_, .f32⟩ : BufTy).Contents (Elt F) → (⟨S28x224, .f32⟩ : BufTy).Contents (Elt F)),
    binary main_v159 main_v158 main_v160 (maximumf : (⟨S28x224, .f32⟩ : BufTy).Contents (Elt F) → (⟨S28x224, .f32⟩ : BufTy).Contents (Elt F) → (⟨S28x224, .f32⟩ : BufTy).Contents (Elt F)),
    nullary main_cst_40 (constant S_ .f32 0x00000000#32),
    binary main_v160 main_cst_40 main_v161 ((fun x v => Host.reduceAdd x v reducesTo_S28x224_S224_d0 h_S_) : (⟨S28x224, .f32⟩ : BufTy).Contents (Elt F) → (⟨S_, .f32⟩ : BufTy).Contents (Elt F) → (⟨S224, .f32⟩ : BufTy).Contents (Elt F)),
    unary main_v161 main_v162 (broadcastInDim S1x224 ![1] bcast_S224_S1x224_1 : (⟨S224, .f32⟩ : BufTy).Contents (Elt F) → (⟨S1x224, .f32⟩ : BufTy).Contents (Elt F)),
    unary main_v162 main_v163 (Host.absf : (⟨S1x224, .f32⟩ : BufTy).Contents (Elt F) → (⟨S1x224, .f32⟩ : BufTy).Contents (Elt F)),
    nullary main_cst_41 (constant S_ .f32 0x38FA0000#32),
    unary main_cst_41 main_v164 (broadcastInDim S1x224 ![] bcast_S_S1x224 : (⟨S_, .f32⟩ : BufTy).Contents (Elt F) → (⟨S1x224, .f32⟩ : BufTy).Contents (Elt F)),
    binary main_v163 main_v164 main_v165 (cmpf .ogt : (⟨S1x224, .f32⟩ : BufTy).Contents (Elt F) → (⟨S1x224, .f32⟩ : BufTy).Contents (Elt F) → (⟨S1x224, .i1⟩ : BufTy).Contents (Elt F)),
    nullary main_cst_42 (constant S_ .f32 0x00000000#32),
    unary main_cst_42 main_v166 (broadcastInDim S1x224 ![] bcast_S_S1x224 : (⟨S_, .f32⟩ : BufTy).Contents (Elt F) → (⟨S1x224, .f32⟩ : BufTy).Contents (Elt F)),
    binary main_v162 main_v166 main_v167 (cmpf .une : (⟨S1x224, .f32⟩ : BufTy).Contents (Elt F) → (⟨S1x224, .f32⟩ : BufTy).Contents (Elt F) → (⟨S1x224, .i1⟩ : BufTy).Contents (Elt F)),
    nullary main_cst_43 (constant S_ .f32 0x3F800000#32),
    unary main_cst_43 main_v168 (broadcastInDim S1x224 ![] bcast_S_S1x224 : (⟨S_, .f32⟩ : BufTy).Contents (Elt F) → (⟨S1x224, .f32⟩ : BufTy).Contents (Elt F)),
    ternary main_v167 main_v162 main_v168 main_v169 (select : (⟨S1x224, .i1⟩ : BufTy).Contents (Elt F) → (⟨S1x224, .f32⟩ : BufTy).Contents (Elt F) → (⟨S1x224, .f32⟩ : BufTy).Contents (Elt F) → (⟨S1x224, .f32⟩ : BufTy).Contents (Elt F)),
    unary main_v169 main_v170 (broadcastInDim S28x224 ![0, 1] bcast_S1x224_S28x224_0_1 : (⟨S1x224, .f32⟩ : BufTy).Contents (Elt F) → (⟨S28x224, .f32⟩ : BufTy).Contents (Elt F)),
    binary main_v160 main_v170 main_v171 (Host.divf : (⟨S28x224, .f32⟩ : BufTy).Contents (Elt F) → (⟨S28x224, .f32⟩ : BufTy).Contents (Elt F) → (⟨S28x224, .f32⟩ : BufTy).Contents (Elt F)),
    unary main_v165 main_v172 (broadcastInDim S28x224 ![0, 1] bcast_S1x224_S28x224_0_1 : (⟨S1x224, .i1⟩ : BufTy).Contents (Elt F) → (⟨S28x224, .i1⟩ : BufTy).Contents (Elt F)),
    nullary main_cst_44 (constant S_ .f32 0x00000000#32),
    unary main_cst_44 main_v173 (broadcastInDim S28x224 ![] bcast_S_S28x224 : (⟨S_, .f32⟩ : BufTy).Contents (Elt F) → (⟨S28x224, .f32⟩ : BufTy).Contents (Elt F)),
    ternary main_v172 main_v171 main_v173 main_v174 (select : (⟨S28x224, .i1⟩ : BufTy).Contents (Elt F) → (⟨S28x224, .f32⟩ : BufTy).Contents (Elt F) → (⟨S28x224, .f32⟩ : BufTy).Contents (Elt F) → (⟨S28x224, .f32⟩ : BufTy).Contents (Elt F)),
    nullary main_cst_45 (constant S_ .f32 0xBF000000#32),
    unary main_cst_45 main_v175 (broadcastInDim S224 ![] bcast_S_S224 : (⟨S_, .f32⟩ : BufTy).Contents (Elt F) → (⟨S224, .f32⟩ : BufTy).Contents (Elt F)),
    binary main_v145 main_v175 main_v176 (cmpf .oge : (⟨S224, .f32⟩ : BufTy).Contents (Elt F) → (⟨S224, .f32⟩ : BufTy).Contents (Elt F) → (⟨S224, .i1⟩ : BufTy).Contents (Elt F)),
    nullary main_cst_46 (constant S_ .f32 0x41DC0000#32),
    unary main_cst_46 main_v177 (broadcastInDim S224 ![] bcast_S_S224 : (⟨S_, .f32⟩ : BufTy).Contents (Elt F) → (⟨S224, .f32⟩ : BufTy).Contents (Elt F)),
    binary main_v145 main_v177 main_v178 (cmpf .ole : (⟨S224, .f32⟩ : BufTy).Contents (Elt F) → (⟨S224, .f32⟩ : BufTy).Contents (Elt F) → (⟨S224, .i1⟩ : BufTy).Contents (Elt F)),
    binary main_v176 main_v178 main_v179 (andi : (⟨S224, .i1⟩ : BufTy).Contents (Elt F) → (⟨S224, .i1⟩ : BufTy).Contents (Elt F) → (⟨S224, .i1⟩ : BufTy).Contents (Elt F)),
    unary main_v179 main_v180 (broadcastInDim S1x224 ![1] bcast_S224_S1x224_1 : (⟨S224, .i1⟩ : BufTy).Contents (Elt F) → (⟨S1x224, .i1⟩ : BufTy).Contents (Elt F)),
    unary main_v180 main_v181 (broadcastInDim S28x224 ![0, 1] bcast_S1x224_S28x224_0_1 : (⟨S1x224, .i1⟩ : BufTy).Contents (Elt F) → (⟨S28x224, .i1⟩ : BufTy).Contents (Elt F)),
    nullary main_cst_47 (constant S_ .f32 0x00000000#32),
    unary main_cst_47 main_v182 (broadcastInDim S28x224 ![] bcast_S_S28x224 : (⟨S_, .f32⟩ : BufTy).Contents (Elt F) → (⟨S28x224, .f32⟩ : BufTy).Contents (Elt F)),
    ternary main_v181 main_v174 main_v182 main_v183 (select : (⟨S28x224, .i1⟩ : BufTy).Contents (Elt F) → (⟨S28x224, .f32⟩ : BufTy).Contents (Elt F) → (⟨S28x224, .f32⟩ : BufTy).Contents (Elt F) → (⟨S28x224, .f32⟩ : BufTy).Contents (Elt F)),
    nullary main_cst_48 (constant S_ .f32 0x3E000000#32),
    nullary main_cst_49 (constant S_ .f32 0x3F800000#32),
    binary main_cst_48 main_cst_49 main_v184 (maximumf : (⟨S_, .f32⟩ : BufTy).Contents (Elt F) → (⟨S_, .f32⟩ : BufTy).Contents (Elt F) → (⟨S_, .f32⟩ : BufTy).Contents (Elt F)),
    nullary main_v185 (sitofp .f32 (iotaInDim S224 32 0)) ]

/-- @main's operations 249 … 308 of 352 (window `main_part4`). -/
abbrev ops_part4 : List (HloOp τ sig (Elt F)) :=
  [ nullary main_cst_50 (constant S_ .f32 0x3F000000#32),
    unary main_cst_50 main_v186 (broadcastInDim S224 ![] bcast_S_S224 : (⟨S_, .f32⟩ : BufTy).Contents (Elt F) → (⟨S224, .f32⟩ : BufTy).Contents (Elt F)),
    binary main_v185 main_v186 main_v187 (addf : (⟨S224, .f32⟩ : BufTy).Contents (Elt F) → (⟨S224, .f32⟩ : BufTy).Contents (Elt F) → (⟨S224, .f32⟩ : BufTy).Contents (Elt F)),
    nullary main_cst_51 (constant S_ .f32 0x3E000000#32),
    unary main_cst_51 main_v188 (broadcastInDim S224 ![] bcast_S_S224 : (⟨S_, .f32⟩ : BufTy).Contents (Elt F) → (⟨S224, .f32⟩ : BufTy).Contents (Elt F)),
    binary main_v187 main_v188 main_v189 (mulf : (⟨S224, .f32⟩ : BufTy).Contents (Elt F) → (⟨S224, .f32⟩ : BufTy).Contents (Elt F) → (⟨S224, .f32⟩ : BufTy).Contents (Elt F)),
    nullary main_cst_52 (constant S_ .f32 0x00000000#32),
    unary main_cst_52 main_v190 (broadcastInDim S224 ![] bcast_S_S224 : (⟨S_, .f32⟩ : BufTy).Contents (Elt F) → (⟨S224, .f32⟩ : BufTy).Contents (Elt F)),
    binary main_v189 main_v190 main_v191 (subf : (⟨S224, .f32⟩ : BufTy).Contents (Elt F) → (⟨S224, .f32⟩ : BufTy).Contents (Elt F) → (⟨S224, .f32⟩ : BufTy).Contents (Elt F)),
    nullary main_cst_53 (constant S_ .f32 0x3F000000#32),
    unary main_cst_53 main_v192 (broadcastInDim S224 ![] bcast_S_S224 : (⟨S_, .f32⟩ : BufTy).Contents (Elt F) → (⟨S224, .f32⟩ : BufTy).Contents (Elt F)),
    binary main_v191 main_v192 main_v193 (subf : (⟨S224, .f32⟩ : BufTy).Contents (Elt F) → (⟨S224, .f32⟩ : BufTy).Contents (Elt F) → (⟨S224, .f32⟩ : BufTy).Contents (Elt F)),
    nullary main_v194 (sitofp .f32 (iotaInDim S28 32 0)),
    unary main_v193 main_v195 (broadcastInDim S1x224 ![1] bcast_S224_S1x224_1 : (⟨S224, .f32⟩ : BufTy).Contents (Elt F) → (⟨S1x224, .f32⟩ : BufTy).Contents (Elt F)),
    unary main_v194 main_v196 (broadcastInDim S28x1 ![0] bcast_S28_S28x1_0 : (⟨S28, .f32⟩ : BufTy).Contents (Elt F) → (⟨S28x1, .f32⟩ : BufTy).Contents (Elt F)),
    unary main_v195 main_v197 (broadcastInDim S28x224 ![0, 1] bcast_S1x224_S28x224_0_1 : (⟨S1x224, .f32⟩ : BufTy).Contents (Elt F) → (⟨S28x224, .f32⟩ : BufTy).Contents (Elt F)),
    unary main_v196 main_v198 (broadcastInDim S28x224 ![0, 1] bcast_S28x1_S28x224_0_1 : (⟨S28x1, .f32⟩ : BufTy).Contents (Elt F) → (⟨S28x224, .f32⟩ : BufTy).Contents (Elt F)),
    binary main_v197 main_v198 main_v199 (subf : (⟨S28x224, .f32⟩ : BufTy).Contents (Elt F) → (⟨S28x224, .f32⟩ : BufTy).Contents (Elt F) → (⟨S28x224, .f32⟩ : BufTy).Contents (Elt F)),
    unary main_v199 main_v200 (Host.absf : (⟨S28x224, .f32⟩ : BufTy).Contents (Elt F) → (⟨S28x224, .f32⟩ : BufTy).Contents (Elt F)),
    unary main_v184 main_v201 (id : (⟨S_, .f32⟩ : BufTy).Contents (Elt F) → (⟨S_, .f32⟩ : BufTy).Contents (Elt F)),
    unary main_v201 main_v202 (broadcastInDim S28x224 ![] bcast_S_S28x224 : (⟨S_, .f32⟩ : BufTy).Contents (Elt F) → (⟨S28x224, .f32⟩ : BufTy).Contents (Elt F)),
    binary main_v200 main_v202 main_v203 (Host.divf : (⟨S28x224, .f32⟩ : BufTy).Contents (Elt F) → (⟨S28x224, .f32⟩ : BufTy).Contents (Elt F) → (⟨S28x224, .f32⟩ : BufTy).Contents (Elt F)),
    unary main_v203 main_v204 (Host.absf : (⟨S28x224, .f32⟩ : BufTy).Contents (Elt F) → (⟨S28x224, .f32⟩ : BufTy).Contents (Elt F)),
    nullary main_cst_54 (constant S_ .f32 0x3F800000#32),
    unary main_cst_54 main_v205 (broadcastInDim S28x224 ![] bcast_S_S28x224 : (⟨S_, .f32⟩ : BufTy).Contents (Elt F) → (⟨S28x224, .f32⟩ : BufTy).Contents (Elt F)),
    binary main_v205 main_v204 main_v206 (subf : (⟨S28x224, .f32⟩ : BufTy).Contents (Elt F) → (⟨S28x224, .f32⟩ : BufTy).Contents (Elt F) → (⟨S28x224, .f32⟩ : BufTy).Contents (Elt F)),
    nullary main_cst_55 (constant S_ .f32 0x00000000#32),
    unary main_cst_55 main_v207 (broadcastInDim S28x224 ![] bcast_S_S28x224 : (⟨S_, .f32⟩ : BufTy).Contents (Elt F) → (⟨S28x224, .f32⟩ : BufTy).Contents (Elt F)),
    binary main_v207 main_v206 main_v208 (maximumf : (⟨S28x224, .f32⟩ : BufTy).Contents (Elt F) → (⟨S28x224, .f32⟩ : BufTy).Contents (Elt F) → (⟨S28x224, .f32⟩ : BufTy).Contents (Elt F)),
    nullary main_cst_56 (constant S_ .f32 0x00000000#32),
    binary main_v208 main_cst_56 main_v209 ((fun x v => Host.reduceAdd x v reducesTo_S28x224_S224_d0 h_S_) : (⟨S28x224, .f32⟩ : BufTy).Contents (Elt F) → (⟨S_, .f32⟩ : BufTy).Contents (Elt F) → (⟨S224, .f32⟩ : BufTy).Contents (Elt F)),
    unary main_v209 main_v210 (broadcastInDim S1x224 ![1] bcast_S224_S1x224_1 : (⟨S224, .f32⟩ : BufTy).Contents (Elt F) → (⟨S1x224, .f32⟩ : BufTy).Contents (Elt F)),
    unary main_v210 main_v211 (Host.absf : (⟨S1x224, .f32⟩ : BufTy).Contents (Elt F) → (⟨S1x224, .f32⟩ : BufTy).Contents (Elt F)),
    nullary main_cst_57 (constant S_ .f32 0x38FA0000#32),
    unary main_cst_57 main_v212 (broadcastInDim S1x224 ![] bcast_S_S1x224 : (⟨S_, .f32⟩ : BufTy).Contents (Elt F) → (⟨S1x224, .f32⟩ : BufTy).Contents (Elt F)),
    binary main_v211 main_v212 main_v213 (cmpf .ogt : (⟨S1x224, .f32⟩ : BufTy).Contents (Elt F) → (⟨S1x224, .f32⟩ : BufTy).Contents (Elt F) → (⟨S1x224, .i1⟩ : BufTy).Contents (Elt F)),
    nullary main_cst_58 (constant S_ .f32 0x00000000#32),
    unary main_cst_58 main_v214 (broadcastInDim S1x224 ![] bcast_S_S1x224 : (⟨S_, .f32⟩ : BufTy).Contents (Elt F) → (⟨S1x224, .f32⟩ : BufTy).Contents (Elt F)),
    binary main_v210 main_v214 main_v215 (cmpf .une : (⟨S1x224, .f32⟩ : BufTy).Contents (Elt F) → (⟨S1x224, .f32⟩ : BufTy).Contents (Elt F) → (⟨S1x224, .i1⟩ : BufTy).Contents (Elt F)),
    nullary main_cst_59 (constant S_ .f32 0x3F800000#32),
    unary main_cst_59 main_v216 (broadcastInDim S1x224 ![] bcast_S_S1x224 : (⟨S_, .f32⟩ : BufTy).Contents (Elt F) → (⟨S1x224, .f32⟩ : BufTy).Contents (Elt F)),
    ternary main_v215 main_v210 main_v216 main_v217 (select : (⟨S1x224, .i1⟩ : BufTy).Contents (Elt F) → (⟨S1x224, .f32⟩ : BufTy).Contents (Elt F) → (⟨S1x224, .f32⟩ : BufTy).Contents (Elt F) → (⟨S1x224, .f32⟩ : BufTy).Contents (Elt F)),
    unary main_v217 main_v218 (broadcastInDim S28x224 ![0, 1] bcast_S1x224_S28x224_0_1 : (⟨S1x224, .f32⟩ : BufTy).Contents (Elt F) → (⟨S28x224, .f32⟩ : BufTy).Contents (Elt F)),
    binary main_v208 main_v218 main_v219 (Host.divf : (⟨S28x224, .f32⟩ : BufTy).Contents (Elt F) → (⟨S28x224, .f32⟩ : BufTy).Contents (Elt F) → (⟨S28x224, .f32⟩ : BufTy).Contents (Elt F)),
    unary main_v213 main_v220 (broadcastInDim S28x224 ![0, 1] bcast_S1x224_S28x224_0_1 : (⟨S1x224, .i1⟩ : BufTy).Contents (Elt F) → (⟨S28x224, .i1⟩ : BufTy).Contents (Elt F)),
    nullary main_cst_60 (constant S_ .f32 0x00000000#32),
    unary main_cst_60 main_v221 (broadcastInDim S28x224 ![] bcast_S_S28x224 : (⟨S_, .f32⟩ : BufTy).Contents (Elt F) → (⟨S28x224, .f32⟩ : BufTy).Contents (Elt F)),
    ternary main_v220 main_v219 main_v221 main_v222 (select : (⟨S28x224, .i1⟩ : BufTy).Contents (Elt F) → (⟨S28x224, .f32⟩ : BufTy).Contents (Elt F) → (⟨S28x224, .f32⟩ : BufTy).Contents (Elt F) → (⟨S28x224, .f32⟩ : BufTy).Contents (Elt F)),
    nullary main_cst_61 (constant S_ .f32 0xBF000000#32),
    unary main_cst_61 main_v223 (broadcastInDim S224 ![] bcast_S_S224 : (⟨S_, .f32⟩ : BufTy).Contents (Elt F) → (⟨S224, .f32⟩ : BufTy).Contents (Elt F)),
    binary main_v193 main_v223 main_v224 (cmpf .oge : (⟨S224, .f32⟩ : BufTy).Contents (Elt F) → (⟨S224, .f32⟩ : BufTy).Contents (Elt F) → (⟨S224, .i1⟩ : BufTy).Contents (Elt F)),
    nullary main_cst_62 (constant S_ .f32 0x41DC0000#32),
    unary main_cst_62 main_v225 (broadcastInDim S224 ![] bcast_S_S224 : (⟨S_, .f32⟩ : BufTy).Contents (Elt F) → (⟨S224, .f32⟩ : BufTy).Contents (Elt F)),
    binary main_v193 main_v225 main_v226 (cmpf .ole : (⟨S224, .f32⟩ : BufTy).Contents (Elt F) → (⟨S224, .f32⟩ : BufTy).Contents (Elt F) → (⟨S224, .i1⟩ : BufTy).Contents (Elt F)),
    binary main_v224 main_v226 main_v227 (andi : (⟨S224, .i1⟩ : BufTy).Contents (Elt F) → (⟨S224, .i1⟩ : BufTy).Contents (Elt F) → (⟨S224, .i1⟩ : BufTy).Contents (Elt F)),
    unary main_v227 main_v228 (broadcastInDim S1x224 ![1] bcast_S224_S1x224_1 : (⟨S224, .i1⟩ : BufTy).Contents (Elt F) → (⟨S1x224, .i1⟩ : BufTy).Contents (Elt F)),
    unary main_v228 main_v229 (broadcastInDim S28x224 ![0, 1] bcast_S1x224_S28x224_0_1 : (⟨S1x224, .i1⟩ : BufTy).Contents (Elt F) → (⟨S28x224, .i1⟩ : BufTy).Contents (Elt F)),
    nullary main_cst_63 (constant S_ .f32 0x00000000#32),
    unary main_cst_63 main_v230 (broadcastInDim S28x224 ![] bcast_S_S28x224 : (⟨S_, .f32⟩ : BufTy).Contents (Elt F) → (⟨S28x224, .f32⟩ : BufTy).Contents (Elt F)),
    ternary main_v229 main_v222 main_v230 main_v231 (select : (⟨S28x224, .i1⟩ : BufTy).Contents (Elt F) → (⟨S28x224, .f32⟩ : BufTy).Contents (Elt F) → (⟨S28x224, .f32⟩ : BufTy).Contents (Elt F) → (⟨S28x224, .f32⟩ : BufTy).Contents (Elt F)) ]

/-- @main's operations 309 … 352 of 352 (window `main_part5`). -/
abbrev ops_part5 : List (HloOp τ sig (Elt F)) :=
  [ binary main_v183 main_v135 main_v232 ((fun l r => Host.dotGeneral dot_S28x224_S4x1x28x28_S224x4x1x28_0_2_1_013_n_n (some .fp32) l r) : (⟨S28x224, .f32⟩ : BufTy).Contents (Elt F) → (⟨S4x1x28x28, .f32⟩ : BufTy).Contents (Elt F) → (⟨S224x4x1x28, .f32⟩ : BufTy).Contents (Elt F)),
    binary main_v232 main_v231 main_v233 ((fun l r => Host.dotGeneral dot_S224x4x1x28_S28x224_S224x4x1x224_3_0_012_1_n_n (some .fp32) l r) : (⟨S224x4x1x28, .f32⟩ : BufTy).Contents (Elt F) → (⟨S28x224, .f32⟩ : BufTy).Contents (Elt F) → (⟨S224x4x1x224, .f32⟩ : BufTy).Contents (Elt F)),
    unary main_v233 main_v234 ((transpose S4x1x224x224 [1, 2, 0, 3] · transposes_S224x4x1x224_S4x1x224x224_1_2_0_3) : (⟨S224x4x1x224, .f32⟩ : BufTy).Contents (Elt F) → (⟨S4x1x224x224, .f32⟩ : BufTy).Contents (Elt F)),
    nullary main_v235 (iotaInDim S224 32 0),
    unary main_v235 main_v236 (broadcastInDim S224x1 ![0] bcast_S224_S224x1_0 : (⟨S224, .i32⟩ : BufTy).Contents (Elt F) → (⟨S224x1, .i32⟩ : BufTy).Contents (Elt F)),
    nullary main_v237 (iotaInDim S33 32 0),
    unary main_v237 main_v238 (broadcastInDim S1x33 ![1] bcast_S33_S1x33_1 : (⟨S33, .i32⟩ : BufTy).Contents (Elt F) → (⟨S1x33, .i32⟩ : BufTy).Contents (Elt F)),
    unary main_v236 main_v239 (broadcastInDim S224x33 ![0, 1] bcast_S224x1_S224x33_0_1 : (⟨S224x1, .i32⟩ : BufTy).Contents (Elt F) → (⟨S224x33, .i32⟩ : BufTy).Contents (Elt F)),
    unary main_v238 main_v240 (broadcastInDim S224x33 ![0, 1] bcast_S1x33_S224x33_0_1 : (⟨S1x33, .i32⟩ : BufTy).Contents (Elt F) → (⟨S224x33, .i32⟩ : BufTy).Contents (Elt F)),
    binary main_v239 main_v240 main_v241 (addi : (⟨S224x33, .i32⟩ : BufTy).Contents (Elt F) → (⟨S224x33, .i32⟩ : BufTy).Contents (Elt F) → (⟨S224x33, .i32⟩ : BufTy).Contents (Elt F)),
    nullary main_c_64 (constantI S_ 32 0#32),
    TRef.unary (TRef.of (T := ⟨S_, .i32⟩) main_c_64) (TRef.of (T := ⟨S_, .f32⟩) main_call2_v0) (sitofp .f32),
    TRef.binary (TRef.of (T := ⟨S4x1x224x224, .f32⟩) main_v234) (TRef.of (T := ⟨S_, .f32⟩) main_call2_v0) (TRef.of (T := ⟨S4x1x256x224, .f32⟩) main_v242) (fun x v => pad S4x1x256x224 ![0, 0, 16, 0] ![0, 0, 16, 0] ![0, 0, 0, 0] x v pads_S4x1x224x224_S4x1x256x224_000_000_16160_000 h_S_),
    nullary main_c_65 (constantI S_ 32 0#32),
    unary main_c_65 main_v243 (broadcastInDim S224x33 ![] bcast_S_S224x33 : (⟨S_, .i32⟩ : BufTy).Contents (Elt F) → (⟨S224x33, .i32⟩ : BufTy).Contents (Elt F)),
    binary main_v241 main_v243 main_v244 (cmpi .slt : (⟨S224x33, .i32⟩ : BufTy).Contents (Elt F) → (⟨S224x33, .i32⟩ : BufTy).Contents (Elt F) → (⟨S224x33, .i1⟩ : BufTy).Contents (Elt F)),
    nullary main_c_66 (constantI S_ 32 256#32),
    unary main_c_66 main_v245 (broadcastInDim S224x33 ![] bcast_S_S224x33 : (⟨S_, .i32⟩ : BufTy).Contents (Elt F) → (⟨S224x33, .i32⟩ : BufTy).Contents (Elt F)),
    binary main_v241 main_v245 main_v246 (addi : (⟨S224x33, .i32⟩ : BufTy).Contents (Elt F) → (⟨S224x33, .i32⟩ : BufTy).Contents (Elt F) → (⟨S224x33, .i32⟩ : BufTy).Contents (Elt F)),
    ternary main_v244 main_v246 main_v241 main_v247 (select : (⟨S224x33, .i1⟩ : BufTy).Contents (Elt F) → (⟨S224x33, .i32⟩ : BufTy).Contents (Elt F) → (⟨S224x33, .i32⟩ : BufTy).Contents (Elt F) → (⟨S224x33, .i32⟩ : BufTy).Contents (Elt F)),
    unary main_v247 main_v248 (broadcastInDim S224x33x1 ![0, 1] bcast_S224x33_S224x33x1_0_1 : (⟨S224x33, .i32⟩ : BufTy).Contents (Elt F) → (⟨S224x33x1, .i32⟩ : BufTy).Contents (Elt F)),
    binary main_v242 main_v248 main_v249 ((fun x i => Host.gather gather_S4x1x256x224_S224x33x1_S4x1x224x33x224_014_2_n_n_2_2_411224 x i) : (⟨S4x1x256x224, .f32⟩ : BufTy).Contents (Elt F) → (⟨S224x33x1, .i32⟩ : BufTy).Contents (Elt F) → (⟨S4x1x224x33x224, .f32⟩ : BufTy).Contents (Elt F)),
    unary main_cst main_v250 (broadcastInDim S1x1x1x33x1 ![3] bcast_S33_S1x1x1x33x1_3 : (⟨S33, .f32⟩ : BufTy).Contents (Elt F) → (⟨S1x1x1x33x1, .f32⟩ : BufTy).Contents (Elt F)),
    unary main_v250 main_v251 (broadcastInDim S4x1x224x33x224 ![0, 1, 2, 3, 4] bcast_S1x1x1x33x1_S4x1x224x33x224_0_1_2_3_4 : (⟨S1x1x1x33x1, .f32⟩ : BufTy).Contents (Elt F) → (⟨S4x1x224x33x224, .f32⟩ : BufTy).Contents (Elt F)),
    binary main_v249 main_v251 main_v252 (mulf : (⟨S4x1x224x33x224, .f32⟩ : BufTy).Contents (Elt F) → (⟨S4x1x224x33x224, .f32⟩ : BufTy).Contents (Elt F) → (⟨S4x1x224x33x224, .f32⟩ : BufTy).Contents (Elt F)),
    nullary main_cst_67 (constant S_ .f32 0x00000000#32),
    binary main_v252 main_cst_67 main_v253 ((fun x v => Host.reduceAdd x v reducesTo_S4x1x224x33x224_S4x1x224x224_d3 h_S_) : (⟨S4x1x224x33x224, .f32⟩ : BufTy).Contents (Elt F) → (⟨S_, .f32⟩ : BufTy).Contents (Elt F) → (⟨S4x1x224x224, .f32⟩ : BufTy).Contents (Elt F)),
    nullary main_c_68 (constantI S_ 32 0#32),
    TRef.unary (TRef.of (T := ⟨S_, .i32⟩) main_c_68) (TRef.of (T := ⟨S_, .f32⟩) main_call3_v0) (sitofp .f32),
    TRef.binary (TRef.of (T := ⟨S4x1x224x224, .f32⟩) main_v253) (TRef.of (T := ⟨S_, .f32⟩) main_call3_v0) (TRef.of (T := ⟨S4x1x224x256, .f32⟩) main_v254) (fun x v => pad S4x1x224x256 ![0, 0, 0, 16] ![0, 0, 0, 16] ![0, 0, 0, 0] x v pads_S4x1x224x224_S4x1x224x256_000_000_000_16160 h_S_),
    nullary main_c_69 (constantI S_ 32 0#32),
    unary main_c_69 main_v255 (broadcastInDim S224x33 ![] bcast_S_S224x33 : (⟨S_, .i32⟩ : BufTy).Contents (Elt F) → (⟨S224x33, .i32⟩ : BufTy).Contents (Elt F)),
    binary main_v241 main_v255 main_v256 (cmpi .slt : (⟨S224x33, .i32⟩ : BufTy).Contents (Elt F) → (⟨S224x33, .i32⟩ : BufTy).Contents (Elt F) → (⟨S224x33, .i1⟩ : BufTy).Contents (Elt F)),
    nullary main_c_70 (constantI S_ 32 256#32),
    unary main_c_70 main_v257 (broadcastInDim S224x33 ![] bcast_S_S224x33 : (⟨S_, .i32⟩ : BufTy).Contents (Elt F) → (⟨S224x33, .i32⟩ : BufTy).Contents (Elt F)),
    binary main_v241 main_v257 main_v258 (addi : (⟨S224x33, .i32⟩ : BufTy).Contents (Elt F) → (⟨S224x33, .i32⟩ : BufTy).Contents (Elt F) → (⟨S224x33, .i32⟩ : BufTy).Contents (Elt F)),
    ternary main_v256 main_v258 main_v241 main_v259 (select : (⟨S224x33, .i1⟩ : BufTy).Contents (Elt F) → (⟨S224x33, .i32⟩ : BufTy).Contents (Elt F) → (⟨S224x33, .i32⟩ : BufTy).Contents (Elt F) → (⟨S224x33, .i32⟩ : BufTy).Contents (Elt F)),
    unary main_v259 main_v260 (broadcastInDim S224x33x1 ![0, 1] bcast_S224x33_S224x33x1_0_1 : (⟨S224x33, .i32⟩ : BufTy).Contents (Elt F) → (⟨S224x33x1, .i32⟩ : BufTy).Contents (Elt F)),
    binary main_v254 main_v260 main_v261 ((fun x i => Host.gather gather_S4x1x224x256_S224x33x1_S4x1x224x224x33_012_3_n_n_3_2_412241 x i) : (⟨S4x1x224x256, .f32⟩ : BufTy).Contents (Elt F) → (⟨S224x33x1, .i32⟩ : BufTy).Contents (Elt F) → (⟨S4x1x224x224x33, .f32⟩ : BufTy).Contents (Elt F)),
    unary main_cst main_v262 (broadcastInDim S1x1x1x1x33 ![4] bcast_S33_S1x1x1x1x33_4 : (⟨S33, .f32⟩ : BufTy).Contents (Elt F) → (⟨S1x1x1x1x33, .f32⟩ : BufTy).Contents (Elt F)),
    unary main_v262 main_v263 (broadcastInDim S4x1x224x224x33 ![0, 1, 2, 3, 4] bcast_S1x1x1x1x33_S4x1x224x224x33_0_1_2_3_4 : (⟨S1x1x1x1x33, .f32⟩ : BufTy).Contents (Elt F) → (⟨S4x1x224x224x33, .f32⟩ : BufTy).Contents (Elt F)),
    binary main_v261 main_v263 main_v264 (mulf : (⟨S4x1x224x224x33, .f32⟩ : BufTy).Contents (Elt F) → (⟨S4x1x224x224x33, .f32⟩ : BufTy).Contents (Elt F) → (⟨S4x1x224x224x33, .f32⟩ : BufTy).Contents (Elt F)),
    nullary main_cst_71 (constant S_ .f32 0x00000000#32),
    binary main_v264 main_cst_71 main_v265 ((fun x v => Host.reduceAdd x v reducesTo_S4x1x224x224x33_S4x1x224x224_d4 h_S_) : (⟨S4x1x224x224x33, .f32⟩ : BufTy).Contents (Elt F) → (⟨S_, .f32⟩ : BufTy).Contents (Elt F) → (⟨S4x1x224x224, .f32⟩ : BufTy).Contents (Elt F)) ]

/-- @main's 352 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨reshape_bufs_sub .., reshape_bufs_sub .., nullary_bufs_sub .., nullary_bufs_sub .., nullary_bufs_sub .., quaternary_bufs_sub .., quaternary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub .., reshape_bufs_sub .., binary_bufs_sub .., reshape_bufs_sub .., nullary_bufs_sub .., nullary_bufs_sub .., binary_bufs_sub .., nullary_bufs_sub .., nullary_bufs_sub .., unary_bufs_sub .., binary_bufs_sub .., nullary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., ternary_bufs_sub .., nullary_bufs_sub .., nullary_bufs_sub .., binary_bufs_sub .., nullary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., ternary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨binary_bufs_sub .., binary_bufs_sub .., unary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]
theorem ops_fresh : ∀ op ∈ (ops : List (HloOp τ sig (Elt F))), op.fresh = ∅ := fun op h => by
    simp only [ops, ops_part0, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h]

set_option maxRecDepth 8192 in
/-- `main_cst`'s composed term of the arguments (named: it is used 2 times). -/
def res_main_cst (V0 : Valuation τ sig (Elt F)) : (Proc.devRef .tc main_cst : DevRef τ sig).ty.Contents (Elt F) :=
  (fun i => FloatOps.ofBits .f32 (lit0 (S33.rowMajor i)))

set_option maxRecDepth 8192 in
/-- `main_v17`'s composed term of the arguments (named: it is used 3 times). -/
def res_main_v17 (V0 : Valuation τ sig (Elt F)) : (Proc.devRef .tc main_v17 : DevRef τ sig).ty.Contents (Elt F) :=
  Host.sqrt (maximumf (addf (subf (broadcastInDim S3136x16384 ![0, 1] bcast_S3136x1_S3136x16384_0_1 (broadcastInDim S3136x1 ![0] bcast_S3136_S3136x1_0 (Host.reduceAdd (mulf (V0 (Proc.devRef .tc main_arg0)) (V0 (Proc.devRef .tc main_arg0))) (constant S_ .f32 0x00000000#32) reducesTo_S3136x384_S3136_d1 h_S_))) (mulf (broadcastInDim S3136x16384 ![] bcast_S_S3136x16384 (constant S_ .f32 0x40000000#32)) (Host.dotGeneral dot_S3136x384_S384x16384_S3136x16384_1_0_0_1_n_n none (V0 (Proc.devRef .tc main_arg0)) (transpose S384x16384 [1, 0] (V0 (Proc.devRef .tc main_arg1)) transposes_S16384x384_S384x16384_1_0)))) (broadcastInDim S3136x16384 ![0, 1] bcast_S1x16384_S3136x16384_0_1 (transpose S1x16384 [1, 0] (broadcastInDim S16384x1 ![0] bcast_S16384_S16384x1_0 (Host.reduceAdd (mulf (V0 (Proc.devRef .tc main_arg1)) (V0 (Proc.devRef .tc main_arg1))) (constant S_ .f32 0x00000000#32) reducesTo_S16384x384_S16384_d1 h_S_)) transposes_S16384x1_S1x16384_1_0))) (broadcastInDim S3136x16384 ![] bcast_S_S3136x16384 (constant S_ .f32 0x00000000#32)))

set_option maxRecDepth 8192 in
/-- `main_v18`'s composed term of the arguments (named: it is long). -/
def res_main_v18 (V0 : Valuation τ sig (Elt F)) : (Proc.devRef .tc main_v18 : DevRef τ sig).ty.Contents (Elt F) :=
  Host.reduce FloatOps.minimumf (res_main_v17 V0) (constant S_ .f32 0x7F800000#32) reducesTo_S3136x16384_S3136_d1 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S3136x16384 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0x7F800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v19`'s composed term of the arguments (named: it is long). -/
def res_main_v19 (V0 : Valuation τ sig (Elt F)) : (Proc.devRef .tc main_v19 : DevRef τ sig).ty.Contents (Elt F) :=
  (fun j => (Host.argReduce reducer_argmin_f32_i32 (res_main_v17 V0) (res_main_call0_v0 V0) (res_main_call0_cst V0) (res_main_call0_c V0) reducesTo_S3136x16384_S3136_d1 h_S_ j).2)

set_option maxRecDepth 8192 in
/-- `main_v20`'s composed term of the arguments (named: it is used 4 times). -/
def res_main_v20 (V0 : Valuation τ sig (Elt F)) : (Proc.devRef .tc main_v20 : DevRef τ sig).ty.Contents (Elt F) :=
  shapeCast _ (res_main_v18 V0) shapeCasts_S3136_S4x784

set_option maxRecDepth 8192 in
/-- `main_v21`'s composed term of the arguments (named: it is long). -/
def res_main_v21 (V0 : Valuation τ sig (Elt F)) : (Proc.devRef .tc main_v21 : DevRef τ sig).ty.Contents (Elt F) :=
  shapeCast _ (res_main_v19 V0) shapeCasts_S3136_S4x784

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S4x784 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v22`'s composed term of the arguments (named: it is used 9 times). -/
def res_main_v22 (V0 : Valuation τ sig (Elt F)) : (Proc.devRef .tc main_v22 : DevRef τ sig).ty.Contents (Elt F) :=
  (fun j => (Host.argReduce reducer_argmax_f32_i32 (res_main_v20 V0) (res_main_call1_v0 V0) (res_main_call1_cst V0) (res_main_call1_c V0) reducesTo_S4x784_S4_d1 h_S_ j).2)

set_option maxRecDepth 8192 in
/-- `main_v24`'s composed term of the arguments (named: it is used 9 times). -/
def res_main_v24 (V0 : Valuation τ sig (Elt F)) : (Proc.devRef .tc main_v24 : DevRef τ sig).ty.Contents (Elt F) :=
  iotaInDim S4 32 0

set_option maxRecDepth 8192 in
/-- `main_v38`'s composed term of the arguments (named: it is long). -/
def res_main_v38 (V0 : Valuation τ sig (Elt F)) : (Proc.devRef .tc main_v38 : DevRef τ sig).ty.Contents (Elt F) :=
  Host.gather gather_S4x784x384_S4x2_S4x384_1_01_n_n_01_1_11384 (shapeCast _ (V0 (Proc.devRef .tc main_arg0)) shapeCasts_S3136x384_S4x784x384) (concatenate S4x2 1 [⟨S4x1, (broadcastInDim S4x1 ![0] bcast_S4_S4x1_0 (select (cmpi .slt (res_main_v24 V0) (broadcastInDim S4 ![] bcast_S_S4 (constantI S_ 32 0#32))) (addi (res_main_v24 V0) (broadcastInDim S4 ![] bcast_S_S4 (constantI S_ 32 4#32))) (res_main_v24 V0)))⟩, ⟨S4x1, (broadcastInDim S4x1 ![0] bcast_S4_S4x1_0 (select (cmpi .slt (res_main_v22 V0) (broadcastInDim S4 ![] bcast_S_S4 (constantI S_ 32 0#32))) (addi (res_main_v22 V0) (broadcastInDim S4 ![] bcast_S_S4 (constantI S_ 32 784#32))) (res_main_v22 V0)))⟩] concatenates_S4x1_S4x1_S4x2_d1)

set_option maxRecDepth 8192 in
/-- `main_v52`'s composed term of the arguments (named: it is long). -/
def res_main_v52 (V0 : Valuation τ sig (Elt F)) : (Proc.devRef .tc main_v52 : DevRef τ sig).ty.Contents (Elt F) :=
  Host.gather gather_S4x784_S4x2_S4_n_01_n_n_01_1_11 (res_main_v20 V0) (concatenate S4x2 1 [⟨S4x1, (broadcastInDim S4x1 ![0] bcast_S4_S4x1_0 (select (cmpi .slt (res_main_v24 V0) (broadcastInDim S4 ![] bcast_S_S4 (constantI S_ 32 0#32))) (addi (res_main_v24 V0) (broadcastInDim S4 ![] bcast_S_S4 (constantI S_ 32 4#32))) (res_main_v24 V0)))⟩, ⟨S4x1, (broadcastInDim S4x1 ![0] bcast_S4_S4x1_0 (select (cmpi .slt (res_main_v22 V0) (broadcastInDim S4 ![] bcast_S_S4 (constantI S_ 32 0#32))) (addi (res_main_v22 V0) (broadcastInDim S4 ![] bcast_S_S4 (constantI S_ 32 784#32))) (res_main_v22 V0)))⟩] concatenates_S4x1_S4x1_S4x2_d1)

set_option maxRecDepth 8192 in
/-- `main_v66`'s composed term of the arguments (named: it is used 3 times). -/
def res_main_v66 (V0 : Valuation τ sig (Elt F)) : (Proc.devRef .tc main_v66 : DevRef τ sig).ty.Contents (Elt F) :=
  Host.gather gather_S4x784_S4x2_S4_n_01_n_n_01_1_11 (res_main_v21 V0) (concatenate S4x2 1 [⟨S4x1, (broadcastInDim S4x1 ![0] bcast_S4_S4x1_0 (select (cmpi .slt (res_main_v24 V0) (broadcastInDim S4 ![] bcast_S_S4 (constantI S_ 32 0#32))) (addi (res_main_v24 V0) (broadcastInDim S4 ![] bcast_S_S4 (constantI S_ 32 4#32))) (res_main_v24 V0)))⟩, ⟨S4x1, (broadcastInDim S4x1 ![0] bcast_S4_S4x1_0 (select (cmpi .slt (res_main_v22 V0) (broadcastInDim S4 ![] bcast_S_S4 (constantI S_ 32 0#32))) (addi (res_main_v22 V0) (broadcastInDim S4 ![] bcast_S_S4 (constantI S_ 32 784#32))) (res_main_v22 V0)))⟩] concatenates_S4x1_S4x1_S4x2_d1)

set_option maxRecDepth 8192 in
/-- `main_v73`'s composed term of the arguments (named: it is used 3 times). -/
def res_main_v73 (V0 : Valuation τ sig (Elt F)) : (Proc.devRef .tc main_v73 : DevRef τ sig).ty.Contents (Elt F) :=
  Host.gather gather_S16384x384_S4x1_S4x384_1_0_n_n_0_1_1384 (V0 (Proc.devRef .tc main_arg1)) (broadcastInDim S4x1 ![0] bcast_S4_S4x1_0 (select (cmpi .slt (res_main_v66 V0) (broadcastInDim S4 ![] bcast_S_S4 (constantI S_ 32 0#32))) (addi (res_main_v66 V0) (broadcastInDim S4 ![] bcast_S_S4 (constantI S_ 32 16384#32))) (res_main_v66 V0)))

set_option maxRecDepth 8192 in
/-- `main_v92`'s composed term of the arguments (named: it is used 2 times). -/
def res_main_v92 (V0 : Valuation τ sig (Elt F)) : (Proc.devRef .tc main_v92 : DevRef τ sig).ty.Contents (Elt F) :=
  Host.negf (Host.sqrt (maximumf (addf (subf (broadcastInDim S4x16384 ![0, 1] bcast_S4x1_S4x16384_0_1 (broadcastInDim S4x1 ![0] bcast_S4_S4x1_0 (Host.reduceAdd (mulf (res_main_v73 V0) (res_main_v73 V0)) (constant S_ .f32 0x00000000#32) reducesTo_S4x384_S4_d1 h_S_))) (mulf (broadcastInDim S4x16384 ![] bcast_S_S4x16384 (constant S_ .f32 0x40000000#32)) (Host.dotGeneral dot_S4x384_S384x16384_S4x16384_1_0_0_1_n_n none (res_main_v73 V0) (transpose S384x16384 [1, 0] (V0 (Proc.devRef .tc main_arg1)) transposes_S16384x384_S384x16384_1_0)))) (broadcastInDim S4x16384 ![0, 1] bcast_S1x16384_S4x16384_0_1 (transpose S1x16384 [1, 0] (broadcastInDim S16384x1 ![0] bcast_S16384_S16384x1_0 (Host.reduceAdd (mulf (V0 (Proc.devRef .tc main_arg1)) (V0 (Proc.devRef .tc main_arg1))) (constant S_ .f32 0x00000000#32) reducesTo_S16384x384_S16384_d1 h_S_)) transposes_S16384x1_S1x16384_1_0))) (broadcastInDim S4x16384 ![] bcast_S_S4x16384 (constant S_ .f32 0x00000000#32))))

set_option maxRecDepth 8192 in
/-- `main_indices`'s composed term of the arguments (named: it is used 3 times). -/
def res_main_indices (V0 : Valuation τ sig (Elt F)) : (Proc.devRef .tc main_indices : DevRef τ sig).ty.Contents (Elt F) :=
  (Host.topK S4x9 1 (FloatOps.cmpfTotal .gt) (res_main_v92 V0) sliceFits_S4x16384_S4x9).2

set_option maxRecDepth 8192 in
/-- `main_v99`'s composed term of the arguments (named: it is used 3 times). -/
def res_main_v99 (V0 : Valuation τ sig (Elt F)) : (Proc.devRef .tc main_v99 : DevRef τ sig).ty.Contents (Elt F) :=
  Host.gather gather_S16384x384_S4x9x1_S4x9x384_2_0_n_n_0_2_1384 (V0 (Proc.devRef .tc main_arg1)) (broadcastInDim S4x9x1 ![0, 1] bcast_S4x9_S4x9x1_0_1 (select (cmpi .slt (res_main_indices V0) (broadcastInDim S4x9 ![] bcast_S_S4x9 (constantI S_ 32 0#32))) (addi (res_main_indices V0) (broadcastInDim S4x9 ![] bcast_S_S4x9 (constantI S_ 32 16384#32))) (res_main_indices V0)))

set_option maxRecDepth 8192 in
/-- `main_v100`'s composed term of the arguments (named: it is used 3 times). -/
def res_main_v100 (V0 : Valuation τ sig (Elt F)) : (Proc.devRef .tc main_v100 : DevRef τ sig).ty.Contents (Elt F) :=
  broadcastInDim S4x1x384 ![0, 2] bcast_S4x384_S4x1x384_0_2 (res_main_v38 V0)

set_option maxRecDepth 8192 in
/-- `main_v118`'s composed term of the arguments (named: it is used 2 times). -/
def res_main_v118 (V0 : Valuation τ sig (Elt F)) : (Proc.devRef .tc main_v118 : DevRef τ sig).ty.Contents (Elt F) :=
  shapeCast _ (Host.sqrt (maximumf (addf (subf (broadcastInDim S4x1x9 ![0, 1, 2] bcast_S4x1x1_S4x1x9_0_1_2 (broadcastInDim S4x1x1 ![0, 1] bcast_S4x1_S4x1x1_0_1 (Host.reduceAdd (mulf (res_main_v100 V0) (res_main_v100 V0)) (constant S_ .f32 0x00000000#32) reducesTo_S4x1x384_S4x1_d2 h_S_))) (mulf (broadcastInDim S4x1x9 ![] bcast_S_S4x1x9 (constant S_ .f32 0x40000000#32)) (Host.dotGeneral dot_S4x1x384_S4x384x9_S4x1x9_2_1_1_2_0_0 none (res_main_v100 V0) (transpose S4x384x9 [0, 2, 1] (res_main_v99 V0) transposes_S4x9x384_S4x384x9_0_2_1)))) (transpose S4x1x9 [0, 2, 1] (broadcastInDim S4x9x1 ![0, 1] bcast_S4x9_S4x9x1_0_1 (Host.reduceAdd (mulf (res_main_v99 V0) (res_main_v99 V0)) (constant S_ .f32 0x00000000#32) reducesTo_S4x9x384_S4x9_d2 h_S_)) transposes_S4x9x1_S4x1x9_0_2_1)) (broadcastInDim S4x1x9 ![] bcast_S_S4x1x9 (constant S_ .f32 0x00000000#32)))) shapeCasts_S4x1x9_S4x9

set_option maxRecDepth 8192 in
/-- `main_v125`'s composed term of the arguments (named: it is used 2 times). -/
def res_main_v125 (V0 : Valuation τ sig (Elt F)) : (Proc.devRef .tc main_v125 : DevRef τ sig).ty.Contents (Elt F) :=
  Host.exp (subf (res_main_v118 V0) (broadcastInDim S4x9 ![0, 1] bcast_S4x1_S4x9_0_1 (broadcastInDim S4x1 ![0] bcast_S4_S4x1_0 (maximumf (broadcastInDim S4 ![] bcast_S_S4 (constant S_ .f32 0xFF800000#32)) (Host.reduce FloatOps.maximumf (res_main_v118 V0) (constant S_ .f32 0xFF800000#32) reducesTo_S4x9_S4_d1 h_S_)))))

set_option maxRecDepth 8192 in
/-- `main_v145`'s composed term of the arguments (named: it is used 3 times). -/
def res_main_v145 (V0 : Valuation τ sig (Elt F)) : (Proc.devRef .tc main_v145 : DevRef τ sig).ty.Contents (Elt F) :=
  subf (subf (mulf (addf (sitofp .f32 (iotaInDim S224 32 0)) (broadcastInDim S224 ![] bcast_S_S224 (constant S_ .f32 0x3F000000#32))) (broadcastInDim S224 ![] bcast_S_S224 (constant S_ .f32 0x3E000000#32))) (broadcastInDim S224 ![] bcast_S_S224 (constant S_ .f32 0x00000000#32))) (broadcastInDim S224 ![] bcast_S_S224 (constant S_ .f32 0x3F000000#32))

set_option maxRecDepth 8192 in
/-- `main_v160`'s composed term of the arguments (named: it is used 2 times). -/
def res_main_v160 (V0 : Valuation τ sig (Elt F)) : (Proc.devRef .tc main_v160 : DevRef τ sig).ty.Contents (Elt F) :=
  maximumf (broadcastInDim S28x224 ![] bcast_S_S28x224 (constant S_ .f32 0x00000000#32)) (subf (broadcastInDim S28x224 ![] bcast_S_S28x224 (constant S_ .f32 0x3F800000#32)) (Host.absf (Host.divf (Host.absf (subf (broadcastInDim S28x224 ![0, 1] bcast_S1x224_S28x224_0_1 (broadcastInDim S1x224 ![1] bcast_S224_S1x224_1 (res_main_v145 V0))) (broadcastInDim S28x224 ![0, 1] bcast_S28x1_S28x224_0_1 (broadcastInDim S28x1 ![0] bcast_S28_S28x1_0 (sitofp .f32 (iotaInDim S28 32 0)))))) (broadcastInDim S28x224 ![] bcast_S_S28x224 (id (maximumf (constant S_ .f32 0x3E000000#32) (constant S_ .f32 0x3F800000#32)))))))

set_option maxRecDepth 8192 in
/-- `main_v162`'s composed term of the arguments (named: it is used 3 times). -/
def res_main_v162 (V0 : Valuation τ sig (Elt F)) : (Proc.devRef .tc main_v162 : DevRef τ sig).ty.Contents (Elt F) :=
  broadcastInDim S1x224 ![1] bcast_S224_S1x224_1 (Host.reduceAdd (res_main_v160 V0) (constant S_ .f32 0x00000000#32) reducesTo_S28x224_S224_d0 h_S_)

set_option maxRecDepth 8192 in
/-- `main_v193`'s composed term of the arguments (named: it is used 3 times). -/
def res_main_v193 (V0 : Valuation τ sig (Elt F)) : (Proc.devRef .tc main_v193 : DevRef τ sig).ty.Contents (Elt F) :=
  subf (subf (mulf (addf (sitofp .f32 (iotaInDim S224 32 0)) (broadcastInDim S224 ![] bcast_S_S224 (constant S_ .f32 0x3F000000#32))) (broadcastInDim S224 ![] bcast_S_S224 (constant S_ .f32 0x3E000000#32))) (broadcastInDim S224 ![] bcast_S_S224 (constant S_ .f32 0x00000000#32))) (broadcastInDim S224 ![] bcast_S_S224 (constant S_ .f32 0x3F000000#32))

set_option maxRecDepth 8192 in
/-- `main_v208`'s composed term of the arguments (named: it is used 2 times). -/
def res_main_v208 (V0 : Valuation τ sig (Elt F)) : (Proc.devRef .tc main_v208 : DevRef τ sig).ty.Contents (Elt F) :=
  maximumf (broadcastInDim S28x224 ![] bcast_S_S28x224 (constant S_ .f32 0x00000000#32)) (subf (broadcastInDim S28x224 ![] bcast_S_S28x224 (constant S_ .f32 0x3F800000#32)) (Host.absf (Host.divf (Host.absf (subf (broadcastInDim S28x224 ![0, 1] bcast_S1x224_S28x224_0_1 (broadcastInDim S1x224 ![1] bcast_S224_S1x224_1 (res_main_v193 V0))) (broadcastInDim S28x224 ![0, 1] bcast_S28x1_S28x224_0_1 (broadcastInDim S28x1 ![0] bcast_S28_S28x1_0 (sitofp .f32 (iotaInDim S28 32 0)))))) (broadcastInDim S28x224 ![] bcast_S_S28x224 (id (maximumf (constant S_ .f32 0x3E000000#32) (constant S_ .f32 0x3F800000#32)))))))

set_option maxRecDepth 8192 in
/-- `main_v210`'s composed term of the arguments (named: it is used 3 times). -/
def res_main_v210 (V0 : Valuation τ sig (Elt F)) : (Proc.devRef .tc main_v210 : DevRef τ sig).ty.Contents (Elt F) :=
  broadcastInDim S1x224 ![1] bcast_S224_S1x224_1 (Host.reduceAdd (res_main_v208 V0) (constant S_ .f32 0x00000000#32) reducesTo_S28x224_S224_d0 h_S_)

set_option maxRecDepth 8192 in
/-- `main_v241`'s composed term of the arguments (named: it is used 6 times). -/
def res_main_v241 (V0 : Valuation τ sig (Elt F)) : (Proc.devRef .tc main_v241 : DevRef τ sig).ty.Contents (Elt F) :=
  addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))

end Cert.ReferenceIdeal.Value

end
-- ==== Proof.RefRun.lean ====
/-
  The reference's run read back: every fair execution ends with each result buffer at the operations' composed term of the
  arguments' launch contents, the arguments unchanged.
-/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_cst_0, main_v1, main_v2, main_v3, main_cst_1, main_v4, main_v5, main_v6, main_v7, main_cst_2, main_v8, main_v9, main_v10, main_v11, main_v12, main_v13, main_v14, main_cst_3, main_v15, main_v16, main_v17, main_cst_4, main_v18, main_call0_v0, main_call0_cst, main_call0_c, main_call0_v1_0, main_v19]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_cst (V0 : Valuation τ sig (Elt F)) : val0_1 V0 (no_index (Proc.devRef .tc main_cst)) = res_main_cst V0 := by
  unfold val0_1
  simp only [ops_part0_0, TRef.nullary, TRef.quaternary, TRef.toBuf, TRef.ofBuf, cast_eq]
  after_results_simp
  all_goals rfl
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.nullary, TRef.quaternary, TRef.toBuf, TRef.ofBuf, cast_eq]
  after_results_simp
  simp only [val0_main_arg1, val0_main_arg0] <;> rfl
set_option maxRecDepth 8192 in
set_option maxHeartbeats 2000000 in
theorem val0_1_main_v19 (V0 : Valuation τ sig (Elt F)) : val0_1 V0 (no_index (Proc.devRef .tc main_v19)) = res_main_v19 V0 := by
  unfold val0_1
  simp only [ops_part0_0, TRef.nullary, TRef.quaternary, TRef.toBuf, TRef.ofBuf, cast_eq]
  after_results_simp
  simp only [val0_main_arg1, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v20, main_v21, main_call1_v0, main_call1_cst, main_call1_c, main_call1_v1_0, main_v22, main_v23, main_v24, main_c, main_v25, main_v26, main_c_5, main_v27, main_v28, main_v29, main_c_6, main_v30, main_v31, main_c_7, main_v32, main_v33, main_v34, main_v35, main_v36, main_v37, main_v38, main_c_8, main_v39, main_v40]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_cst (V0 : Valuation τ sig (Elt F)) : val0_2 V0 (no_index (Proc.devRef .tc main_cst)) = res_main_cst V0 :=
  (val0_2_keep V0 main_cst (by decide)).trans (val0_1_main_cst V0)
set_option maxRecDepth 8192 in
set_option maxHeartbeats 2000000 in
theorem val0_2_main_v20 (V0 : Valuation τ sig (Elt F)) : val0_2 V0 (no_index (Proc.devRef .tc main_v20)) = res_main_v20 V0 := by
  unfold val0_2
  simp only [ops_part0_1, TRef.nullary, TRef.quaternary, TRef.toBuf, TRef.ofBuf, cast_eq]
  after_results_simp
  simp only [val0_1_main_v18] <;> rfl
set_option maxRecDepth 8192 in
set_option maxHeartbeats 2000000 in
theorem val0_2_main_v21' (V0 : Valuation τ sig (Elt F)) (X : (Proc.devRef .tc main_v19 : DevRef τ sig).ty.Contents (Elt F))
    (h : val0_1 V0 (Proc.devRef .tc main_v19) = X) :
    val0_2 V0 (Proc.devRef .tc main_v21) = (shapeCast _ X shapeCasts_S3136_S4x784 : (⟨S4x784, .i32⟩ : BufTy).Contents (Elt F)) := by
  unfold val0_2
  simp only [ops_part0_1, TRef.nullary, TRef.quaternary, TRef.toBuf, TRef.ofBuf, cast_eq]
  after_results_simp
  simp only [h] <;> rfl
theorem val0_2_main_v21 (V0 : Valuation τ sig (Elt F)) : val0_2 V0 (no_index (Proc.devRef .tc main_v21)) = res_main_v21 V0 :=
  val0_2_main_v21' V0 _ (val0_1_main_v19 V0)
set_option maxRecDepth 8192 in
set_option maxHeartbeats 2000000 in
theorem val0_2_main_v22 (V0 : Valuation τ sig (Elt F)) : val0_2 V0 (no_index (Proc.devRef .tc main_v22)) = res_main_v22 V0 := by
  unfold val0_2
  simp only [ops_part0_1, TRef.nullary, TRef.quaternary, TRef.toBuf, TRef.ofBuf, cast_eq]
  after_results_simp
  simp only [val0_1_main_v18] <;> rfl
set_option maxRecDepth 8192 in
set_option maxHeartbeats 2000000 in
theorem val0_2_main_v24 (V0 : Valuation τ sig (Elt F)) : val0_2 V0 (no_index (Proc.devRef .tc main_v24)) = res_main_v24 V0 := by
  unfold val0_2
  simp only [ops_part0_1, TRef.nullary, TRef.quaternary, TRef.toBuf, TRef.ofBuf, cast_eq]
  after_results_simp
  all_goals rfl
set_option maxRecDepth 8192 in
set_option maxHeartbeats 2000000 in
theorem val0_2_main_v38 (V0 : Valuation τ sig (Elt F)) : val0_2 V0 (no_index (Proc.devRef .tc main_v38)) = res_main_v38 V0 := by
  unfold val0_2
  simp only [ops_part0_1, TRef.nullary, TRef.quaternary, TRef.toBuf, TRef.ofBuf, cast_eq]
  after_results_simp
  simp only [val0_1_main_v18, val0_1_main_arg0] <;> rfl
set_option maxRecDepth 8192 in
set_option maxHeartbeats 2000000 in
theorem val0_2_main_v40 (V0 : Valuation τ sig (Elt F)) : val0_2 V0 (no_index (Proc.devRef .tc main_v40)) = cmpi .slt (res_main_v24 V0) (broadcastInDim S4 ![] bcast_S_S4 (constantI S_ 32 0#32)) := by
  unfold val0_2
  simp only [ops_part0_1, TRef.nullary, TRef.quaternary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_c_9, main_v41, main_v42, main_v43, main_c_10, main_v44, main_v45, main_c_11]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_cst (V0 : Valuation τ sig (Elt F)) : val1 V0 (no_index (Proc.devRef .tc main_cst)) = res_main_cst V0 :=
  (val1_keep V0 main_cst (by decide)).trans (val0_2_main_cst V0)
theorem val1_main_v20 (V0 : Valuation τ sig (Elt F)) : val1 V0 (no_index (Proc.devRef .tc main_v20)) = res_main_v20 V0 :=
  (val1_keep V0 main_v20 (by decide)).trans (val0_2_main_v20 V0)
theorem val1_main_v21 (V0 : Valuation τ sig (Elt F)) : val1 V0 (no_index (Proc.devRef .tc main_v21)) = res_main_v21 V0 :=
  (val1_keep V0 main_v21 (by decide)).trans (val0_2_main_v21 V0)
theorem val1_main_v22 (V0 : Valuation τ sig (Elt F)) : val1 V0 (no_index (Proc.devRef .tc main_v22)) = res_main_v22 V0 :=
  (val1_keep V0 main_v22 (by decide)).trans (val0_2_main_v22 V0)
theorem val1_main_v24 (V0 : Valuation τ sig (Elt F)) : val1 V0 (no_index (Proc.devRef .tc main_v24)) = res_main_v24 V0 :=
  (val1_keep V0 main_v24 (by decide)).trans (val0_2_main_v24 V0)
theorem val1_main_v38 (V0 : Valuation τ sig (Elt F)) : val1 V0 (no_index (Proc.devRef .tc main_v38)) = res_main_v38 V0 :=
  (val1_keep V0 main_v38 (by decide)).trans (val0_2_main_v38 V0)
set_option maxRecDepth 8192 in
theorem val1_main_v43 (V0 : Valuation τ sig (Elt F)) : val1 V0 (no_index (Proc.devRef .tc main_v43)) = select (cmpi .slt (res_main_v24 V0) (broadcastInDim S4 ![] bcast_S_S4 (constantI S_ 32 0#32))) (addi (res_main_v24 V0) (broadcastInDim S4 ![] bcast_S_S4 (constantI S_ 32 4#32))) (res_main_v24 V0) := by
  unfold val1
  simp only [ops_part0_2]
  after_results_simp
  simp only [val0_2_main_v24, val0_2_main_v40] <;> rfl
set_option maxRecDepth 8192 in
theorem val1_main_v45 (V0 : Valuation τ sig (Elt F)) : val1 V0 (no_index (Proc.devRef .tc main_v45)) = cmpi .slt (res_main_v22 V0) (broadcastInDim S4 ![] bcast_S_S4 (constantI S_ 32 0#32)) := by
  unfold val1
  simp only [ops_part0_2]
  after_results_simp
  simp only [val0_2_main_v22] <;> rfl
set_option maxRecDepth 8192 in
theorem val1_main_c_11 (V0 : Valuation τ sig (Elt F)) : val1 V0 (no_index (Proc.devRef .tc main_c_11)) = constantI S_ 32 784#32 := by
  unfold val1
  simp only [ops_part0_2]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v46, main_v47, main_v48, main_v49, main_v50, main_v51, main_v52, main_c_12, main_v53, main_v54, main_c_13, main_v55, main_v56, main_v57, main_c_14, main_v58, main_v59, main_c_15, main_v60, main_v61, main_v62, main_v63, main_v64, main_v65, main_v66, main_c_16, main_v67, main_v68, main_c_17, main_v69, main_v70, main_v71, main_v72, main_v73, main_v74, main_cst_18, main_v75, main_v76, main_v77, main_cst_19, main_v78, main_v79, main_v80, main_v81, main_cst_20, main_v82, main_v83, main_v84, main_v85, main_v86, main_v87, main_v88, main_cst_21, main_v89, main_v90, main_v91, main_v92, main_values, main_indices, main_c_22]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_cst (V0 : Valuation τ sig (Elt F)) : val2 V0 (no_index (Proc.devRef .tc main_cst)) = res_main_cst V0 :=
  (val2_keep V0 main_cst (by decide)).trans (val1_main_cst V0)
theorem val2_main_v20 (V0 : Valuation τ sig (Elt F)) : val2 V0 (no_index (Proc.devRef .tc main_v20)) = res_main_v20 V0 :=
  (val2_keep V0 main_v20 (by decide)).trans (val1_main_v20 V0)
theorem val2_main_v38 (V0 : Valuation τ sig (Elt F)) : val2 V0 (no_index (Proc.devRef .tc main_v38)) = res_main_v38 V0 :=
  (val2_keep V0 main_v38 (by decide)).trans (val1_main_v38 V0)
set_option maxRecDepth 8192 in
set_option maxHeartbeats 2000000 in
theorem val2_main_v52 (V0 : Valuation τ sig (Elt F)) : val2 V0 (no_index (Proc.devRef .tc main_v52)) = res_main_v52 V0 := by
  unfold val2
  simp only [ops_part1]
  after_results_simp
  simp only [val1_main_v22, val1_main_c_11, val1_main_v45, val1_main_v43, val1_main_v20] <;> rfl
set_option maxRecDepth 8192 in
set_option maxHeartbeats 2000000 in
theorem val2_main_indices (V0 : Valuation τ sig (Elt F)) : val2 V0 (no_index (Proc.devRef .tc main_indices)) = res_main_indices V0 := by
  unfold val2
  simp only [ops_part1]
  after_results_simp
  simp only [val1_main_arg1, val1_main_v22, val1_main_v24, val1_main_v21] <;> rfl
set_option maxRecDepth 8192 in
set_option maxHeartbeats 2000000 in
theorem val2_main_c_22 (V0 : Valuation τ sig (Elt F)) : val2 V0 (no_index (Proc.devRef .tc main_c_22)) = constantI S_ 32 0#32 := by
  unfold val2
  simp only [ops_part1]
  after_results_simp
  all_goals rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v93, main_v94, main_c_23, main_v95, main_v96, main_v97, main_v98, main_v99, main_v100, main_v101, main_cst_24, main_v102, main_v103, main_v104, main_cst_25, main_v105, main_v106, main_v107, main_v108, main_cst_26, main_v109, main_v110, main_v111, main_v112, main_v113, main_v114, main_cst_27, main_v115, main_v116, main_v117, main_v118, main_cst_28, main_v119, main_cst_29, main_v120, main_v121, main_v122, main_v123, main_v124, main_v125, main_cst_30, main_v126, main_v127, main_v128, main_v129, main_cst_31, main_v130, main_v131, main_v132, main_v133, main_v134, main_v135, main_cst_32, main_cst_33, main_v136, main_v137, main_cst_34, main_v138, main_v139, main_cst_35]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_cst (V0 : Valuation τ sig (Elt F)) : val3 V0 (no_index (Proc.devRef .tc main_cst)) = res_main_cst V0 :=
  (val3_keep V0 main_cst (by decide)).trans (val2_main_cst V0)
set_option maxRecDepth 8192 in
set_option maxHeartbeats 2000000 in
theorem val3_main_v134 (V0 : Valuation τ sig (Elt F)) : val3 V0 (no_index (Proc.devRef .tc main_v134)) = mulf (shapeCast _ (extractStridedSlice S4x1 ![0, 0] (subf (broadcastInDim S4x9 ![] bcast_S_S4x9 (constant S_ .f32 0x3F800000#32)) (Host.divf (res_main_v125 V0) (broadcastInDim S4x9 ![0, 1] bcast_S4x1_S4x9_0_1 (broadcastInDim S4x1 ![0] bcast_S4_S4x1_0 (Host.reduceAdd (res_main_v125 V0) (constant S_ .f32 0x00000000#32) reducesTo_S4x9_S4_d1 h_S_))))) slices_S4x9_S4x1_0_0) shapeCasts_S4x1_S4) (res_main_v52 V0) := by
  unfold val3
  simp only [ops_part2]
  after_results_simp
  simp only [val2_main_v52, val2_main_indices, val2_main_c_22, val2_main_arg1, val2_main_v38] <;> rfl
set_option maxRecDepth 8192 in
set_option maxHeartbeats 2000000 in
theorem val3_main_v135 (V0 : Valuation τ sig (Elt F)) : val3 V0 (no_index (Proc.devRef .tc main_v135)) = shapeCast _ (res_main_v20 V0) shapeCasts_S4x784_S4x1x28x28 := by
  unfold val3
  simp only [ops_part2]
  after_results_simp
  simp only [val2_main_v20] <;> rfl
set_option maxRecDepth 8192 in
set_option maxHeartbeats 2000000 in
theorem val3_main_v136 (V0 : Valuation τ sig (Elt F)) : val3 V0 (no_index (Proc.devRef .tc main_v136)) = maximumf (constant S_ .f32 0x3E000000#32) (constant S_ .f32 0x3F800000#32) := by
  unfold val3
  simp only [ops_part2]
  after_results_simp
  all_goals rfl
set_option maxRecDepth 8192 in
set_option maxHeartbeats 2000000 in
theorem val3_main_v139 (V0 : Valuation τ sig (Elt F)) : val3 V0 (no_index (Proc.devRef .tc main_v139)) = addf (sitofp .f32 (iotaInDim S224 32 0)) (broadcastInDim S224 ![] bcast_S_S224 (constant S_ .f32 0x3F000000#32)) := by
  unfold val3
  simp only [ops_part2]
  after_results_simp
  all_goals rfl
set_option maxRecDepth 8192 in
set_option maxHeartbeats 2000000 in
theorem val3_main_cst_35 (V0 : Valuation τ sig (Elt F)) : val3 V0 (no_index (Proc.devRef .tc main_cst_35)) = constant S_ .f32 0x3E000000#32 := by
  unfold val3
  simp only [ops_part2]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v140, main_v141, main_cst_36, main_v142, main_v143, main_cst_37, main_v144, main_v145, main_v146, main_v147, main_v148, main_v149, main_v150, main_v151, main_v152, main_v153, main_v154, main_v155, main_v156, main_cst_38, main_v157, main_v158, main_cst_39, main_v159, main_v160, main_cst_40, main_v161, main_v162, main_v163, main_cst_41, main_v164, main_v165, main_cst_42, main_v166, main_v167, main_cst_43, main_v168, main_v169, main_v170, main_v171, main_v172, main_cst_44, main_v173, main_v174, main_cst_45, main_v175, main_v176, main_cst_46, main_v177, main_v178, main_v179, main_v180, main_v181, main_cst_47, main_v182, main_v183, main_cst_48, main_cst_49, main_v184, main_v185]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_cst (V0 : Valuation τ sig (Elt F)) : val4 V0 (no_index (Proc.devRef .tc main_cst)) = res_main_cst V0 :=
  (val4_keep V0 main_cst (by decide)).trans (val3_main_cst V0)
theorem val4_main_v134 (V0 : Valuation τ sig (Elt F)) : val4 V0 (no_index (Proc.devRef .tc main_v134)) = mulf (shapeCast _ (extractStridedSlice S4x1 ![0, 0] (subf (broadcastInDim S4x9 ![] bcast_S_S4x9 (constant S_ .f32 0x3F800000#32)) (Host.divf (res_main_v125 V0) (broadcastInDim S4x9 ![0, 1] bcast_S4x1_S4x9_0_1 (broadcastInDim S4x1 ![0] bcast_S4_S4x1_0 (Host.reduceAdd (res_main_v125 V0) (constant S_ .f32 0x00000000#32) reducesTo_S4x9_S4_d1 h_S_))))) slices_S4x9_S4x1_0_0) shapeCasts_S4x1_S4) (res_main_v52 V0) :=
  (val4_keep V0 main_v134 (by decide)).trans (val3_main_v134 V0)
theorem val4_main_v135 (V0 : Valuation τ sig (Elt F)) : val4 V0 (no_index (Proc.devRef .tc main_v135)) = shapeCast _ (res_main_v20 V0) shapeCasts_S4x784_S4x1x28x28 :=
  (val4_keep V0 main_v135 (by decide)).trans (val3_main_v135 V0)
set_option maxRecDepth 8192 in
set_option maxHeartbeats 2000000 in
theorem val4_main_v183 (V0 : Valuation τ sig (Elt F)) : val4 V0 (no_index (Proc.devRef .tc main_v183)) = select (broadcastInDim S28x224 ![0, 1] bcast_S1x224_S28x224_0_1 (broadcastInDim S1x224 ![1] bcast_S224_S1x224_1 (andi (cmpf .oge (res_main_v145 V0) (broadcastInDim S224 ![] bcast_S_S224 (constant S_ .f32 0xBF000000#32))) (cmpf .ole (res_main_v145 V0) (broadcastInDim S224 ![] bcast_S_S224 (constant S_ .f32 0x41DC0000#32)))))) (select (broadcastInDim S28x224 ![0, 1] bcast_S1x224_S28x224_0_1 (cmpf .ogt (Host.absf (res_main_v162 V0)) (broadcastInDim S1x224 ![] bcast_S_S1x224 (constant S_ .f32 0x38FA0000#32)))) (Host.divf (res_main_v160 V0) (broadcastInDim S28x224 ![0, 1] bcast_S1x224_S28x224_0_1 (select (cmpf .une (res_main_v162 V0) (broadcastInDim S1x224 ![] bcast_S_S1x224 (constant S_ .f32 0x00000000#32))) (res_main_v162 V0) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32)) := by
  unfold val4
  simp only [ops_part3]
  after_results_simp
  simp only [val3_main_v136, val3_main_cst_35, val3_main_v139] <;> rfl
set_option maxRecDepth 8192 in
set_option maxHeartbeats 2000000 in
theorem val4_main_v184 (V0 : Valuation τ sig (Elt F)) : val4 V0 (no_index (Proc.devRef .tc main_v184)) = maximumf (constant S_ .f32 0x3E000000#32) (constant S_ .f32 0x3F800000#32) := by
  unfold val4
  simp only [ops_part3]
  after_results_simp
  all_goals rfl
set_option maxRecDepth 8192 in
set_option maxHeartbeats 2000000 in
theorem val4_main_v185 (V0 : Valuation τ sig (Elt F)) : val4 V0 (no_index (Proc.devRef .tc main_v185)) = sitofp .f32 (iotaInDim S224 32 0) := by
  unfold val4
  simp only [ops_part3]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_cst_50, main_v186, main_v187, main_cst_51, main_v188, main_v189, main_cst_52, main_v190, main_v191, main_cst_53, main_v192, main_v193, main_v194, main_v195, main_v196, main_v197, main_v198, main_v199, main_v200, main_v201, main_v202, main_v203, main_v204, main_cst_54, main_v205, main_v206, main_cst_55, main_v207, main_v208, main_cst_56, main_v209, main_v210, main_v211, main_cst_57, main_v212, main_v213, main_cst_58, main_v214, main_v215, main_cst_59, main_v216, main_v217, main_v218, main_v219, main_v220, main_cst_60, main_v221, main_v222, main_cst_61, main_v223, main_v224, main_cst_62, main_v225, main_v226, main_v227, main_v228, main_v229, main_cst_63, main_v230, main_v231]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_cst (V0 : Valuation τ sig (Elt F)) : val5 V0 (no_index (Proc.devRef .tc main_cst)) = res_main_cst V0 :=
  (val5_keep V0 main_cst (by decide)).trans (val4_main_cst V0)
theorem val5_main_v134 (V0 : Valuation τ sig (Elt F)) : val5 V0 (no_index (Proc.devRef .tc main_v134)) = mulf (shapeCast _ (extractStridedSlice S4x1 ![0, 0] (subf (broadcastInDim S4x9 ![] bcast_S_S4x9 (constant S_ .f32 0x3F800000#32)) (Host.divf (res_main_v125 V0) (broadcastInDim S4x9 ![0, 1] bcast_S4x1_S4x9_0_1 (broadcastInDim S4x1 ![0] bcast_S4_S4x1_0 (Host.reduceAdd (res_main_v125 V0) (constant S_ .f32 0x00000000#32) reducesTo_S4x9_S4_d1 h_S_))))) slices_S4x9_S4x1_0_0) shapeCasts_S4x1_S4) (res_main_v52 V0) :=
  (val5_keep V0 main_v134 (by decide)).trans (val4_main_v134 V0)
theorem val5_main_v135 (V0 : Valuation τ sig (Elt F)) : val5 V0 (no_index (Proc.devRef .tc main_v135)) = shapeCast _ (res_main_v20 V0) shapeCasts_S4x784_S4x1x28x28 :=
  (val5_keep V0 main_v135 (by decide)).trans (val4_main_v135 V0)
theorem val5_main_v183 (V0 : Valuation τ sig (Elt F)) : val5 V0 (no_index (Proc.devRef .tc main_v183)) = select (broadcastInDim S28x224 ![0, 1] bcast_S1x224_S28x224_0_1 (broadcastInDim S1x224 ![1] bcast_S224_S1x224_1 (andi (cmpf .oge (res_main_v145 V0) (broadcastInDim S224 ![] bcast_S_S224 (constant S_ .f32 0xBF000000#32))) (cmpf .ole (res_main_v145 V0) (broadcastInDim S224 ![] bcast_S_S224 (constant S_ .f32 0x41DC0000#32)))))) (select (broadcastInDim S28x224 ![0, 1] bcast_S1x224_S28x224_0_1 (cmpf .ogt (Host.absf (res_main_v162 V0)) (broadcastInDim S1x224 ![] bcast_S_S1x224 (constant S_ .f32 0x38FA0000#32)))) (Host.divf (res_main_v160 V0) (broadcastInDim S28x224 ![0, 1] bcast_S1x224_S28x224_0_1 (select (cmpf .une (res_main_v162 V0) (broadcastInDim S1x224 ![] bcast_S_S1x224 (constant S_ .f32 0x00000000#32))) (res_main_v162 V0) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32)) :=
  (val5_keep V0 main_v183 (by decide)).trans (val4_main_v183 V0)
set_option maxRecDepth 8192 in
set_option maxHeartbeats 2000000 in
theorem val5_main_v231 (V0 : Valuation τ sig (Elt F)) : val5 V0 (no_index (Proc.devRef .tc main_v231)) = select (broadcastInDim S28x224 ![0, 1] bcast_S1x224_S28x224_0_1 (broadcastInDim S1x224 ![1] bcast_S224_S1x224_1 (andi (cmpf .oge (res_main_v193 V0) (broadcastInDim S224 ![] bcast_S_S224 (constant S_ .f32 0xBF000000#32))) (cmpf .ole (res_main_v193 V0) (broadcastInDim S224 ![] bcast_S_S224 (constant S_ .f32 0x41DC0000#32)))))) (select (broadcastInDim S28x224 ![0, 1] bcast_S1x224_S28x224_0_1 (cmpf .ogt (Host.absf (res_main_v210 V0)) (broadcastInDim S1x224 ![] bcast_S_S1x224 (constant S_ .f32 0x38FA0000#32)))) (Host.divf (res_main_v208 V0) (broadcastInDim S28x224 ![0, 1] bcast_S1x224_S28x224_0_1 (select (cmpf .une (res_main_v210 V0) (broadcastInDim S1x224 ![] bcast_S_S1x224 (constant S_ .f32 0x00000000#32))) (res_main_v210 V0) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32)) := by
  unfold val5
  simp only [ops_part4]
  after_results_simp
  simp only [val4_main_v184, val4_main_v185] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v232, main_v233, main_v234, main_v235, main_v236, main_v237, main_v238, main_v239, main_v240, main_v241, main_c_64, main_call2_v0, main_v242, main_c_65, main_v243, main_v244, main_c_66, main_v245, main_v246, main_v247, main_v248, main_v249, main_v250, main_v251, main_v252, main_cst_67, main_v253, main_c_68, main_call3_v0, main_v254, main_c_69, main_v255, main_v256, main_c_70, main_v257, main_v258, main_v259, main_v260, main_v261, main_v262, main_v263, main_v264, main_cst_71, main_v265]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_v134 (V0 : Valuation τ sig (Elt F)) : val6 V0 (no_index (Proc.devRef .tc main_v134)) = mulf (shapeCast _ (extractStridedSlice S4x1 ![0, 0] (subf (broadcastInDim S4x9 ![] bcast_S_S4x9 (constant S_ .f32 0x3F800000#32)) (Host.divf (res_main_v125 V0) (broadcastInDim S4x9 ![0, 1] bcast_S4x1_S4x9_0_1 (broadcastInDim S4x1 ![0] bcast_S4_S4x1_0 (Host.reduceAdd (res_main_v125 V0) (constant S_ .f32 0x00000000#32) reducesTo_S4x9_S4_d1 h_S_))))) slices_S4x9_S4x1_0_0) shapeCasts_S4x1_S4) (res_main_v52 V0) :=
  (val6_keep V0 main_v134 (by decide)).trans (val5_main_v134 V0)
set_option maxRecDepth 8192 in
set_option maxHeartbeats 2000000 in
theorem val6_main_v265 (V0 : Valuation τ sig (Elt F)) : val6 V0 (no_index (Proc.devRef .tc main_v265)) = Host.reduceAdd (mulf (Host.gather gather_S4x1x224x256_S224x33x1_S4x1x224x224x33_012_3_n_n_3_2_412241 (pad S4x1x224x256 ![0, 0, 0, 16] ![0, 0, 0, 16] ![0, 0, 0, 0] (Host.reduceAdd (mulf (Host.gather gather_S4x1x256x224_S224x33x1_S4x1x224x33x224_014_2_n_n_2_2_411224 (pad S4x1x256x224 ![0, 0, 16, 0] ![0, 0, 16, 0] ![0, 0, 0, 0] (transpose S4x1x224x224 [1, 2, 0, 3] (Host.dotGeneral dot_S224x4x1x28_S28x224_S224x4x1x224_3_0_012_1_n_n (some .fp32) (Host.dotGeneral dot_S28x224_S4x1x28x28_S224x4x1x28_0_2_1_013_n_n (some .fp32) (select (broadcastInDim S28x224 ![0, 1] bcast_S1x224_S28x224_0_1 (broadcastInDim S1x224 ![1] bcast_S224_S1x224_1 (andi (cmpf .oge (res_main_v145 V0) (broadcastInDim S224 ![] bcast_S_S224 (constant S_ .f32 0xBF000000#32))) (cmpf .ole (res_main_v145 V0) (broadcastInDim S224 ![] bcast_S_S224 (constant S_ .f32 0x41DC0000#32)))))) (select (broadcastInDim S28x224 ![0, 1] bcast_S1x224_S28x224_0_1 (cmpf .ogt (Host.absf (res_main_v162 V0)) (broadcastInDim S1x224 ![] bcast_S_S1x224 (constant S_ .f32 0x38FA0000#32)))) (Host.divf (res_main_v160 V0) (broadcastInDim S28x224 ![0, 1] bcast_S1x224_S28x224_0_1 (select (cmpf .une (res_main_v162 V0) (broadcastInDim S1x224 ![] bcast_S_S1x224 (constant S_ .f32 0x00000000#32))) (res_main_v162 V0) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32))) (shapeCast _ (res_main_v20 V0) shapeCasts_S4x784_S4x1x28x28)) (select (broadcastInDim S28x224 ![0, 1] bcast_S1x224_S28x224_0_1 (broadcastInDim S1x224 ![1] bcast_S224_S1x224_1 (andi (cmpf .oge (res_main_v193 V0) (broadcastInDim S224 ![] bcast_S_S224 (constant S_ .f32 0xBF000000#32))) (cmpf .ole (res_main_v193 V0) (broadcastInDim S224 ![] bcast_S_S224 (constant S_ .f32 0x41DC0000#32)))))) (select (broadcastInDim S28x224 ![0, 1] bcast_S1x224_S28x224_0_1 (cmpf .ogt (Host.absf (res_main_v210 V0)) (broadcastInDim S1x224 ![] bcast_S_S1x224 (constant S_ .f32 0x38FA0000#32)))) (Host.divf (res_main_v208 V0) (broadcastInDim S28x224 ![0, 1] bcast_S1x224_S28x224_0_1 (select (cmpf .une (res_main_v210 V0) (broadcastInDim S1x224 ![] bcast_S_S1x224 (constant S_ .f32 0x00000000#32))) (res_main_v210 V0) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32)))) transposes_S224x4x1x224_S4x1x224x224_1_2_0_3) (sitofp .f32 (constantI S_ 32 0#32)) pads_S4x1x224x224_S4x1x256x224_000_000_16160_000 h_S_) (broadcastInDim S224x33x1 ![0, 1] bcast_S224x33_S224x33x1_0_1 (select (cmpi .slt (res_main_v241 V0) (broadcastInDim S224x33 ![] bcast_S_S224x33 (constantI S_ 32 0#32))) (addi (res_main_v241 V0) (broadcastInDim S224x33 ![] bcast_S_S224x33 (constantI S_ 32 256#32))) (res_main_v241 V0)))) (broadcastInDim S4x1x224x33x224 ![0, 1, 2, 3, 4] bcast_S1x1x1x33x1_S4x1x224x33x224_0_1_2_3_4 (broadcastInDim S1x1x1x33x1 ![3] bcast_S33_S1x1x1x33x1_3 (res_main_cst V0)))) (constant S_ .f32 0x00000000#32) reducesTo_S4x1x224x33x224_S4x1x224x224_d3 h_S_) (sitofp .f32 (constantI S_ 32 0#32)) pads_S4x1x224x224_S4x1x224x256_000_000_000_16160 h_S_) (broadcastInDim S224x33x1 ![0, 1] bcast_S224x33_S224x33x1_0_1 (select (cmpi .slt (res_main_v241 V0) (broadcastInDim S224x33 ![] bcast_S_S224x33 (constantI S_ 32 0#32))) (addi (res_main_v241 V0) (broadcastInDim S224x33 ![] bcast_S_S224x33 (constantI S_ 32 256#32))) (res_main_v241 V0)))) (broadcastInDim S4x1x224x224x33 ![0, 1, 2, 3, 4] bcast_S1x1x1x1x33_S4x1x224x224x33_0_1_2_3_4 (broadcastInDim S1x1x1x1x33 ![4] bcast_S33_S1x1x1x1x33_4 (res_main_cst V0)))) (constant S_ .f32 0x00000000#32) reducesTo_S4x1x224x224x33_S4x1x224x224_d4 h_S_ := by
  unfold val6
  simp only [ops_part5, TRef.binary, TRef.unary, TRef.toBuf, TRef.ofBuf, cast_eq]
  after_results_simp
  simp only [val5_main_cst, val5_main_v231, val5_main_v135, val5_main_v183] <;> rfl

theorem after_ops (V0 : Valuation τ sig (Elt F)) : after ops V0 = val6 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v265) = Host.reduceAdd (mulf (Host.gather gather_S4x1x224x256_S224x33x1_S4x1x224x224x33_012_3_n_n_3_2_412241 (pad S4x1x224x256 ![0, 0, 0, 16] ![0, 0, 0, 16] ![0, 0, 0, 0] (Host.reduceAdd (mulf (Host.gather gather_S4x1x256x224_S224x33x1_S4x1x224x33x224_014_2_n_n_2_2_411224 (pad S4x1x256x224 ![0, 0, 16, 0] ![0, 0, 16, 0] ![0, 0, 0, 0] (transpose S4x1x224x224 [1, 2, 0, 3] (Host.dotGeneral dot_S224x4x1x28_S28x224_S224x4x1x224_3_0_012_1_n_n (some .fp32) (Host.dotGeneral dot_S28x224_S4x1x28x28_S224x4x1x28_0_2_1_013_n_n (some .fp32) (select (broadcastInDim S28x224 ![0, 1] bcast_S1x224_S28x224_0_1 (broadcastInDim S1x224 ![1] bcast_S224_S1x224_1 (andi (cmpf .oge (res_main_v145 (launchContents m c)) (broadcastInDim S224 ![] bcast_S_S224 (constant S_ .f32 0xBF000000#32))) (cmpf .ole (res_main_v145 (launchContents m c)) (broadcastInDim S224 ![] bcast_S_S224 (constant S_ .f32 0x41DC0000#32)))))) (select (broadcastInDim S28x224 ![0, 1] bcast_S1x224_S28x224_0_1 (cmpf .ogt (Host.absf (res_main_v162 (launchContents m c))) (broadcastInDim S1x224 ![] bcast_S_S1x224 (constant S_ .f32 0x38FA0000#32)))) (Host.divf (res_main_v160 (launchContents m c)) (broadcastInDim S28x224 ![0, 1] bcast_S1x224_S28x224_0_1 (select (cmpf .une (res_main_v162 (launchContents m c)) (broadcastInDim S1x224 ![] bcast_S_S1x224 (constant S_ .f32 0x00000000#32))) (res_main_v162 (launchContents m c)) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32))) (shapeCast _ (res_main_v20 (launchContents m c)) shapeCasts_S4x784_S4x1x28x28)) (select (broadcastInDim S28x224 ![0, 1] bcast_S1x224_S28x224_0_1 (broadcastInDim S1x224 ![1] bcast_S224_S1x224_1 (andi (cmpf .oge (res_main_v193 (launchContents m c)) (broadcastInDim S224 ![] bcast_S_S224 (constant S_ .f32 0xBF000000#32))) (cmpf .ole (res_main_v193 (launchContents m c)) (broadcastInDim S224 ![] bcast_S_S224 (constant S_ .f32 0x41DC0000#32)))))) (select (broadcastInDim S28x224 ![0, 1] bcast_S1x224_S28x224_0_1 (cmpf .ogt (Host.absf (res_main_v210 (launchContents m c))) (broadcastInDim S1x224 ![] bcast_S_S1x224 (constant S_ .f32 0x38FA0000#32)))) (Host.divf (res_main_v208 (launchContents m c)) (broadcastInDim S28x224 ![0, 1] bcast_S1x224_S28x224_0_1 (select (cmpf .une (res_main_v210 (launchContents m c)) (broadcastInDim S1x224 ![] bcast_S_S1x224 (constant S_ .f32 0x00000000#32))) (res_main_v210 (launchContents m c)) (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32)))) transposes_S224x4x1x224_S4x1x224x224_1_2_0_3) (sitofp .f32 (constantI S_ 32 0#32)) pads_S4x1x224x224_S4x1x256x224_000_000_16160_000 h_S_) (broadcastInDim S224x33x1 ![0, 1] bcast_S224x33_S224x33x1_0_1 (select (cmpi .slt (res_main_v241 (launchContents m c)) (broadcastInDim S224x33 ![] bcast_S_S224x33 (constantI S_ 32 0#32))) (addi (res_main_v241 (launchContents m c)) (broadcastInDim S224x33 ![] bcast_S_S224x33 (constantI S_ 32 256#32))) (res_main_v241 (launchContents m c))))) (broadcastInDim S4x1x224x33x224 ![0, 1, 2, 3, 4] bcast_S1x1x1x33x1_S4x1x224x33x224_0_1_2_3_4 (broadcastInDim S1x1x1x33x1 ![3] bcast_S33_S1x1x1x33x1_3 (res_main_cst (launchContents m c))))) (constant S_ .f32 0x00000000#32) reducesTo_S4x1x224x33x224_S4x1x224x224_d3 h_S_) (sitofp .f32 (constantI S_ 32 0#32)) pads_S4x1x224x224_S4x1x224x256_000_000_000_16160 h_S_) (broadcastInDim S224x33x1 ![0, 1] bcast_S224x33_S224x33x1_0_1 (select (cmpi .slt (res_main_v241 (launchContents m c)) (broadcastInDim S224x33 ![] bcast_S_S224x33 (constantI S_ 32 0#32))) (addi (res_main_v241 (launchContents m c)) (broadcastInDim S224x33 ![] bcast_S_S224x33 (constantI S_ 32 256#32))) (res_main_v241 (launchContents m c))))) (broadcastInDim S4x1x224x224x33 ![0, 1, 2, 3, 4] bcast_S1x1x1x1x33_S4x1x224x224x33_0_1_2_3_4 (broadcastInDim S1x1x1x1x33 ![4] bcast_S33_S1x1x1x1x33_4 (res_main_cst (launchContents m c))))) (constant S_ .f32 0x00000000#32) reducesTo_S4x1x224x224x33_S4x1x224x224_d4 h_S_
      ∧ r.2.mem ((c.tc : Thread nD τ).loc main_v134) = mulf (shapeCast _ (extractStridedSlice S4x1 ![0, 0] (subf (broadcastInDim S4x9 ![] bcast_S_S4x9 (constant S_ .f32 0x3F800000#32)) (Host.divf (res_main_v125 (launchContents m c)) (broadcastInDim S4x9 ![0, 1] bcast_S4x1_S4x9_0_1 (broadcastInDim S4x1 ![0] bcast_S4_S4x1_0 (Host.reduceAdd (res_main_v125 (launchContents m c)) (constant S_ .f32 0x00000000#32) reducesTo_S4x9_S4_d1 h_S_))))) slices_S4x9_S4x1_0_0) shapeCasts_S4x1_S4) (res_main_v52 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v265).trans ((congrFun (after_ops (launchContents m c)) (Proc.devRef .tc main_v265)).trans (val6_main_v265 (launchContents m c))),
      (h c main_v134).trans ((congrFun (after_ops (launchContents m c)) (Proc.devRef .tc main_v134)).trans (val6_main_v134 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c)))⟩)
    (run_seq scopedRefs_eq scopedSems_eq defs main (fun _ => ops) main_eq (fun _ => ops_sub) m ρ fun _ => ops_fresh)

end Cert.ReferenceIdeal.Value

end
-- ==== Proof.RefTerm.lean ====
/-
  The reference's two results as terms of the two arguments, cut into named steps: the patch scores, the upsampling weights,
  the upsampled map, the blur along the rows and along the columns; the chosen patch, the bank rows near it, and the
  reweighed score.
-/
module

public import proofs.«01_k».proof.Proof.RefRun
public import Idealize.ShloMosaic.Lib.Pointwise

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem Idealize.ShloMosaic.StableHlo

/-- The patch scores: each row's least distance to the bank. -/
def refScore (X : FVec Ideal S3136x384 .f32) (B : FVec Ideal S16384x384 .f32) : FVec Ideal S3136 .f32 :=
  Host.reduce FloatOps.minimumf (Host.sqrt (maximumf (addf (subf (broadcastInDim S3136x16384 ![0, 1] bcast_S3136x1_S3136x16384_0_1 (broadcastInDim S3136x1 ![0] bcast_S3136_S3136x1_0 (Host.reduceAdd (mulf X X) (constant S_ .f32 0x00000000#32) reducesTo_S3136x384_S3136_d1 h_S_))) (mulf (broadcastInDim S3136x16384 ![] bcast_S_S3136x16384 (constant S_ .f32 0x40000000#32)) (Host.dotGeneral dot_S3136x384_S384x16384_S3136x16384_1_0_0_1_n_n none X (transpose S384x16384 [1, 0] B transposes_S16384x384_S384x16384_1_0)))) (broadcastInDim S3136x16384 ![0, 1] bcast_S1x16384_S3136x16384_0_1 (transpose S1x16384 [1, 0] (broadcastInDim S16384x1 ![0] bcast_S16384_S16384x1_0 (Host.reduceAdd (mulf B B) (constant S_ .f32 0x00000000#32) reducesTo_S16384x384_S16384_d1 h_S_)) transposes_S16384x1_S1x16384_1_0))) (broadcastInDim S3136x16384 ![] bcast_S_S3136x16384 (constant S_ .f32 0x00000000#32)))) (constant S_ .f32 0x7F800000#32) reducesTo_S3136x16384_S3136_d1 h_S_

/-- Where each output coordinate samples the 28 input coordinates. -/
def refSample : FVec Ideal S224 .f32 :=
  subf (subf (mulf (addf (sitofp .f32 (iotaInDim S224 32 0)) (broadcastInDim S224 ![] bcast_S_S224 (constant S_ .f32 0x3F000000#32))) (broadcastInDim S224 ![] bcast_S_S224 (constant S_ .f32 0x3E000000#32))) (broadcastInDim S224 ![] bcast_S_S224 (constant S_ .f32 0x00000000#32))) (broadcastInDim S224 ![] bcast_S_S224 (constant S_ .f32 0x3F000000#32))

/-- The triangle around each sample, -/
def refTri : FVec Ideal S28x224 .f32 :=
  maximumf (broadcastInDim S28x224 ![] bcast_S_S28x224 (constant S_ .f32 0x00000000#32)) (subf (broadcastInDim S28x224 ![] bcast_S_S28x224 (constant S_ .f32 0x3F800000#32)) (Host.absf (Host.divf (Host.absf (subf (broadcastInDim S28x224 ![0, 1] bcast_S1x224_S28x224_0_1 (broadcastInDim S1x224 ![1] bcast_S224_S1x224_1 refSample)) (broadcastInDim S28x224 ![0, 1] bcast_S28x1_S28x224_0_1 (broadcastInDim S28x1 ![0] bcast_S28_S28x1_0 (sitofp .f32 (iotaInDim S28 32 0)))))) (broadcastInDim S28x224 ![] bcast_S_S28x224 (id (maximumf (constant S_ .f32 0x3E000000#32) (constant S_ .f32 0x3F800000#32)))))))

/-- its sum over the input coordinates, -/
def refTotal : FVec Ideal S1x224 .f32 :=
  broadcastInDim S1x224 ![1] bcast_S224_S1x224_1 (Host.reduceAdd refTri (constant S_ .f32 0x00000000#32) reducesTo_S28x224_S224_d0 h_S_)

/-- and the interpolation weights. -/
def refWeights : FVec Ideal S28x224 .f32 :=
  select (broadcastInDim S28x224 ![0, 1] bcast_S1x224_S28x224_0_1 (broadcastInDim S1x224 ![1] bcast_S224_S1x224_1 (andi (cmpf .oge refSample (broadcastInDim S224 ![] bcast_S_S224 (constant S_ .f32 0xBF000000#32))) (cmpf .ole refSample (broadcastInDim S224 ![] bcast_S_S224 (constant S_ .f32 0x41DC0000#32)))))) (select (broadcastInDim S28x224 ![0, 1] bcast_S1x224_S28x224_0_1 (cmpf .ogt (Host.absf refTotal) (broadcastInDim S1x224 ![] bcast_S_S1x224 (constant S_ .f32 0x38FA0000#32)))) (Host.divf refTri (broadcastInDim S28x224 ![0, 1] bcast_S1x224_S28x224_0_1 (select (cmpf .une refTotal (broadcastInDim S1x224 ![] bcast_S_S1x224 (constant S_ .f32 0x00000000#32))) refTotal (broadcastInDim S1x224 ![] bcast_S_S1x224 (constant S_ .f32 0x3F800000#32))))) (broadcastInDim S28x224 ![] bcast_S_S28x224 (constant S_ .f32 0x00000000#32))) (broadcastInDim S28x224 ![] bcast_S_S28x224 (constant S_ .f32 0x00000000#32))

/-- The map upsampled along both axes. -/
def refUp (s : FVec Ideal S3136 .f32) : FVec Ideal S4x1x224x224 .f32 :=
  transpose S4x1x224x224 [1, 2, 0, 3] (Host.dotGeneral dot_S224x4x1x28_S28x224_S224x4x1x224_3_0_012_1_n_n (some .fp32) (Host.dotGeneral dot_S28x224_S4x1x28x28_S224x4x1x28_0_2_1_013_n_n (some .fp32) refWeights (shapeCast _ (shapeCast _ s shapeCasts_S3136_S4x784) shapeCasts_S4x784_S4x1x28x28)) refWeights) transposes_S224x4x1x224_S4x1x224x224_1_2_0_3

/-- The 33 taps of the blur, -/
def refTaps : FVec Ideal S33 .f32 :=
  (fun i => FloatOps.ofBits .f32 (lit0 (S33.rowMajor i)))

/-- and the padded coordinates each output coordinate's window holds. -/
def refWindow : IVec S224x33 32 :=
  addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))

/-- The blur along the rows, -/
def refRows (u : FVec Ideal S4x1x224x224 .f32) : FVec Ideal S4x1x224x224 .f32 :=
  Host.reduceAdd (mulf (Host.gather gather_S4x1x256x224_S224x33x1_S4x1x224x33x224_014_2_n_n_2_2_411224 (pad S4x1x256x224 ![0, 0, 16, 0] ![0, 0, 16, 0] ![0, 0, 0, 0] u (sitofp .f32 (constantI S_ 32 0#32)) pads_S4x1x224x224_S4x1x256x224_000_000_16160_000 h_S_) (broadcastInDim S224x33x1 ![0, 1] bcast_S224x33_S224x33x1_0_1 (select (cmpi .slt refWindow (broadcastInDim S224x33 ![] bcast_S_S224x33 (constantI S_ 32 0#32))) (addi refWindow (broadcastInDim S224x33 ![] bcast_S_S224x33 (constantI S_ 32 256#32))) refWindow))) (broadcastInDim S4x1x224x33x224 ![0, 1, 2, 3, 4] bcast_S1x1x1x33x1_S4x1x224x33x224_0_1_2_3_4 (broadcastInDim S1x1x1x33x1 ![3] bcast_S33_S1x1x1x33x1_3 refTaps))) (constant S_ .f32 0x00000000#32) reducesTo_S4x1x224x33x224_S4x1x224x224_d3 h_S_

/-- and along the columns. -/
def refCols (u : FVec Ideal S4x1x224x224 .f32) : FVec Ideal S4x1x224x224 .f32 :=
  Host.reduceAdd (mulf (Host.gather gather_S4x1x224x256_S224x33x1_S4x1x224x224x33_012_3_n_n_3_2_412241 (pad S4x1x224x256 ![0, 0, 0, 16] ![0, 0, 0, 16] ![0, 0, 0, 0] u (sitofp .f32 (constantI S_ 32 0#32)) pads_S4x1x224x224_S4x1x224x256_000_000_000_16160 h_S_) (broadcastInDim S224x33x1 ![0, 1] bcast_S224x33_S224x33x1_0_1 (select (cmpi .slt refWindow (broadcastInDim S224x33 ![] bcast_S_S224x33 (constantI S_ 32 0#32))) (addi refWindow (broadcastInDim S224x33 ![] bcast_S_S224x33 (constantI S_ 32 256#32))) refWindow))) (broadcastInDim S4x1x224x224x33 ![0, 1, 2, 3, 4] bcast_S1x1x1x1x33_S4x1x224x224x33_0_1_2_3_4 (broadcastInDim S1x1x1x1x33 ![4] bcast_S33_S1x1x1x1x33_4 refTaps))) (constant S_ .f32 0x00000000#32) reducesTo_S4x1x224x224x33_S4x1x224x224_d4 h_S_

/-- The reference's map. -/
def refMap (X : FVec Ideal S3136x384 .f32) (B : FVec Ideal S16384x384 .f32) : FVec Ideal S4x1x224x224 .f32 :=
  refCols (refRows (refUp (refScore X B)))

/-- The distances of all rows to the bank, -/
def refDist (X : FVec Ideal S3136x384 .f32) (B : FVec Ideal S16384x384 .f32) : FVec Ideal S3136x16384 .f32 :=
  Host.sqrt (maximumf (addf (subf (broadcastInDim S3136x16384 ![0, 1] bcast_S3136x1_S3136x16384_0_1 (broadcastInDim S3136x1 ![0] bcast_S3136_S3136x1_0 (Host.reduceAdd (mulf X X) (constant S_ .f32 0x00000000#32) reducesTo_S3136x384_S3136_d1 h_S_))) (mulf (broadcastInDim S3136x16384 ![] bcast_S_S3136x16384 (constant S_ .f32 0x40000000#32)) (Host.dotGeneral dot_S3136x384_S384x16384_S3136x16384_1_0_0_1_n_n none X (transpose S384x16384 [1, 0] B transposes_S16384x384_S384x16384_1_0)))) (broadcastInDim S3136x16384 ![0, 1] bcast_S1x16384_S3136x16384_0_1 (transpose S1x16384 [1, 0] (broadcastInDim S16384x1 ![0] bcast_S16384_S16384x1_0 (Host.reduceAdd (mulf B B) (constant S_ .f32 0x00000000#32) reducesTo_S16384x384_S16384_d1 h_S_)) transposes_S16384x1_S1x16384_1_0))) (broadcastInDim S3136x16384 ![] bcast_S_S3136x16384 (constant S_ .f32 0x00000000#32)))

/-- each row's nearest bank row, -/
def refNear (d : FVec Ideal S3136x16384 .f32) : IVec S3136 32 :=
  (fun j => (Host.argReduce reducer_argmin_f32_i32 d (iotaInDim S3136x16384 32 1) (constant S_ .f32 0x7F800000#32) (constantI S_ 32 0#32) reducesTo_S3136x16384_S3136_d1 h_S_ j).2)

/-- each image's patch of the greatest score, -/
def refTop (s : FVec Ideal S4x784 .f32) : IVec S4 32 :=
  (fun j => (Host.argReduce reducer_argmax_f32_i32 s (iotaInDim S4x784 32 1) (constant S_ .f32 0xFF800000#32) (constantI S_ 32 0#32) reducesTo_S4x784_S4_d1 h_S_ j).2)

/-- the pairs of an image and its patch, -/
def refPairs (t : IVec S4 32) : IVec S4x2 32 :=
  concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt t (broadcastInDim S4 ![] bcast_S_S4 (constantI S_ 32 0#32))) (addi t (broadcastInDim S4 ![] bcast_S_S4 (constantI S_ 32 784#32))) t))⟩] concatenates_S4x1_S4x1_S4x2_d1

/-- that patch's row, -/
def refFeature (X : FVec Ideal S3136x384 .f32) (p : IVec S4x2 32) : FVec Ideal S4x384 .f32 :=
  Host.gather gather_S4x784x384_S4x2_S4x384_1_01_n_n_01_1_11384 (shapeCast _ X shapeCasts_S3136x384_S4x784x384) p

/-- its score -/
def refBest (s : FVec Ideal S4x784 .f32) (p : IVec S4x2 32) : FVec Ideal S4 .f32 :=
  Host.gather gather_S4x784_S4x2_S4_n_01_n_n_01_1_11 s p

/-- and its nearest bank row's number; -/
def refPlace (l : IVec S4x784 32) (p : IVec S4x2 32) : IVec S4 32 :=
  Host.gather gather_S4x784_S4x2_S4_n_01_n_n_01_1_11 l p

/-- that bank row, -/
def refNearest (B : FVec Ideal S16384x384 .f32) (w : IVec S4 32) : FVec Ideal S4x384 .f32 :=
  Host.gather gather_S16384x384_S4x1_S4x384_1_0_n_n_0_1_1384 B (broadcastInDim S4x1 ![0] bcast_S4_S4x1_0 (select (cmpi .slt w (broadcastInDim S4 ![] bcast_S_S4 (constantI S_ 32 0#32))) (addi w (broadcastInDim S4 ![] bcast_S_S4 (constantI S_ 32 16384#32))) w))

/-- the negated distances of the bank from it, -/
def refNeg (f : FVec Ideal S4x384 .f32) (B : FVec Ideal S16384x384 .f32) : FVec Ideal S4x16384 .f32 :=
  Host.negf (Host.sqrt (maximumf (addf (subf (broadcastInDim S4x16384 ![0, 1] bcast_S4x1_S4x16384_0_1 (broadcastInDim S4x1 ![0] bcast_S4_S4x1_0 (Host.reduceAdd (mulf f f) (constant S_ .f32 0x00000000#32) reducesTo_S4x384_S4_d1 h_S_))) (mulf (broadcastInDim S4x16384 ![] bcast_S_S4x16384 (constant S_ .f32 0x40000000#32)) (Host.dotGeneral dot_S4x384_S384x16384_S4x16384_1_0_0_1_n_n none f (transpose S384x16384 [1, 0] B transposes_S16384x384_S384x16384_1_0)))) (broadcastInDim S4x16384 ![0, 1] bcast_S1x16384_S4x16384_0_1 (transpose S1x16384 [1, 0] (broadcastInDim S16384x1 ![0] bcast_S16384_S16384x1_0 (Host.reduceAdd (mulf B B) (constant S_ .f32 0x00000000#32) reducesTo_S16384x384_S16384_d1 h_S_)) transposes_S16384x1_S1x16384_1_0))) (broadcastInDim S4x16384 ![] bcast_S_S4x16384 (constant S_ .f32 0x00000000#32))))

/-- the nine nearest, -/
def refNine (d : FVec Ideal S4x16384 .f32) : IVec S4x9 32 :=
  (Host.topK S4x9 1 (FloatOps.cmpfTotal .gt) d sliceFits_S4x16384_S4x9).2

/-- their rows, -/
def refSupport (B : FVec Ideal S16384x384 .f32) (w : IVec S4x9 32) : FVec Ideal S4x9x384 .f32 :=
  Host.gather gather_S16384x384_S4x9x1_S4x9x384_2_0_n_n_0_2_1384 B (broadcastInDim S4x9x1 ![0, 1] bcast_S4x9_S4x9x1_0_1 (select (cmpi .slt w (broadcastInDim S4x9 ![] bcast_S_S4x9 (constantI S_ 32 0#32))) (addi w (broadcastInDim S4x9 ![] bcast_S_S4x9 (constantI S_ 32 16384#32))) w))

/-- their distances from the patch, -/
def refAway (f : FVec Ideal S4x384 .f32) (g : FVec Ideal S4x9x384 .f32) : FVec Ideal S4x9 .f32 :=
  shapeCast _ (Host.sqrt (maximumf (addf (subf (broadcastInDim S4x1x9 ![0, 1, 2] bcast_S4x1x1_S4x1x9_0_1_2 (broadcastInDim S4x1x1 ![0, 1] bcast_S4x1_S4x1x1_0_1 (Host.reduceAdd (mulf (broadcastInDim S4x1x384 ![0, 2] bcast_S4x384_S4x1x384_0_2 f) (broadcastInDim S4x1x384 ![0, 2] bcast_S4x384_S4x1x384_0_2 f)) (constant S_ .f32 0x00000000#32) reducesTo_S4x1x384_S4x1_d2 h_S_))) (mulf (broadcastInDim S4x1x9 ![] bcast_S_S4x1x9 (constant S_ .f32 0x40000000#32)) (Host.dotGeneral dot_S4x1x384_S4x384x9_S4x1x9_2_1_1_2_0_0 none (broadcastInDim S4x1x384 ![0, 2] bcast_S4x384_S4x1x384_0_2 f) (transpose S4x384x9 [0, 2, 1] g transposes_S4x9x384_S4x384x9_0_2_1)))) (transpose S4x1x9 [0, 2, 1] (broadcastInDim S4x9x1 ![0, 1] bcast_S4x9_S4x9x1_0_1 (Host.reduceAdd (mulf g g) (constant S_ .f32 0x00000000#32) reducesTo_S4x9x384_S4x9_d2 h_S_)) transposes_S4x9x1_S4x1x9_0_2_1)) (broadcastInDim S4x1x9 ![] bcast_S_S4x1x9 (constant S_ .f32 0x00000000#32)))) shapeCasts_S4x1x9_S4x9

/-- the exponentials -/
def refExp (d : FVec Ideal S4x9 .f32) : FVec Ideal S4x9 .f32 :=
  Host.exp (subf d (broadcastInDim S4x9 ![0, 1] bcast_S4x1_S4x9_0_1 (broadcastInDim S4x1 ![0] bcast_S4_S4x1_0 (maximumf (broadcastInDim S4 ![] bcast_S_S4 (constant S_ .f32 0xFF800000#32)) (Host.reduce FloatOps.maximumf d (constant S_ .f32 0xFF800000#32) reducesTo_S4x9_S4_d1 h_S_)))))

/-- and the weighed score. -/
def refWeighed (e : FVec Ideal S4x9 .f32) (s : FVec Ideal S4 .f32) : FVec Ideal S4 .f32 :=
  mulf (shapeCast _ (extractStridedSlice S4x1 ![0, 0] (subf (broadcastInDim S4x9 ![] bcast_S_S4x9 (constant S_ .f32 0x3F800000#32)) (Host.divf e (broadcastInDim S4x9 ![0, 1] bcast_S4x1_S4x9_0_1 (broadcastInDim S4x1 ![0] bcast_S4_S4x1_0 (Host.reduceAdd e (constant S_ .f32 0x00000000#32) reducesTo_S4x9_S4_d1 h_S_))))) slices_S4x9_S4x1_0_0) shapeCasts_S4x1_S4) s

/-- The patch scores as four images' rows, -/
def refRowsOf (X : FVec Ideal S3136x384 .f32) (B : FVec Ideal S16384x384 .f32) : FVec Ideal S4x784 .f32 :=
  shapeCast _ (refScore X B) shapeCasts_S3136_S4x784

/-- and the nearest bank rows' numbers alike. -/
def refPlaces (X : FVec Ideal S3136x384 .f32) (B : FVec Ideal S16384x384 .f32) : IVec S4x784 32 :=
  shapeCast _ (refNear (refDist X B)) shapeCasts_S3136_S4x784

/-- The pairs, -/
def refWhere (X : FVec Ideal S3136x384 .f32) (B : FVec Ideal S16384x384 .f32) : IVec S4x2 32 := refPairs (refTop (refRowsOf X B))

/-- the nine nearest -/
def refNinth (X : FVec Ideal S3136x384 .f32) (B : FVec Ideal S16384x384 .f32) : IVec S4x9 32 :=
  refNine (refNeg (refNearest B (refPlace (refPlaces X B) (refWhere X B))) B)

/-- and the reference's second result. -/
def refPred (X : FVec Ideal S3136x384 .f32) (B : FVec Ideal S16384x384 .f32) : FVec Ideal S4 .f32 :=
  refWeighed (refExp (refAway (refFeature X (refWhere X B)) (refSupport B (refNinth X B)))) (refBest (refRowsOf X B) (refWhere X B))

variable (V0 : Valuation τ sig (Elt Ideal))

theorem v17_eq : res_main_v17 V0 = refDist (V0 (Proc.devRef .tc main_arg0)) (V0 (Proc.devRef .tc main_arg1)) := rfl
theorem v20_eq : res_main_v20 V0 = refRowsOf (V0 (Proc.devRef .tc main_arg0)) (V0 (Proc.devRef .tc main_arg1)) := rfl
theorem v19_eq : res_main_v19 V0 = refNear (res_main_v17 V0) := rfl
theorem v21_eq : res_main_v21 V0 = refPlaces (V0 (Proc.devRef .tc main_arg0)) (V0 (Proc.devRef .tc main_arg1)) :=
  congrArg (fun w : IVec S3136 32 => shapeCast S4x784 w shapeCasts_S3136_S4x784) ((v19_eq V0).trans (congrArg refNear (v17_eq V0)))
theorem v22_eq : res_main_v22 V0 = refTop (res_main_v20 V0) := rfl
theorem pairs_eq : refPairs (res_main_v22 V0) = refWhere (V0 (Proc.devRef .tc main_arg0)) (V0 (Proc.devRef .tc main_arg1)) := by
  unfold refWhere
  rw [v22_eq, v20_eq]
theorem v38_eq : res_main_v38 V0 = refFeature (V0 (Proc.devRef .tc main_arg0)) (refPairs (res_main_v22 V0)) := rfl
theorem v52_eq : res_main_v52 V0 = refBest (res_main_v20 V0) (refPairs (res_main_v22 V0)) := rfl
theorem v66_eq : res_main_v66 V0 = refPlace (res_main_v21 V0) (refPairs (res_main_v22 V0)) := rfl
theorem v73_eq : res_main_v73 V0 = refNearest (V0 (Proc.devRef .tc main_arg1)) (res_main_v66 V0) := rfl
theorem v92_eq : res_main_v92 V0 = refNeg (res_main_v73 V0) (V0 (Proc.devRef .tc main_arg1)) := rfl
theorem indices_eq : res_main_indices V0 = refNinth (V0 (Proc.devRef .tc main_arg0)) (V0 (Proc.devRef .tc main_arg1)) := by
  unfold refNinth
  rw [← pairs_eq, ← v21_eq, ← v66_eq, ← v73_eq, ← v92_eq]
  rfl
theorem v99_eq : res_main_v99 V0 = refSupport (V0 (Proc.devRef .tc main_arg1)) (res_main_indices V0) := rfl
theorem v118_eq : res_main_v118 V0 = refAway (res_main_v38 V0) (res_main_v99 V0) := rfl
theorem v125_eq : res_main_v125 V0 = refExp (res_main_v118 V0) := rfl
theorem pred_eq : refWeighed (res_main_v125 V0) (res_main_v52 V0) = refPred (V0 (Proc.devRef .tc main_arg0)) (V0 (Proc.devRef .tc main_arg1)) := by
  unfold refPred
  rw [v125_eq, v118_eq, v99_eq, indices_eq, v38_eq, v52_eq, pairs_eq, v20_eq]

/-- The reference's run: both results of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v265) = refMap (m ((c.tc : Thread nD τ).loc main_arg0)) (m ((c.tc : Thread nD τ).loc main_arg1))
      ∧ r.2.mem ((c.tc : Thread nD τ).loc main_v134) = refPred (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans (pred_eq (launchContents m c)), (h c).2.2⟩) (Value.run m ρ)

end Cert.ReferenceIdeal.Read

end
-- ==== Proof.RefRead.lean ====
/-
  The reference's steps read at an index, over the reals.
-/
module

public import proofs.«01_k».proof.Proof.RefTerm
public import proofs.«01_k».proof.Proof.Words
public import proofs.«01_k».proof.Proof.Score
public import proofs.«01_k».proof.Proof.Maths
public import Idealize.ShloMosaic.Lib.Pointwise

@[expose] public section

set_option maxRecDepth 16384

noncomputable section

namespace Cert.ReferenceIdeal.Read

open Cert.Maths Cert.ReferenceIdeal Cert.ReferenceIdeal.Gen Cert.ReferenceIdeal.Value
open Idealize.ShloMosaic Idealize.ShloMosaic.TcCoe Idealize.SL.Sem Idealize.ShloMosaic.StableHlo

/-- A small number read back from its word. -/
theorem toInt_word {n : ℕ} (h : n < 2 ^ 31) : (BitVec.ofNat 32 n).toInt.toNat = n := by
  rw [BitVec.toInt_eq_toNat_of_lt (by rw [BitVec.toNat_ofNat]; omega), BitVec.toNat_ofNat]
  omega

/-- The window gather along the rows, where the index table names row `r`. -/
theorem gather_rows {α : Type} (x : S4x1x256x224.Idx → α) (idx : IVec S224x33x1 32) (b : Fin 4) (i j : Fin 224) (t : Fin 33) (r : Fin 256)
    (h : idx (ix3 i t 0) = BitVec.ofNat 32 r.val) :
    Host.gather gather_S4x1x256x224_S224x33x1_S4x1x224x33x224_014_2_n_n_2_2_411224 x idx (ix5 b 0 i t j) = x (ix4 b 0 r j) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  by_cases ha : a = 2
  · subst ha
    rw [GatherDims.offCoord_eq_zero _ _ _ (by decide), Nat.add_zero]
    unfold GatherDims.start
    rw [dif_pos (by decide)]
    have hi : (gather_S4x1x256x224_S224x33x1_S4x1x224x33x224_014_2_n_n_2_2_411224).siIdx (ix5 b 0 i t j) ⟨List.idxOf 2 (gather_S4x1x256x224_S224x33x1_S4x1x224x33x224_014_2_n_n_2_2_411224).startIndexMap, List.idxOf_lt_length_iff.2 (by decide)⟩ = ix3 i t 0 := by
      funext c; refine Fin.ext ?_
      match c with
      | ⟨0, _⟩ => rfl
      | ⟨1, _⟩ => rfl
      | ⟨2, _⟩ => rfl
    rw [hi, h, toInt_word (by have := r.isLt; omega)]
    exact min_eq_left (by have := r.isLt; show r.val ≤ 255; omega)
  · unfold GatherDims.start GatherDims.offCoord
    have h3 : ∀ a : Fin 4, a ≠ 2 → a = 0 ∨ a = 1 ∨ a = 3 := by decide
    rcases h3 a ha with rfl | rfl | rfl
    · rw [dif_neg (by decide), dif_pos (by decide), Nat.zero_add]; rfl
    · rw [dif_neg (by decide), dif_pos (by decide), Nat.zero_add]; rfl
    · rw [dif_neg (by decide), dif_pos (by decide), Nat.zero_add]; rfl

/-- The window gather along the columns, where the index table names column `r`. -/
theorem gather_cols {α : Type} (x : S4x1x224x256.Idx → α) (idx : IVec S224x33x1 32) (b : Fin 4) (i j : Fin 224) (t : Fin 33) (r : Fin 256)
    (h : idx (ix3 j t 0) = BitVec.ofNat 32 r.val) :
    Host.gather gather_S4x1x224x256_S224x33x1_S4x1x224x224x33_012_3_n_n_3_2_412241 x idx (ix5 b 0 i j t) = x (ix4 b 0 i r) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  by_cases ha : a = 3
  · subst ha
    rw [GatherDims.offCoord_eq_zero _ _ _ (by decide), Nat.add_zero]
    unfold GatherDims.start
    rw [dif_pos (by decide)]
    have hi : (gather_S4x1x224x256_S224x33x1_S4x1x224x224x33_012_3_n_n_3_2_412241).siIdx (ix5 b 0 i j t) ⟨List.idxOf 3 (gather_S4x1x224x256_S224x33x1_S4x1x224x224x33_012_3_n_n_3_2_412241).startIndexMap, List.idxOf_lt_length_iff.2 (by decide)⟩ = ix3 j t 0 := by
      funext c; refine Fin.ext ?_
      match c with
      | ⟨0, _⟩ => rfl
      | ⟨1, _⟩ => rfl
      | ⟨2, _⟩ => rfl
    rw [hi, h, toInt_word (by have := r.isLt; omega)]
    exact min_eq_left (by have := r.isLt; show r.val ≤ 255; omega)
  · unfold GatherDims.start GatherDims.offCoord
    have h3 : ∀ a : Fin 4, a ≠ 3 → a = 0 ∨ a = 1 ∨ a = 2 := by decide
    rcases h3 a ha with rfl | rfl | rfl
    · rw [dif_neg (by decide), dif_pos (by decide), Nat.zero_add]; rfl
    · rw [dif_neg (by decide), dif_pos (by decide), Nat.zero_add]; rfl
    · rw [dif_neg (by decide), dif_pos (by decide), Nat.zero_add]; rfl

theorem refScore_apply (X : FVec Ideal S3136x384 .f32) (B : FVec Ideal S16384x384 .f32) (n : Fin 3136) :
    refScore X B (ix1 n) = score (fun k => X (ix2 n k)) (fun j k => B (ix2 j k)) := by
  pointwise [refScore]
  rw [ofBits_top, ofBits_two]
  rfl

theorem toInt_small {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- A small number's word converted. -/
theorem sitofp_small {n : ℕ} (h : n < 2 ^ 31) : FloatOps.sitofp (F := Ideal) FTy.f32 (BitVec.ofNat 32 n) = ((n : ℝ) : EReal) := by
  show (((BitVec.ofNat 32 n).toInt : ℝ) : EReal) = _
  rw [toInt_small h]
  norm_cast

theorem absf_real (a : ℝ) : FloatOps.absf (F := Ideal) (φ := .f32) (a : EReal) = ((|a| : ℝ) : EReal) := by
  show max (a : EReal) (-(a : EReal)) = _
  rw [← EReal.coe_neg]
  exact (EReal.coe_strictMono.monotone.map_max (a := a) (b := -a)).symm

theorem max_real (a b : ℝ) : max (a : EReal) (b : EReal) = ((max a b : ℝ) : EReal) :=
  (EReal.coe_strictMono.monotone.map_max (a := a) (b := b)).symm

theorem div_real (a b : ℝ) (h : b ≠ 0) : Ideal.div (a : EReal) (b : EReal) = ((a / b : ℝ) : EReal) := by
  rw [Ideal.div_coe h, ← EReal.coe_mul]
  refine congrArg _ ?_
  field_simp

theorem refSample_apply (j : Fin 224) : refSample (ix1 j) = (((2 * (j.val : ℝ) - 7) / 16 : ℝ) : EReal) := by
  pointwise [refSample]
  rw [sitofp_small (by omega), ofBits_half, ofBits_eighth, ← EReal.coe_add, ← EReal.coe_mul, ← EReal.coe_sub]
  refine congrArg _ ?_
  ring

theorem refTri_apply (p : Fin 28) (j : Fin 224) : refTri (ix2 p j) = ((tri p j / 16 : ℝ) : EReal) := by
  pointwise [refTri]
  have e1 : (id (maximumf (constant S_ FTy.f32 1040187392#32) (constant S_ FTy.f32 1065353216#32)) : FVec Ideal S_ .f32) ix0 = ((1 : ℝ) : EReal) := by
    show max (Ideal.ofBits .f32 0x3E000000#32) (Ideal.ofBits .f32 0x3F800000#32) = _
    rw [ofBits_eighth, Ideal.ofBits_one_f32, show (1 : EReal) = ((1 : ℝ) : EReal) from rfl, max_real]
    refine congrArg _ ?_
    norm_num
  rw [sitofp_small (by omega), e1, refSample_apply, ← tri_eq, ← EReal.coe_sub, absf_real, div_real _ _ one_ne_zero, absf_real, div_one, abs_abs,
    show (1 : EReal) = ((1 : ℝ) : EReal) from rfl, show (0 : EReal) = ((0 : ℝ) : EReal) from rfl, ← EReal.coe_sub, max_real]

theorem refTotal_apply (j : Fin 224) : refTotal (ix2 0 j) = ((tot j / 16 : ℝ) : EReal) := by
  pointwise [refTotal]
  simp only [refTri_apply]
  rw [← coe_sum]
  refine congrArg _ ?_
  unfold tot
  push_cast
  rw [Finset.sum_div]

theorem refWeights_apply (p : Fin 28) (j : Fin 224) : refWeights (ix2 p j) = (w p j : EReal) := by
  pointwise [refWeights]
  rw [refSample_apply, refTotal_apply, refTri_apply, ofBits_neg_half, ofBits_last, absf_real]
  obtain ⟨ε, hε, hlt⟩ := ofBits_small
  have ht : (1 : ℝ) ≤ (tot j : ℝ) := by exact_mod_cast tot_pos j
  have hj : (j.val : ℝ) ≤ 223 := by exact_mod_cast Nat.le_of_lt_succ j.isLt
  have hj0 : (0 : ℝ) ≤ (j.val : ℝ) := Nat.cast_nonneg _
  have h0 : (tot j : ℝ) / 16 ≠ 0 := by positivity
  rw [decide_eq_true (EReal.coe_le_coe_iff.mpr (by linarith)), decide_eq_true (EReal.coe_le_coe_iff.mpr (by linarith)), hε,
    if_pos (EReal.coe_lt_coe_iff.mpr (by rw [abs_of_nonneg (by positivity)]; linarith)),
    if_pos (by exact_mod_cast h0), div_real _ _ h0, tri_div_tot]
  rfl

theorem refUp_apply (s : FVec Ideal S3136 .f32) (r : Fin 3136 → ℝ) (hr : ∀ n, s (ix1 n) = (r n : EReal)) (b : Fin 4) (i j : Fin 224) :
    refUp s (ix4 b 0 i j) = ((∑ q, (∑ p, w p i * r ⟨b.val * 784 + p.val * 28 + q.val, by omega⟩) * w q j : ℝ) : EReal) := by
  pointwise [refUp]
  simp only [refWeights_apply, hr, sum_mul_coe]

theorem refWindow_apply (i : Fin 224) (t : Fin 33) : refWindow (ix2 i t) = BitVec.ofNat 32 (i.val + t.val) := by
  pointwise [refWindow]
  unfold IntOp.addi
  rw [← BitVec.ofNat_add]

theorem refIndex_apply (i : Fin 224) (t : Fin 33) :
    (broadcastInDim S224x33x1 ![0, 1] bcast_S224x33_S224x33x1_0_1 (select (cmpi .slt refWindow (broadcastInDim S224x33 ![] bcast_S_S224x33 (constantI S_ 32 0#32))) (addi refWindow (broadcastInDim S224x33 ![] bcast_S_S224x33 (constantI S_ 32 256#32))) refWindow)) (ix3 i t 0)
      = BitVec.ofNat 32 (i.val + t.val) := by
  pointwise []
  rw [refWindow_apply]
  have e : IntOp.cmpi CmpIPredicate.slt (BitVec.ofNat 32 (i.val + t.val)) 0#32 = BitVec.ofBool false := by
    unfold IntOp.cmpi
    refine congrArg BitVec.ofBool ?_
    have h0 : (BitVec.ofNat 32 (i.val + t.val)).toInt = ((i.val + t.val : ℕ) : ℤ) := toInt_small (by omega)
    have hz : (0#32).toInt = 0 := by decide
    rw [BitVec.slt, decide_eq_false_iff_not, not_lt, h0, hz]
    exact Int.natCast_nonneg _
  rw [e]
  rfl

theorem refRows_apply (k : Fin 33 → ℝ) (hk : ∀ t, refTaps (ix1 t) = (k t : EReal)) (u : FVec Ideal S4x1x224x224 .f32) (b : Fin 4) (r : Fin 224 → Fin 224 → ℝ) (hr : ∀ i j, u (ix4 b 0 i j) = (r i j : EReal)) (i j : Fin 224) :
    refRows u (ix4 b 0 i j) = ((∑ t : Fin 33, padded (fun x => r x j) (i.val + t.val) * k t : ℝ) : EReal) := by
  pointwise [refRows]
  rw [coe_sum]
  refine Finset.sum_congr rfl fun t _ => ?_
  rw [hk, EReal.coe_mul]
  refine congrArg (· * (k t : EReal)) ?_
  rw [gather_rows _ _ b i j t ⟨i.val + t.val, by omega⟩ (refIndex_apply i t)]
  pointwise []
  unfold padded
  by_cases h : 16 ≤ i.val + t.val ∧ i.val + t.val < 240
  · rw [dif_pos ⟨h.1, by omega⟩, dif_pos h, hr]
  · rw [dif_neg (by omega), dif_neg h]
    exact (sitofp_small (n := 0) (by norm_num)).trans (by norm_num)

theorem refCols_apply (k : Fin 33 → ℝ) (hk : ∀ t, refTaps (ix1 t) = (k t : EReal)) (u : FVec Ideal S4x1x224x224 .f32) (b : Fin 4) (r : Fin 224 → Fin 224 → ℝ) (hr : ∀ i j, u (ix4 b 0 i j) = (r i j : EReal)) (i j : Fin 224) :
    refCols u (ix4 b 0 i j) = ((∑ t : Fin 33, padded (r i) (j.val + t.val) * k t : ℝ) : EReal) := by
  pointwise [refCols]
  rw [coe_sum]
  refine Finset.sum_congr rfl fun t _ => ?_
  rw [hk, EReal.coe_mul]
  refine congrArg (· * (k t : EReal)) ?_
  rw [gather_cols _ _ b i j t ⟨j.val + t.val, by omega⟩ (refIndex_apply j t)]
  pointwise []
  unfold padded
  by_cases h : 16 ≤ j.val + t.val ∧ j.val + t.val < 240
  · rw [dif_pos ⟨h.1, by omega⟩, dif_pos h, hr]
  · rw [dif_neg (by omega), dif_neg h]
    exact (sitofp_small (n := 0) (by norm_num)).trans (by norm_num)

/-- The reference's map at an index, where the scores are reals: they stand between the matrix and itself. -/
theorem refMap_apply (X : FVec Ideal S3136x384 .f32) (B : FVec Ideal S16384x384 .f32) (k : Fin 33 → ℝ) (hk : ∀ t, refTaps (ix1 t) = (k t : EReal))
    (r : Fin 3136 → ℝ) (hr : ∀ n, refScore X B (ix1 n) = (r n : EReal)) (b : Fin 4) (i j : Fin 224) :
    refMap X B (ix4 b 0 i j) = ((∑ q, (∑ p, lin k i p * r ⟨b.val * 784 + p.val * 28 + q.val, by omega⟩) * lin k j q : ℝ) : EReal) := by
  unfold refMap
  rw [refCols_apply k hk _ b _ (fun x y => refRows_apply k hk _ b _ (fun x' y' => refUp_apply _ r hr b x' y') x y) i j]
  rw [← blur_both]

end Cert.ReferenceIdeal.Read

end
-- ==== Proof.Value.lean ====
/-
  The kernel's map is the reference's: of finite arguments both are the scores, interpolated and blurred by one matrix on
  both sides.
-/
module

public import proofs.«01_k».proof.Proof.KernelScore
public import proofs.«01_k».proof.Proof.KernelMap
public import proofs.«01_k».proof.Proof.KernelLin
public import proofs.«01_k».proof.Proof.RefRead

@[expose] public section

set_option maxRecDepth 16384

noncomputable section

namespace Cert.Maths

open Idealize.ShloMosaic Idealize.ShloMosaic.TcCoe Idealize.SL.Sem Idealize.ShloMosaic.StableHlo

/-- The two programs' blur taps are the same words. -/
theorem taps_eq (t : Fin 33) : Cert.KernelIdeal.Run.taps (ix1 t) = Cert.ReferenceIdeal.Read.refTaps (ix1 t) := by
  have h : ∀ t : Fin 33, Cert.KernelIdeal.lit4 (Cert.KernelIdeal.S33.rowMajor (ix1 t)) = Cert.ReferenceIdeal.lit0 (Cert.ReferenceIdeal.S33.rowMajor (ix1 t)) := by
    decide +kernel
  exact congrArg (FloatOps.ofBits (F := Ideal) .f32) (h t)

/-- One score of the kernel, late root and all, is the reference's. -/
theorem lateScore_eq (x : Fin 384 → ℝ) (b : Fin 16384 → Fin 384 → ℝ) (X : Fin 384 → EReal) (B : Fin 16384 → Fin 384 → EReal)
    (hX : ∀ k, X k = (x k : EReal)) (hB : ∀ j k, B j k = (b j k : EReal)) : Cert.KernelIdeal.Run.lateScore X B = score X B := by
  obtain rfl : X = fun k => (x k : EReal) := funext hX
  obtain rfl : B = fun j k => (b j k : EReal) := funext fun j => funext (hB j)
  exact score_late x b

end Cert.Maths

namespace Cert.KernelIdeal.Run

open Cert.KernelIdeal Cert.KernelIdeal.Gen Cert.Maths
open Idealize.ShloMosaic Idealize.ShloMosaic.TcCoe Idealize.SL.Sem Idealize.ShloMosaic.StableHlo

theorem amap (X : FVec Ideal S3136x384 .f32) (B : FVec Ideal S16384x384 .f32)
    (x : Fin 3136 → Fin 384 → ℝ) (b : Fin 16384 → Fin 384 → ℝ) (hX : ∀ n k, X (ix2 n k) = (x n k : EReal)) (hB : ∀ j k, B (ix2 j k) = (b j k : EReal)) :
    shapeCast S4x1x224x224 (maps (image (allScores (padRows X) B)) both (transpose S28x224 [1, 0] both transposes_S224x28_S28x224_1_0)) shapeCasts_S896x224_S4x1x224x224
      = Cert.ReferenceIdeal.Read.refMap X B := by
  obtain ⟨k, hk⟩ := taps_real
  have hs : ∀ n, ∃ r : ℝ, score (fun k => X (ix2 n k)) (fun j k => B (ix2 j k)) = (r : EReal) := fun n => by
    obtain ⟨r, hr⟩ := score_real (x n) b
    refine ⟨r, Eq.trans ?_ hr⟩
    exact congrArg₂ score (funext (hX n)) (funext fun j => funext (hB j))
  choose r hr using hs
  funext y
  idx_vars y
  obtain rfl : y1 = 0 := Subsingleton.elim _ _
  rw [Cert.ReferenceIdeal.Read.refMap_apply X B k (fun t => (taps_eq t).symm.trans (hk t)) r
    (fun n => (Cert.ReferenceIdeal.Read.refScore_apply X B n).trans (hr n)) y0 y2 y3, map_apply]
  have hi : ∀ p q : Fin 28, image (allScores (padRows X) B) (ix2 ⟨28 * y0.val + p.val, by omega⟩ q) = (r ⟨y0.val * 784 + p.val * 28 + q.val, by omega⟩ : EReal) := fun p q => by
    rw [image_apply (padRows X) B y0 p q ⟨y0.val * 784 + p.val * 28 + q.val, by omega⟩ rfl]
    refine Eq.trans ?_ (hr _)
    refine Eq.trans (congrArg (fun f => lateScore f _) (funext fun l => padRows_apply X _ l)) ?_
    exact lateScore_eq (x _) b _ _ (hX _) hB
  simp only [both_apply k hk, hi, sum_mul_coe]

/-- The kernel's first result, of finite arguments. -/
theorem out0 (m : (ℓ : Loc nD τ sig) → Buf (Elt Ideal) ℓ) (ρ : Dev nD → PrngReg) (c : Dev nD)
    (x : Fin 3136 → Fin 384 → ℝ) (b : Fin 16384 → Fin 384 → ℝ)
    (hX : ∀ n k, (m ((c.tc : Thread nD τ).loc main_arg0) : FVec Ideal S3136x384 .f32) (ix2 n k) = (x n k : EReal))
    (hB : ∀ j k, (m ((c.tc : Thread nD τ).loc main_arg1) : FVec Ideal S16384x384 .f32) (ix2 j k) = (b j k : EReal)) :
    W5 m ρ c (Proc.devRef .tc main_v0_0) = Cert.ReferenceIdeal.Read.refMap (m ((c.tc : Thread nD τ).loc main_arg0)) (m ((c.tc : Thread nD τ).loc main_arg1)) := by
  rw [W5_out, maps_final, V3_image, V3_both, V3_bothT, scores_final, V1_pad, V1_bank]
  exact amap _ _ x b hX hB

end Cert.KernelIdeal.Run

end
-- ==== Proof.First.lean ====
/-
  The first position of a list's least entry; the picks, each of them the first least entry of what the earlier picks
  leave; and the stable sort, whose first positions are those picks.
-/
module

public import Idealize.ShloMosaic.Lib.Pointwise
public import Idealize.ShloMosaic.Lib.IdealHost
public import Idealize.ShloMosaic.Lib.SortPrefix

@[expose] public section

noncomputable section

namespace Cert.Maths

open Finset Idealize.ShloMosaic

instance : NeZero 784 := ⟨by decide⟩
instance : NeZero 16384 := ⟨by decide⟩

variable {n : ℕ}

/-- `i` is the first position of the least entry. -/
def IsFirst (f : Fin n → EReal) (i : Fin n) : Prop := (∀ j, f i ≤ f j) ∧ ∀ j, j < i → f i < f j

theorem IsFirst.unique {f : Fin n → EReal} {i j : Fin n} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

theorem exists_first [NeZero n] (f : Fin n → EReal) : ∃ i, IsFirst f i := by
  obtain ⟨m, hm⟩ := Finite.exists_min f
  obtain ⟨i, hi, hmin⟩ := WellFounded.has_min (r := fun a b : Fin n => a < b) wellFounded_lt {i | ∀ j, f i ≤ f j} ⟨m, hm⟩
  exact ⟨i, hi, fun j hj => lt_of_le_of_ne (hi j) fun e => hmin j (fun k => e ▸ hi k) hj⟩

/-- The first position of the least entry. -/
def first [NeZero n] (f : Fin n → EReal) : Fin n := (exists_first f).choose

theorem first_spec [NeZero n] (f : Fin n → EReal) : IsFirst f (first f) := (exists_first f).choose_spec

theorem IsFirst.first_eq [NeZero n] {f : Fin n → EReal} {i : Fin n} (h : IsFirst f i) : first f = i := (first_spec f).unique h

/-- Lists ordered alike have the same first least position. -/
theorem first_congr [NeZero n] {f g : Fin n → EReal} (h : ∀ i j, f i ≤ f j ↔ g i ≤ g j) : first f = first g :=
  IsFirst.first_eq ⟨fun j => (h _ _).mpr ((first_spec g).1 j), fun j hj => by
    have := (first_spec g).2 j hj
    rw [← not_le] at this ⊢
    rwa [h]⟩

/-- What `k` picks leave: the picked entries raised to the top. -/
def rest [NeZero n] (f : Fin n → EReal) : ℕ → Fin n → EReal
  | 0 => f
  | k + 1 => fun j => if j = first (rest f k) then ⊤ else rest f k j

/-- The `k`-th pick. -/
def pick [NeZero n] (f : Fin n → EReal) (k : ℕ) : Fin n := first (rest f k)

theorem rest_of_picked [NeZero n] (f : Fin n → EReal) (k i : ℕ) (h : i < k) : rest f k (pick f i) = ⊤ := by
  induction k with
  | zero => omega
  | succ k ih =>
    show (if _ then _ else _) = _
    split
    · rfl
    · rename_i hne
      rcases Nat.lt_succ_iff_lt_or_eq.mp h with h | rfl
      · exact ih h
      · exact absurd rfl hne

theorem rest_of_ne [NeZero n] (f : Fin n → EReal) (k : ℕ) (j : Fin n) (h : ∀ i < k, pick f i ≠ j) : rest f k j = f j := by
  induction k with
  | zero => rfl
  | succ k ih =>
    show (if _ then _ else _) = _
    rw [if_neg fun e => h k (Nat.lt_succ_self k) e.symm]
    exact ih fun i hi => h i (Nat.lt_succ_of_lt hi)

/-- While entries below the top remain, a pick is none of the earlier ones. -/
theorem pick_ne [NeZero n] (f : Fin n → EReal) (hf : ∀ j, f j ≠ ⊤) (k : ℕ) (hk : k < n) (i : ℕ) (hi : i < k) : pick f i ≠ pick f k := by
  have ⟨j, hj⟩ : ∃ j, ∀ i < k, pick f i ≠ j := by
    by_contra hc
    push Not at hc
    have hs : Function.Surjective fun i : Fin k => pick f i.val := fun j => by
      obtain ⟨i, hi, e⟩ := hc j
      exact ⟨⟨i, hi⟩, e⟩
    have := Fintype.card_le_of_surjective _ hs
    rw [Fintype.card_fin, Fintype.card_fin] at this
    omega
  intro e
  have h1 := (first_spec (rest f k)).1 j
  rw [rest_of_ne f k j hj] at h1
  have h2 : rest f k (first (rest f k)) = ⊤ := by
    have := rest_of_picked f k i hi
    rwa [e] at this
  rw [h2] at h1
  exact hf j (top_le_iff.mp h1)

/-- `p` comes before `q`: a lower entry, or the same entry earlier. -/
def before (f : Fin n → EReal) (p q : Fin n) : Bool := decide (f p < f q) || (decide (f p = f q) && decide (p < q))

theorem before_strict (f : Fin n → EReal) : StrictTotalBefore (before f) :=
  StrictTotalBefore.of_key_then_position (fun a b : EReal => decide (a < b)) f (fun a => by simp)
    (fun a b c h h' => by simp only [decide_eq_true_eq] at h h' ⊢; exact h.trans h')
    (fun a b => by simp only [decide_eq_true_eq]; exact lt_trichotomy a b)

/-- No position the earlier picks left is before the next pick. -/
theorem not_before_pick [NeZero n] (f : Fin n → EReal) (hf : ∀ j, f j ≠ ⊤) (k : ℕ) (hk : k < n) (p : Fin n)
    (hp : ∀ i < k, pick f i ≠ p) : before f p (pick f k) = false := by
  have hs := first_spec (rest f k)
  have h1 := hs.1 p
  have h2 := hs.2 p
  have e : rest f k (first (rest f k)) = f (pick f k) := rest_of_ne f k _ fun i hi => pick_ne f hf k hk i hi
  rw [e, rest_of_ne f k p hp] at h1 h2
  unfold before
  rw [decide_eq_false (not_lt.mpr h1), Bool.false_or]
  by_cases hlt : p < pick f k
  · rw [decide_eq_false (h2 hlt).ne']
    rfl
  · rw [decide_eq_false hlt, Bool.and_false]

/-- A stable sort by the entries alone is the sort by the entry and then the position. -/
theorem stableSort_entries (f : Fin n → EReal) (l : List (Fin n)) (hl : l.Pairwise (· < ·)) :
    stableSort (fun p q => decide (f p < f q)) l = stableSort (before f) l := by
  induction l with
  | nil => rfl
  | cons a l ih =>
    rw [List.pairwise_cons] at hl
    unfold stableSort
    rw [ih hl.2]
    refine insertBefore_congr _ _ a _ fun b hb => ?_
    have hb' := hl.1 b ((perm_stableSort (before f) l).mem_iff.mp hb)
    unfold before
    rw [decide_eq_false (not_lt.mpr hb'.le), Bool.and_false, Bool.or_false]

/-- The first positions of a stable sort are the picks. -/
theorem sortedFrom_pick [NeZero n] (f : Fin n → EReal) (hf : ∀ j, f j ≠ ⊤) {K : ℕ} (hK : K ≤ n) (k : Fin K) :
    sortedFrom (fun p q => decide (f p < f q)) (k.castLE hK) = pick f k.val := by
  have h := (before_strict f).sortedFrom_eq_of_prefix hK (fun k : Fin K => pick f k.val)
    (fun i j e => by
      by_contra hne
      rcases lt_or_gt_of_ne (Fin.val_ne_of_ne hne) with h | h
      · exact pick_ne f hf j.val (by omega) i.val h e
      · exact pick_ne f hf i.val (by omega) j.val h e.symm)
    (fun i j hij => not_before_pick f hf i.val (by omega) _ fun l hl => pick_ne f hf j.val (by omega) l (hl.trans hij))
    (fun i p hp => not_before_pick f hf i.val (by omega) p fun l hl => hp ⟨l, by omega⟩) k
  rw [← h]
  unfold sortedFrom
  exact List.get_of_eq (stableSort_entries f _ (List.pairwise_lt_finRange n)) _

/-! ### The picks by words and by masks -/

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.mp h)]

/-- The least word of a list, at a position where it is attained. -/
theorem fold_minsi (g : Fin n → BitVec 32) (c : BitVec 32) (i : Fin n) (hc : (g i).toInt ≤ c.toInt)
    (h : ∀ j, (g i).toInt ≤ (g j).toInt) : univ.fold IntOp.minsi c g = g i := by
  apply BitVec.eq_of_toInt_eq
  have e := Finset.fold_hom (op := IntOp.minsi) (op' := min) (m := BitVec.toInt) (b := c) (f := g) (s := univ) toInt_minsi
  rw [← e]
  exact le_antisymm (((Finset.le_fold_min _).mp le_rfl).2 i (mem_univ i)) ((Finset.le_fold_min _).mpr ⟨hc, fun j _ => h j⟩)

theorem toInt_word (k : ℕ) (h : k < 2 ^ 30) : (BitVec.ofNat 32 k).toInt = k := by
  rw [BitVec.toInt_eq_toNat_of_lt (by rw [BitVec.toNat_ofNat]; omega), BitVec.toNat_ofNat, Nat.mod_eq_of_lt (by omega)]

/-- The least entry stands at its first position. -/
theorem fold_first (f : Fin n → EReal) (i : Fin n) (hi : IsFirst f i) : univ.fold min ⊤ f = f i :=
  le_antisymm (((Finset.le_fold_min _).mp le_rfl).2 i (mem_univ i)) ((Finset.le_fold_min _).mpr ⟨le_top, fun j _ => hi.1 j⟩)

/-- The least of the entries' positions where the least entry stands: the first least position's word. -/
theorem word_first (hn : n ≤ 2 ^ 30) (f : Fin n → EReal) (i : Fin n) (hi : IsFirst f i) (g : Fin n → BitVec 32)
    (hg : ∀ k, g k = if f k = univ.fold min ⊤ f then BitVec.ofNat 32 k.val else 1073741824#32) :
    univ.fold IntOp.minsi 2147483647#32 g = BitVec.ofNat 32 i.val := by
  have hm : univ.fold min ⊤ f = f i := le_antisymm (((Finset.le_fold_min _).mp le_rfl).2 i (mem_univ i))
    ((Finset.le_fold_min _).mpr ⟨le_top, fun j _ => hi.1 j⟩)
  have hgi : g i = BitVec.ofNat 32 i.val := by rw [hg, if_pos hm.symm]
  have hlt := i.isLt
  rw [fold_minsi g _ i, hgi]
  · rw [hgi, toInt_word _ (by omega)]
    have : (2147483647#32 : BitVec 32).toInt = 2147483647 := by decide
    omega
  · intro j
    have hj := j.isLt
    rw [hgi, hg, toInt_word _ (by omega)]
    split
    · rename_i h
      rw [toInt_word _ (by omega)]
      have : ¬ j < i := fun hji => (hi.2 j hji).ne (hm.symm.trans h.symm)
      have := Fin.not_lt.mp this
      omega
    · have : (1073741824#32 : BitVec 32).toInt = 1073741824 := by decide
      omega

theorem word_inj {a b : ℕ} (ha : a < 2 ^ 30) (hb : b < 2 ^ 30) : BitVec.ofNat 32 a = BitVec.ofNat 32 b ↔ a = b :=
  ⟨fun h => by
    have := congrArg BitVec.toNat h
    rwa [BitVec.toNat_ofNat, BitVec.toNat_ofNat, Nat.mod_eq_of_lt (by omega), Nat.mod_eq_of_lt (by omega)] at this, fun h => h ▸ rfl⟩

/-- One entry kept and the others at the bottom: the greatest is that entry. -/
theorem fold_max_one (g : Fin n → EReal) (i : Fin n) : univ.fold max ⊥ (fun k => if k = i then g k else ⊥) = g i := by
  apply le_antisymm
  · refine (Finset.fold_max_le _).mpr ⟨bot_le, fun k _ => ?_⟩
    split
    · rename_i h; rw [h]
    · exact bot_le
  · exact (Finset.le_fold_max _).mpr (Or.inr ⟨i, mem_univ i, by rw [if_pos rfl]⟩)

/-- The sum against one 1 among zeros. -/
theorem sum_one (g : Fin n → EReal) (i : Fin n) : ∑ k, (if k = i then (1 : EReal) else 0) * g k = g i := by
  rw [Finset.sum_eq_single i]
  · rw [if_pos rfl, one_mul]
  · intro k _ hk
    rw [if_neg hk, zero_mul]
  · intro h
    exact absurd (mem_univ i) h

theorem ofBits_bot : Ideal.ofBits .f32 0xFF800000#32 = ⊥ := by simp [Ideal.ofBits, Ideal.ieee]

/-- The patch of the greatest score: the first where the negated score is least. -/
def topPatch (s : Fin 784 → EReal) : Fin 784 := first fun p => 0 - s p

/-- The score weighed by one less the first entry's share of nine. -/
def weigh (v : Fin 9 → EReal) (s : EReal) : EReal :=
  (1 - Ideal.div (Ideal.exp (v 0 - Finset.univ.fold max ⊥ v)) (∑ k, Ideal.exp (v k - Finset.univ.fold max ⊥ v))) * s

end Cert.Maths

end
-- ==== Proof.KernelPick.lean ====
/-
  The second body's rounds: the mask of each row's first least entry, the entry read under it, and what a round leaves.
-/
module

public import proofs.«01_k».proof.Proof.KernelTerm
public import proofs.«01_k».proof.Proof.Score
public import proofs.«01_k».proof.Proof.First

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo

/-- The column numbers. -/
abbrev cols : IVec S4x16384 32 := iota .tc S4x16384 32 [1] iota_S4x16384_d1_w32

/-- The column of each row's first least entry. -/
def rowFirst (d : FVec Ideal S4x16384 .f32) : IVec S4x16384 32 :=
  broadcastTo S4x16384 (shapeCast S4x1 (multiReductionI .minsi [1] S4 (select (cmpf .oeq d (broadcastTo S4x16384
    (shapeCast S4x1 (multiReduction .minimumf [1] S4 d 0x7F800000#32 reduces_S4x16384_S4 (.inl rfl) rfl) shapeCasts_S4_S4x1)
    broadcasts_S4x1_S4x16384)) cols (broadcast S4x16384 1073741824#32)) 2147483647#32 reduces_S4x16384_S4 rfl) shapeCasts_S4_S4x1)
    broadcasts_S4x1_S4x16384

/-- The mask of each row's first least entry. -/
def rowMask (d : FVec Ideal S4x16384 .f32) : IVec S4x16384 1 := cmpi .eq cols (rowFirst d)

/-- That entry raised to the top. -/
def raised (d : FVec Ideal S4x16384 .f32) : FVec Ideal S4x16384 .f32 :=
  select (rowMask d) (broadcast S4x16384 (Scalar.ofBits .f32 0x7F800000#32)) d

/-- The entries of `g` under the mask. -/
def under (k : IVec S4x16384 1) (g : FVec Ideal S4x16384 .f32) : FVec Ideal S4x1 .f32 :=
  shapeCast S4x1 (multiReduction .maximumf [1] S4 (select k g (broadcast S4x16384 (Scalar.ofBits .f32 0xFF800000#32))) 0xFF800000#32
    reduces_S4x16384_S4 (.inl rfl) rfl) shapeCasts_S4_S4x1

/-- The entries of `g` where nine rounds on `d` stand, side by side. -/
def nine (g d : FVec Ideal S4x16384 .f32) : FVec Ideal S4x9 .f32 :=
  concatenate S4x9 1 [⟨S4x1, under (rowMask d) g⟩, ⟨S4x1, under (rowMask (raised d)) g⟩, ⟨S4x1, under (rowMask (raised (raised d))) g⟩,
    ⟨S4x1, under (rowMask (raised (raised (raised d)))) g⟩, ⟨S4x1, under (rowMask (raised (raised (raised (raised d))))) g⟩,
    ⟨S4x1, under (rowMask (raised (raised (raised (raised (raised d)))))) g⟩,
    ⟨S4x1, under (rowMask (raised (raised (raised (raised (raised (raised d))))))) g⟩,
    ⟨S4x1, under (rowMask (raised (raised (raised (raised (raised (raised (raised d)))))))) g⟩,
    ⟨S4x1, under (rowMask (raised (raised (raised (raised (raised (raised (raised (raised d))))))))) g⟩]
    concatenates_S4x1_S4x1_S4x1_S4x1_S4x1_S4x1_S4x1_S4x1_S4x1_S4x9_d1

/-- The exponentials of nine columns, the greatest taken off. -/
def exps (v : FVec Ideal S4x9 .f32) : FVec Ideal S4x9 .f32 :=
  exp (subf v (broadcastTo S4x9 (shapeCast S4x1 (multiReduction .maximumf [1] S4 v 0xFF800000#32 reduces_S4x9_S4 (.inl rfl) rfl)
    shapeCasts_S4_S4x1) broadcasts_S4x1_S4x9))

/-- One less the first column's share, times the score. -/
def weighed (s : FVec Ideal S4x1 .f32) (e : FVec Ideal S4x9 .f32) : FVec Ideal S4x1 .f32 :=
  mulf (subf (broadcast S4x1 (Scalar.ofBits .f32 0x3F800000#32)) (divf (extractStridedSlice S4x1 ![0, 0] e slices_S4x9_o0_0_S4x1)
    (shapeCast S4x1 (multiReduction .add [1] S4 e 0x00000000#32 reduces_S4x9_S4 (.inl rfl) rfl) shapeCasts_S4_S4x1))) s

theorem out1_9_eq (x0 : FVec Ideal S4x784 .f32) (x1 : FVec Ideal S112x28 .f32) (x2 : FVec Ideal S3328x384 .f32) (x3 : FVec Ideal S16384x384 .bf16)
    (x4 : FVec Ideal S1x3328 .f32) (x5 : FVec Ideal S1x16384 .f32) (x6 : FVec Ideal S224x28 .f32) (x7 : FVec Ideal S28x224 .f32) :
    (out1_9 (F := Ideal) x0 x1 x2 x3 x4 x5 x6 x7 : FVec Ideal S4x1 .f32)
      = View.canon [⟨r1_5, weighed (k1_pay5 (View.ld x0 r1_0)) (exps (nine (k1_pay50 x0 x1 x2 x3 x4 x5 x6 x7) (k1_pay51 x0 x1 x2 x3 x4 x5 x6 x7)))⟩] := rfl

theorem mask_word (n : ℕ) (hn : n ≤ 2 ^ 30) (i j : Fin n) :
    IntOp.cmpi .eq (BitVec.ofNat 32 i.val) (BitVec.ofNat 32 j.val) = if i = j then 1#1 else 0#1 := by
  have hi := i.isLt
  have hj := j.isLt
  by_cases h : i = j
  · subst h; simp [IntOp.cmpi]
  · have : BitVec.ofNat 32 i.val ≠ BitVec.ofNat 32 j.val := fun e => h (Fin.ext ((word_inj (by omega) (by omega)).mp e))
    simp only [IntOp.cmpi, if_neg h, beq_eq_false_iff_ne.mpr this]
    rfl

theorem rowFirst_apply (d : FVec Ideal S4x16384 .f32) (b : Fin 4) (j : Fin 16384) :
    rowFirst d (ix2 b j) = BitVec.ofNat 32 (first fun j => d (ix2 b j)).val := by
  unfold rowFirst cols
  pointwise []
  rw [ofBits_top]
  exact word_first (by norm_num) _ _ (first_spec _) _ fun _ => rfl

theorem rowMask_apply (d : FVec Ideal S4x16384 .f32) (b : Fin 4) (j : Fin 16384) :
    rowMask d (ix2 b j) = if j = first (fun j => d (ix2 b j)) then 1#1 else 0#1 := by
  rw [← mask_word 16384 (by norm_num)]
  show IntOp.cmpi .eq (cols (ix2 b j)) (rowFirst d (ix2 b j)) = _
  rw [rowFirst_apply]
  unfold cols
  pointwise []

theorem raised_apply (d : FVec Ideal S4x16384 .f32) (b : Fin 4) (j : Fin 16384) :
    raised d (ix2 b j) = if j = first (fun j => d (ix2 b j)) then ⊤ else d (ix2 b j) := by
  show Scalar.select (rowMask d (ix2 b j)) (Ideal.ofBits .f32 0x7F800000#32) (d (ix2 b j)) = _
  rw [rowMask_apply, ofBits_top]
  split <;> rfl

theorem raised_rest (d : FVec Ideal S4x16384 .f32) (b : Fin 4) (f : Fin 16384 → EReal) (k : ℕ) (h : (fun j => d (ix2 b j)) = rest f k) :
    (fun j => raised d (ix2 b j)) = rest f (k + 1) := by
  funext j
  rw [raised_apply, h]
  show (if _ then _ else d (ix2 b j)) = if _ then _ else _
  rw [show d (ix2 b j) = rest f k j from congrFun h j]

theorem under_apply (d g : FVec Ideal S4x16384 .f32) (b : Fin 4) (f : Fin 16384 → EReal) (k : ℕ) (h : (fun j => d (ix2 b j)) = rest f k) :
    under (rowMask d) g (ix2 b 0) = g (ix2 b (pick f k)) := by
  have e : under (rowMask d) g (ix2 b 0) = Finset.univ.fold max ⊥ fun j : Fin 16384 => Scalar.select (rowMask d (ix2 b j)) (g (ix2 b j)) ⊥ := by
    unfold under
    pointwise []
    rw [show Ideal.ofBits .f32 0xFF800000#32 = ⊥ from by simp [Ideal.ofBits, Ideal.ieee]]
  rw [e, ← fold_max_one (fun j => g (ix2 b j)) (pick f k)]
  refine congrArg (Finset.fold max ⊥ · Finset.univ) (funext fun j => ?_)
  rw [rowMask_apply, h]
  show Scalar.select (if j = pick f k then _ else _) _ _ = _
  split <;> rfl

theorem columns (f : Fin 9 → FVec Ideal S4x1 .f32) (b : Fin 4) (k : Fin 9) :
    concatenate S4x9 1 [⟨S4x1, f 0⟩, ⟨S4x1, f 1⟩, ⟨S4x1, f 2⟩, ⟨S4x1, f 3⟩, ⟨S4x1, f 4⟩, ⟨S4x1, f 5⟩, ⟨S4x1, f 6⟩, ⟨S4x1, f 7⟩, ⟨S4x1, f 8⟩]
      concatenates_S4x1_S4x1_S4x1_S4x1_S4x1_S4x1_S4x1_S4x1_S4x1_S4x9_d1 (ix2 b k) = f k (ix2 b 0) := by
  refine concatenate_ofFn_unit_apply (t := S4x9) (s₁ := S4x1) 1 f
    concatenates_S4x1_S4x1_S4x1_S4x1_S4x1_S4x1_S4x1_S4x1_S4x1_S4x9_d1 rfl rfl (ix2 b k) k rfl (ix2 b 0) fun a ha => ?_
  match a with
  | ⟨0, _⟩ => rfl
  | ⟨1, _⟩ => exact absurd rfl ha

/-- What `k` rounds leave. -/
def left (d : FVec Ideal S4x16384 .f32) : ℕ → FVec Ideal S4x16384 .f32
  | 0 => d
  | k + 1 => raised (left d k)

theorem left_rest (d : FVec Ideal S4x16384 .f32) (b : Fin 4) : ∀ k, (fun j => left d k (ix2 b j)) = rest (fun j => d (ix2 b j)) k
  | 0 => rfl
  | k + 1 => raised_rest (left d k) b _ k (left_rest d b k)

/-- Nine rounds on a row read the entries at the row's picks. -/
theorem nine_apply (g d : FVec Ideal S4x16384 .f32) (b : Fin 4) (k : Fin 9) :
    nine g d (ix2 b k) = g (ix2 b (pick (fun j => d (ix2 b j)) k.val)) :=
  (columns (fun k => under (rowMask (left d k.val)) g) b k).trans (under_apply _ g b _ _ (left_rest d b k.val))

theorem weighed_apply (s : FVec Ideal S4x1 .f32) (v : FVec Ideal S4x9 .f32) (b : Fin 4) :
    weighed s (exps v) (ix2 b 0) = weigh (fun k => v (ix2 b k)) (s (ix2 b 0)) := by
  unfold weighed exps weigh
  pointwise []
  rw [show Ideal.ofBits .f32 0xFF800000#32 = ⊥ from by simp [Ideal.ofBits, Ideal.ieee]]

end Cert.KernelIdeal.Run

end
-- ==== Proof.KernelPatch.lean ====
/-
  The second body's operands of the rounds: the patch of the greatest score, its nearest bank row, and the distances of all
  bank rows from both.
-/
module

public import proofs.«01_k».proof.Proof.KernelPick

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo

theorem ofBits_neg_half : Ideal.ofBits .f32 0xBF000000#32 = ((-0.5 : ℝ) : EReal) := by
  simp [Ideal.ofBits, Ideal.ieee, -EReal.coe_mul, -EReal.coe_neg]; norm_num

/-- The word of that patch, as the body computes it. -/
def patchWord (s : FVec Ideal S4x784 .f32) : IVec S4x1 32 :=
  shapeCast S4x1 (multiReductionI .minsi [1] S4 (select (cmpf .oeq (k1_pay3 (F := Ideal) s) (broadcastTo S4x784 (k1_pay4 (F := Ideal) s) broadcasts_S4x1_S4x784))
    (iota .tc S4x784 32 [1] iota_S4x784_d1_w32) (broadcast S4x784 1073741824#32)) 2147483647#32 reduces_S4x784_S4 rfl) shapeCasts_S4_S4x1

theorem patchWord_apply (s : FVec Ideal S4x784 .f32) (b : Fin 4) :
    patchWord s (ix2 b 0) = BitVec.ofNat 32 (topPatch fun p => s (ix2 b p)).val := by
  unfold patchWord topPatch
  pointwise [k1_pay3, k1_pay4]
  rw [ofBits_top]
  exact word_first (by norm_num) _ _ (first_spec _) _ fun _ => rfl

/-- The row of image `b`'s patch of the greatest score. -/
def topRow (s : FVec Ideal S4x784 .f32) (b : Fin 4) : Fin 3328 :=
  ⟨784 * b.val + (topPatch fun p => s (ix2 b p)).val, by omega⟩

theorem patchMask_apply (s : FVec Ideal S4x784 .f32) (b : Fin 4) (n : Fin 3328) :
    k1_pay6 (F := Ideal) s (ix2 b n) = if n = topRow s b then 1#1 else 0#1 := by
  rw [← mask_word 3328 (by norm_num)]
  have e : k1_pay6 (F := Ideal) s (ix2 b n) = IntOp.cmpi .eq (BitVec.ofNat 32 n.val) (BitVec.ofNat 32 b.val * 784#32 + patchWord s (ix2 b 0)) := by
    show IntOp.cmpi .eq (iota .tc S4x3328 32 [1] iota_S4x3328_d1_w32 (ix2 b n)) (broadcastTo S4x3328 (addi (muli (iota .tc S4x1 32 [0] iota_S4x1_d0_w32)
      (broadcast S4x1 784#32)) (patchWord s)) broadcasts_S4x1_S4x3328 (ix2 b n)) = _
    pointwise []
    rfl
  rw [e, patchWord_apply]
  refine congrArg (IntOp.cmpi .eq _) ?_
  unfold topRow
  apply BitVec.eq_of_toNat_eq
  simp [BitVec.toNat_add, BitVec.toNat_mul]
  omega

/-- A mask of one entry as numbers. -/
theorem one_word (p : Prop) [Decidable p] : (FloatOps.sitofp (F := Ideal) .f32 (BitVec.setWidth 32 (if p then 1#1 else 0#1)) : EReal) = if p then 1 else 0 := by
  show (((BitVec.setWidth 32 (if p then 1#1 else 0#1)).toInt : ℝ) : EReal) = _
  split <;> simp

theorem patchRow_apply (s : FVec Ideal S4x784 .f32) (x : FVec Ideal S3328x384 .f32) (b : Fin 4) (k : Fin 384) :
    (k1_pay7 (F := Ideal) s x (ix2 b k) : EReal) = x (ix2 (topRow s b) k) := by
  rw [← sum_one (fun n => x (ix2 n k)) (topRow s b)]
  pointwise [k1_pay7]
  refine Finset.sum_congr rfl fun n _ => ?_
  rw [patchMask_apply, one_word]

theorem patchNorm_apply (s : FVec Ideal S4x784 .f32) (x : FVec Ideal S1x3328 .f32) (b : Fin 4) :
    k1_pay8 (F := Ideal) s x (ix2 b 0) = x (ix2 0 (topRow s b)) := by
  rw [← fold_max_one (fun n => x (ix2 0 n)) (topRow s b)]
  pointwise [k1_pay8]
  rw [ofBits_bot]
  refine congrArg (Finset.fold max ⊥ · Finset.univ) (funext fun n => ?_)
  rw [patchMask_apply]
  split <;> rfl

theorem patchScore_apply (s : FVec Ideal S4x784 .f32) (b : Fin 4) :
    k1_pay5 (F := Ideal) s (ix2 b 0) = s (ix2 b (topPatch fun p => s (ix2 b p))) := by
  pointwise [k1_pay5, k1_pay4, k1_pay3]
  rw [ofBits_top]
  have h := fold_first _ _ (first_spec fun p => 0 - s (ix2 b p))
  rw [h, zero_sub, zero_sub, neg_neg]
  rfl

theorem fromPatch_apply (f : FVec Ideal S4x384 .bf16) (n : FVec Ideal S4x1 .f32) (m : FVec Ideal S16384x384 .bf16) (y : FVec Ideal S1x16384 .f32)
    (b : Fin 4) (j : Fin 16384) :
    k1_pay11 f n m y (ix2 b j) = n (ix2 b 0) + ∑ k, f (ix2 b k) * m (ix2 j k) + y (ix2 0 j) := by
  pointwise [k1_pay11, k1_pay10]

theorem fromPatchRoot_apply (f : FVec Ideal S4x384 .bf16) (n : FVec Ideal S4x1 .f32) (m : FVec Ideal S16384x384 .bf16) (y : FVec Ideal S1x16384 .f32)
    (b : Fin 4) (j : Fin 16384) :
    k1_pay12 f n m y (ix2 b j) = root (n (ix2 b 0) + ∑ k, f (ix2 b k) * m (ix2 j k) + y (ix2 0 j)) := by
  rw [← fromPatch_apply]
  pointwise [k1_pay12]
  rfl

/-- The distances from a chosen bank row, under the mask. -/
def fromMask (k : IVec S4x16384 1) (m : FVec Ideal S16384x384 .bf16) (y : FVec Ideal S1x16384 .f32) : FVec Ideal S4x16384 .f32 :=
  sqrt (maximumf (addf (addf (broadcastTo S4x16384 (under k (broadcastTo S4x16384 (shapeCast S1x16384 (k1_pay10 y) shapeCasts_S1x16384_S1x16384) broadcasts_S1x16384_S4x16384))
      broadcasts_S4x1_S4x16384)
    (matmul dot_S4x384_S16384x384_S4x16384_1_1_0_0_n_n none (truncf .bf16 (mulf (broadcast S4x384 (Scalar.ofBits .f32 0xBF000000#32))
      (matmul dot_S4x16384_S16384x384_S4x384_1_0_0_1_n_n none (truncf .bf16 (sitofp .f32 (extui 32 k natLt_1_32)) bitsLt_bf16_f32) m (constant S4x384 .f32 0x00000000#32))) bitsLt_bf16_f32)
      m (constant S4x16384 .f32 0x00000000#32)))
    (broadcastTo S4x16384 (k1_pay10 y) broadcasts_S1x16384_S4x16384)) (broadcast S4x16384 (Scalar.ofBits .f32 0x00000000#32)))

theorem fromNearest_eq (f : FVec Ideal S4x384 .bf16) (n : FVec Ideal S4x1 .f32) (m : FVec Ideal S16384x384 .bf16) (y : FVec Ideal S1x16384 .f32) :
    k1_pay13 f n m y = fromMask (rowMask (k1_pay11 f n m y)) m y := rfl

theorem fromMask_apply (d : FVec Ideal S4x16384 .f32) (m : FVec Ideal S16384x384 .bf16) (y : FVec Ideal S1x16384 .f32) (b : Fin 4) (j : Fin 16384) :
    fromMask (rowMask d) m y (ix2 b j) = root (y (ix2 0 (first fun j => d (ix2 b j))) + ∑ k, (((-0.5 : ℝ) : EReal) * m (ix2 (first fun j => d (ix2 b j)) k)) * m (ix2 j k)
      + y (ix2 0 j)) := by
  have e : (fun j => d (ix2 b j)) = rest (fun j => d (ix2 b j)) 0 := rfl
  have u := under_apply d (broadcastTo S4x16384 (shapeCast S1x16384 (k1_pay10 y) shapeCasts_S1x16384_S1x16384) broadcasts_S1x16384_S4x16384) b _ 0 e
  have o : ∀ k, ∑ l, FloatOps.sitofp (F := Ideal) .f32 (BitVec.setWidth 32 (rowMask d (ix2 b l))) * m (ix2 l k) = m (ix2 (first fun j => d (ix2 b j)) k) := fun k => by
    rw [← sum_one (fun l => m (ix2 l k))]
    refine Finset.sum_congr rfl fun n _ => ?_
    rw [rowMask_apply, one_word]
  unfold fromMask
  pointwise [k1_pay10]
  pointwise [k1_pay10] at u
  rw [u, ofBits_neg_half]
  simp only [o]
  rfl

end Cert.KernelIdeal.Run

end
-- ==== Proof.KernelPred.lean ====
/-
  The second body's second result: the operands the first body leaves for it, and the reweighed greatest scores.
-/
module

public import proofs.«01_k».proof.Proof.KernelPatch
public import proofs.«01_k».proof.Proof.KernelScore
public import proofs.«01_k».proof.Proof.KernelMap

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo
open Idealize.ShloMosaic.Pipeline (Dat)

/-- The norms of all blocks of the padded rows. -/
def allNorms (P : FVec Ideal S3328x384 .f32) : FVec Ideal S13x1x256 .f32 :=
  fun y => ∑ k, P (ix2 ⟨256 * (y 0).val + (y 2).val, by
    have h0 : (y 0).val < 13 := (y 0).isLt
    have h2 : (y 2).val < 256 := (y 2).isLt
    omega⟩ k) * P (ix2 ⟨256 * (y 0).val + (y 2).val, by
    have h0 : (y 0).val < 13 := (y 0).isLt
    have h2 : (y 2).val < 256 := (y 2).isLt
    omega⟩ k)

theorem normsOf_apply (x : FVec Ideal S256x384 .f32) (j : Fin 256) :
    (normsOf (F := Ideal) x : FVec Ideal S1x1x256 .f32) (ix3 0 0 j) = ∑ k, x (ix2 j k) * x (ix2 j k) := by
  unfold normsOf rS rE
  rw [View.canon_cons_unit_lit _ _ _ (by decide)]
  pointwise [k0_pay7, k0_pay6, k0_pay5, k0_pay4]

theorem idx0' : ∀ t : Fin cfg0.N, win0_3.index t = ![t.val, 0, 0] ∧ win0_4.index t = ![0, 0] ∧ win0_5.index t = ![0, 0] :=
  (by decide +kernel : ∀ t : Fin grid0.N, _)

variable (V : (c : Dev nD) → (b : Ref sig .tc) → Buf (Elt Ideal) ((c : Thread nD τ).loc b)) (c : Dev nD)

theorem norms_final : (dat0 V c).arrAt 3 cfg0.N = allNorms (V c main_call0_v0) := by
  refine (dat0 V c).arrAt_eq_of_covers 3 _ (by decide +kernel) fun t _ y => ?_
  idx_vars y
  blk_simp [idx0' t]
  rw [after0_3]
  obtain rfl : y0 = 0 := Subsingleton.elim _ _
  obtain rfl : y1 = 0 := Subsingleton.elim _ _
  have ht : t.val < 13 := t.isLt
  have e : (win0_3.blk t).view.emb (ix3 0 0 y2) = ix3 ⟨t.val, ht⟩ 0 y2 := by blk_ext [idx0' t]
  rw [e]
  refine (normsOf_apply _ _).trans (Finset.sum_congr rfl fun k _ => ?_)
  exact congrArg₂ _ (blockRows V c t y2 k _) (blockRows V c t y2 k _)

theorem bankNorms_final : (dat0 V c).arrAt 4 cfg0.N = bankNorms (F := Ideal) (V c main_arg1) := by
  refine (dat0 V c).arrAt_eq_of_covers 4 _ (by decide +kernel) fun t _ y => ?_
  idx_vars y
  blk_simp [idx0' t]
  rw [after0_4, blockBank]
  have e : (win0_4.blk t).view.emb (ix2 y0 y1) = ix2 y0 y1 := by blk_ext [idx0' t]
  rw [e]

theorem bankScaled_final : (dat0 V c).arrAt 5 cfg0.N = bankScaled (F := Ideal) (V c main_arg1) := by
  refine (dat0 V c).arrAt_eq_of_covers 5 _ (by decide +kernel) fun t _ y => ?_
  idx_vars y
  blk_simp [idx0' t]
  rw [after0_5, blockBank]
  have e : (win0_5.blk t).view.emb (ix2 y0 y1) = ix2 y0 y1 := by blk_ext [idx0' t]
  rw [e]

/-- The reweighed greatest scores from the second body's operands. -/
def preds (s : FVec Ideal S4x784 .f32) (x : FVec Ideal S3328x384 .f32) (m : FVec Ideal S16384x384 .bf16) (n : FVec Ideal S1x3328 .f32)
    (y : FVec Ideal S1x16384 .f32) : FVec Ideal S4x1 .f32 :=
  weighed (k1_pay5 (F := Ideal) s) (exps (nine (k1_pay12 (F := Ideal) (k1_pay7 (F := Ideal) s x) (k1_pay8 (F := Ideal) s n) m y)
    (k1_pay13 (F := Ideal) (k1_pay7 (F := Ideal) s x) (k1_pay8 (F := Ideal) s n) m y)))

theorem cast9 (x : FVec Ideal S16384x384 .bf16) : k1_pay9 (F := Ideal) x = x := by
  funext y
  idx_vars y
  pointwise [k1_pay9]

theorem preds_eq (x0 : FVec Ideal S4x784 .f32) (x1 : FVec Ideal S112x28 .f32) (x2 : FVec Ideal S3328x384 .f32) (x3 : FVec Ideal S16384x384 .bf16)
    (x4 : FVec Ideal S1x3328 .f32) (x5 : FVec Ideal S1x16384 .f32) (x6 : FVec Ideal S224x28 .f32) (x7 : FVec Ideal S28x224 .f32) :
    (out1_9 (F := Ideal) x0 x1 x2 x3 x4 x5 x6 x7 : FVec Ideal S4x1 .f32) = preds x0 x2 x3 x4 x5 := by
  rw [out1_9_eq]
  unfold r1_5
  rw [View.canon_cons_unit_lit _ _ _ (by decide)]
  unfold k1_pay50 k1_pay51 k1_pay46 k1_pay47 k1_pay48
  have e0 := View.ld_unit_lit (Val := Elt Ideal) (e := .f32) (S := S4x784) (off := ![0, 0]) inb_S4x784_S4x784_0_0 x0 (by decide)
  have e1 := View.ld_unit_lit (Val := Elt Ideal) (e := .f32) (S := S3328x384) (off := ![0, 0]) inb_S3328x384_S3328x384_0_0 x2 (by decide)
  have e2 := View.ld_unit_lit (Val := Elt Ideal) (e := .f32) (S := S1x3328) (off := ![0, 0]) inb_S1x3328_S1x3328_0_0 x4 (by decide)
  have e3 := View.ld_unit_lit (Val := Elt Ideal) (e := .bf16) (S := S16384x384) (off := ![0, 0]) inb_S16384x384_S16384x384_0_0 x3 (by decide)
  have e4 := View.ld_unit_lit (Val := Elt Ideal) (e := .f32) (S := S1x16384) (off := ![0, 0]) inb_S1x16384_S1x16384_0_0 x5 (by decide)
  rw [e0, e1, e2, e3, e4, cast9]
  rfl

theorem idx1' : ∀ t : Fin cfg1.N, win1_0.index t = ![0, 0] ∧ win1_2.index t = ![0, 0] ∧ win1_3.index t = ![0, 0] ∧ win1_4.index t = ![0, 0]
    ∧ win1_5.index t = ![0, 0] ∧ win1_9.index t = ![0, 0] :=
  (by decide +kernel : ∀ t : Fin grid1.N, _)

theorem block0 (t : Fin cfg1.N) : (iblk1 V c 0 t : FVec Ideal S4x784 .f32) = (V c main_call0_v5 : FVec Ideal S4x784 .f32) := by
  funext y
  idx_vars y
  blk_simp [iblk1, idx1' t]
  blk_ext [iblk1, idx1' t]
theorem block2 (t : Fin cfg1.N) : (iblk1 V c 2 t : FVec Ideal S3328x384 .f32) = (V c main_call0_v0 : FVec Ideal S3328x384 .f32) := by
  funext y
  idx_vars y
  blk_simp [iblk1, idx1' t]
  blk_ext [iblk1, idx1' t]
theorem block3 (t : Fin cfg1.N) : (iblk1 V c 3 t : FVec Ideal S16384x384 .bf16) = (V c main_call0_v1_3 : FVec Ideal S16384x384 .bf16) := by
  funext y
  idx_vars y
  blk_simp [iblk1, idx1' t]
  blk_ext [iblk1, idx1' t]
theorem block4 (t : Fin cfg1.N) : (iblk1 V c 4 t : FVec Ideal S1x3328 .f32) = (V c main_call0_v4 : FVec Ideal S1x3328 .f32) := by
  funext y
  idx_vars y
  blk_simp [iblk1, idx1' t]
  blk_ext [iblk1, idx1' t]
theorem block5 (t : Fin cfg1.N) : (iblk1 V c 5 t : FVec Ideal S1x16384 .f32) = (V c main_call0_v1_2 : FVec Ideal S1x16384 .f32) := by
  funext y
  idx_vars y
  blk_simp [iblk1, idx1' t]
  blk_ext [iblk1, idx1' t]

theorem preds_final : (dat1 V c).arrAt 9 cfg1.N = preds (V c main_call0_v5) (V c main_call0_v0) (V c main_call0_v1_3) (V c main_call0_v4) (V c main_call0_v1_2) := by
  refine (dat1 V c).arrAt_eq_of_covers 9 _ (by decide +kernel) fun t _ y => ?_
  idx_vars y
  blk_simp [idx1' t]
  rw [after1_9, preds_eq, block0, block2, block3, block4, block5]
  have e : (win1_9.blk t).view.emb (ix2 y0 y1) = ix2 y0 y1 := by blk_ext [idx1' t]
  rw [e]

/-- The reweighed greatest score of an image. -/
theorem preds_apply (s : FVec Ideal S4x784 .f32) (x : FVec Ideal S3328x384 .f32) (m : FVec Ideal S16384x384 .bf16) (n : FVec Ideal S1x3328 .f32)
    (y : FVec Ideal S1x16384 .f32) (b : Fin 4) :
    preds s x m n y (ix2 b 0) =
      (let d : Fin 16384 → EReal := fun j => n (ix2 0 (topRow s b)) + ∑ k, x (ix2 (topRow s b) k) * m (ix2 j k) + y (ix2 0 j)
       let e : Fin 16384 → EReal := fun j => root (y (ix2 0 (first d)) + ∑ k, (((-0.5 : ℝ) : EReal) * m (ix2 (first d) k)) * m (ix2 j k) + y (ix2 0 j))
       weigh (fun k => root (d (pick e k.val))) (s (ix2 b (topPatch fun p => s (ix2 b p))))) := by
  have hd : (fun j => k1_pay11 (F := Ideal) (k1_pay7 (F := Ideal) s x) (k1_pay8 (F := Ideal) s n) m y (ix2 b j))
      = fun j => n (ix2 0 (topRow s b)) + ∑ k, x (ix2 (topRow s b) k) * m (ix2 j k) + y (ix2 0 j) := by
    funext j
    rw [fromPatch_apply, patchNorm_apply]
    simp only [patchRow_apply]
  unfold preds
  rw [weighed_apply, patchScore_apply]
  refine congrArg (weigh · _) (funext fun k => ?_)
  rw [nine_apply, fromPatchRoot_apply, patchNorm_apply, fromNearest_eq]
  simp only [patchRow_apply, fromMask_apply]
  rw [hd]

end Cert.KernelIdeal.Run

end
-- ==== Proof.RefPick.lean ====
/-
  The reference's selections: a row's first least position and first greatest position as the fold over pairs computes them.
-/
module

public import proofs.«01_k».proof.Proof.First
public import proofs.«01_k».proof.Proof.RefRead

@[expose] public section

set_option maxRecDepth 16384

noncomputable section

namespace Cert.Maths

/-- A fold that keeps the earlier of two entries comes to the entry that stands before all others. -/
theorem fold_keep {α : Type} (lt : α → α → Prop) [DecidableRel lt] (hirr : ∀ a, ¬ lt a a) (hasy : ∀ a b, lt a b → ¬ lt b a)
    (f : α → α → α) (hf : ∀ a b, f a b = if lt a b then a else b) (r : α) :
    ∀ (l : List α) (z : α), r ∈ z :: l → (∀ q ∈ z :: l, q = r ∨ lt r q) → l.foldl f z = r
  | [], z, hr, _ => (List.mem_singleton.mp hr).symm
  | b :: l, z, hr, h => by
    refine fold_keep lt hirr hasy f hf r l (f z b) ?_ fun q hq => ?_
    · rcases List.mem_cons.mp hr with e | hr
      · refine List.mem_cons.mpr (.inl ?_)
        subst e
        rw [hf]
        rcases h b (by simp) with e | e
        · rw [e, ite_self]
        · rw [if_pos e]
      rcases List.mem_cons.mp hr with e | hr
      · refine List.mem_cons.mpr (.inl ?_)
        subst e
        rw [hf]
        rcases h z (by simp) with e | e
        · rw [e, ite_self]
        · rw [if_neg (hasy _ _ e)]
      · exact List.mem_cons_of_mem _ hr
    · rcases List.mem_cons.mp hq with e | hq
      · rw [hf] at e
        split at e
        · exact h q (by simp [e])
        · exact h q (by simp [e])
      · exact h q (List.mem_cons_of_mem _ (List.mem_cons_of_mem _ hq))

end Cert.Maths

namespace Cert.ReferenceIdeal.Read

open Cert.Maths Cert.ReferenceIdeal Cert.ReferenceIdeal.Gen Cert.ReferenceIdeal.Value
open Idealize.ShloMosaic Idealize.ShloMosaic.TcCoe Idealize.SL.Sem Idealize.ShloMosaic.StableHlo

/-- The order of pairs: by the value, then by the position. -/
def pairLt (κ : EReal → EReal) (a b : EReal × BitVec 32) : Prop := κ a.1 < κ b.1 ∨ a.1 = b.1 ∧ a.2.toInt < b.2.toInt

theorem pairLt_irrefl (κ : EReal → EReal) (a : EReal × BitVec 32) : ¬ pairLt κ a a := by
  rintro (h | ⟨_, h⟩) <;> exact lt_irrefl _ h

theorem pairLt_asymm (κ : EReal → EReal) (a b : EReal × BitVec 32) : pairLt κ a b → ¬ pairLt κ b a := by
  rintro (h | ⟨e, h⟩) (h' | ⟨e', h'⟩)
  · exact lt_asymm h h'
  · rw [e'] at h; exact lt_irrefl _ h
  · rw [e] at h'; exact lt_irrefl _ h'
  · exact lt_asymm h h'

open Classical in
theorem argmin_eq (a b : EReal × BitVec 32) : reducer_argmin_f32_i32 (F := Ideal) a b = if pairLt id a b then a else b := by
  obtain ⟨a, i⟩ := a
  obtain ⟨b, j⟩ := b
  have hs : IntOp.cmpi .slt i j = BitVec.ofBool (decide (i.toInt < j.toInt)) := by
    simp [IntOp.cmpi, BitVec.slt]
  unfold reducer_argmin_f32_i32 pairLt
  simp only [Ideal.cmpf_def, Ideal.cmp, hs, id, IntOp.ori, IntOp.andi, Scalar.select]
  rcases lt_trichotomy a b with h | h | h
  · have one : ∀ c : Bool, 1#1 ||| BitVec.ofBool c = 1#1 := by decide
    simp [h, one]
  · subst h
    by_cases h' : i.toInt < j.toInt <;> simp [h']
  · simp [h, not_lt.mpr h.le, h.ne']

open Classical in
theorem argmax_eq (a b : EReal × BitVec 32) : reducer_argmax_f32_i32 (F := Ideal) a b = if pairLt (0 - ·) a b then a else b := by
  obtain ⟨a, i⟩ := a
  obtain ⟨b, j⟩ := b
  have hs : IntOp.cmpi .slt i j = BitVec.ofBool (decide (i.toInt < j.toInt)) := by
    simp [IntOp.cmpi, BitVec.slt]
  unfold reducer_argmax_f32_i32 pairLt
  simp only [Ideal.cmpf_def, Ideal.cmp, hs, zero_sub, EReal.neg_lt_neg_iff, IntOp.ori, IntOp.andi, Scalar.select]
  rcases lt_trichotomy b a with h | h | h
  · have one : ∀ c : Bool, 1#1 ||| BitVec.ofBool c = 1#1 := by decide
    simp [h, one]
  · subst h
    by_cases h' : i.toInt < j.toInt <;> simp [h']
  · simp [h, not_lt.mpr h.le, h.ne]

/-- The fold over a row's pairs, from a pair no entry stands behind, names the row's first position. -/
theorem arg_row {N M : ℕ} (hN : N ≤ 2 ^ 30) [NeZero N] (κ : EReal → EReal) (hκ : ∀ a b, κ a = κ b → a = b) (e : EReal) (he : ∀ a, κ a ≤ κ e)
    (f : Ideal .f32 × BitVec 32 → Ideal .f32 × BitVec 32 → Ideal .f32 × BitVec 32)
    (hf : ∀ a b : EReal × BitVec 32, f a b = open Classical in if pairLt κ a b then a else b)
    (x : FVec Ideal ⟨2, ![M, N]⟩ .f32) (y : IVec ⟨2, ![M, N]⟩ 32) (hy : ∀ n k, y (ix2 n k) = BitVec.ofNat 32 k.val)
    (ix : FVec Ideal S_ .f32) (iy : IVec S_ 32) (hix : ∀ i, ix i = e) (hiy : ∀ i, iy i = 0#32)
    (h : Shape.ReducesTo (⟨2, ![M, N]⟩ : Shape) [1] ⟨1, ![M]⟩) (hu : 0 < S_.numel) (n : Fin M)
    (g : IVec ⟨1, ![M]⟩ 32) (hg : g = fun j => (Host.argReduce f x y ix iy h hu j).2) :
    g (ix1 n) = BitVec.ofNat 32 (first fun k : Fin N => κ (x (ix2 n k))).val := by
  classical
  set i := first fun k : Fin N => κ (x (ix2 n k)) with hi
  have hs : IsFirst (fun k : Fin N => κ (x (ix2 n k))) i := first_spec _
  have key : Host.argReduce f x y ix iy h hu (ix1 n) = (x (ix2 n i), BitVec.ofNat 32 i.val) := by
    rw [Ideal.argReduce_eq_reduce2, Host.reduce2_eq_foldl_fiber]
    refine fold_keep (pairLt κ) (pairLt_irrefl κ) (pairLt_asymm κ) f (fun a b => hf a b) _ _ _ ?_ ?_
    · refine List.mem_cons_of_mem _ ?_
      refine List.mem_map.mpr ⟨(⟨2, ![M, N]⟩ : Shape).rowMajor (ix2 n i), List.mem_filter.mpr ⟨List.mem_finRange _, ?_⟩, ?_⟩
      · rw [Equiv.symm_apply_apply, decide_eq_true_iff]
        funext a
        obtain rfl : a = 0 := Subsingleton.elim _ _
        exact Fin.ext (Shape.ReducesTo.drop_apply_val h (ix2 n i) 0)
      · rw [Equiv.symm_apply_apply, hy]
    · intro q hq
      have hlt := i.isLt
      have word : ∀ k : Fin N, (BitVec.ofNat 32 k.val).toInt = k.val := fun k => Cert.Maths.toInt_word _ (by have := k.isLt; omega)
      have cmp : ∀ k : Fin N, ((x (ix2 n k), BitVec.ofNat 32 k.val) : EReal × BitVec 32) = (x (ix2 n i), BitVec.ofNat 32 i.val)
          ∨ pairLt κ (x (ix2 n i), BitVec.ofNat 32 i.val) (x (ix2 n k), BitVec.ofNat 32 k.val) := fun k => by
        rcases lt_trichotomy i k with hk | hk | hk
        · rcases (hs.1 k).lt_or_eq with hv | hv
          · exact .inr (.inl hv)
          · refine .inr (.inr ⟨hκ _ _ hv, ?_⟩)
            show (BitVec.ofNat 32 i.val).toInt < (BitVec.ofNat 32 k.val).toInt
            rw [word, word]
            exact_mod_cast hk
        · exact .inl (by rw [hk])
        · exact .inr (.inl (hs.2 k hk))
      rcases List.mem_cons.mp hq with rfl | hq
      · rw [hix, hiy]
        rcases (he (x (ix2 n i))).lt_or_eq with hv | hv
        · exact .inr (.inl hv)
        · have h0 : i = 0 := by
            by_contra hne
            have hz : (0 : Fin N).val = 0 := rfl
            have := hs.2 0 (by
              rw [Fin.lt_def, hz]
              exact Nat.pos_of_ne_zero fun h => hne (Fin.ext h))
            exact absurd (he (x (ix2 n 0))) (not_le.mpr (hv ▸ this))
          refine .inl ?_
          rw [← hκ _ _ hv, h0]
          rfl
      · obtain ⟨w, hw, rfl⟩ := List.mem_map.mp hq
        have hw := of_decide_eq_true (List.mem_filter.mp hw).2
        generalize (⟨2, ![M, N]⟩ : Shape).rowMajor.symm w = j at hw ⊢
        have h0 : j 0 = n := by
          have e := congrFun hw 0
          exact (Fin.ext (Shape.ReducesTo.drop_apply_val h j 0).symm : j 0 = h.drop j 0).trans e
        obtain ⟨k, rfl⟩ : ∃ k : Fin N, j = ix2 n k := ⟨j 1, by
          funext a
          match a with
          | ⟨0, _⟩ => exact h0
          | ⟨1, _⟩ => rfl⟩
        rw [hy]
        exact cmp k
  rw [hg]
  exact congrArg Prod.snd key

theorem refNear_apply (d : FVec Ideal S3136x16384 .f32) (n : Fin 3136) :
    refNear d (ix1 n) = BitVec.ofNat 32 (first fun k : Fin 16384 => d (ix2 n k)).val :=
  arg_row (M := 3136) (N := 16384) (by norm_num) id (fun _ _ h => h) ⊤ (fun _ => le_top) reducer_argmin_f32_i32 argmin_eq d (iotaInDim S3136x16384 32 1)
    (fun _ _ => rfl) (constant S_ .f32 0x7F800000#32) (constantI S_ 32 0#32) (fun _ => ofBits_top) (fun _ => rfl) reducesTo_S3136x16384_S3136_d1 h_S_ n
    (refNear d) rfl

theorem refTop_apply (s : FVec Ideal S4x784 .f32) (b : Fin 4) :
    refTop s (ix1 b) = BitVec.ofNat 32 (first fun k : Fin 784 => 0 - s (ix2 b k)).val :=
  arg_row (M := 4) (N := 784) (by norm_num) (0 - ·) (fun a b h => by simpa using h) ⊥ (fun _ => by simp) reducer_argmax_f32_i32 argmax_eq s (iotaInDim S4x784 32 1)
    (fun _ _ => rfl) (constant S_ .f32 0xFF800000#32) (constantI S_ 32 0#32) (fun _ => show Ideal.ofBits .f32 0xFF800000#32 = ⊥ by simp [Ideal.ofBits, Ideal.ieee])
    (fun _ => rfl) reducesTo_S4x784_S4_d1 h_S_ b (refTop s) rfl

end Cert.ReferenceIdeal.Read

end
-- ==== Proof.Distances.lean ====
/-
  Squared distances of rows of reals: never negative, and the same however the factor -2 is placed.
-/
module

public import proofs.«01_k».proof.Proof.Score
public import proofs.«01_k».proof.Proof.First

@[expose] public section

set_option maxRecDepth 16384

noncomputable section

namespace Cert.Maths

open Finset Idealize.ShloMosaic

/-- The squared distance of two rows of extended reals. -/
def away (x b : Fin 384 → EReal) : EReal := ∑ k, x k * x k - ((2 : ℝ) : EReal) * ∑ k, x k * b k + ∑ k, b k * b k

theorem away_coe (x b : Fin 384 → ℝ) : away (fun k => (x k : EReal)) (fun k => (b k : EReal)) = (dist2 x b : EReal) := by
  unfold away
  rw [sum_mul_coe, sum_mul_coe, sum_mul_coe, ← EReal.coe_mul, ← EReal.coe_sub, ← EReal.coe_add]
  rfl

theorem dist2_nonneg (x b : Fin 384 → ℝ) : 0 ≤ dist2 x b := by
  have e : dist2 x b = ∑ k, (x k - b k) ^ 2 := by
    unfold dist2
    rw [mul_sum, ← sum_sub_distrib, ← sum_add_distrib]
    exact sum_congr rfl fun k _ => by ring
  rw [e]
  exact sum_nonneg fun k _ => sq_nonneg _

/-- The distances' roots are in the order of the distances. -/
theorem first_root (x : Fin 384 → ℝ) (b : Fin 16384 → Fin 384 → ℝ) :
    (first fun j => root (dist2 x (b j) : EReal)) = first fun j => (dist2 x (b j) : EReal) :=
  first_congr fun i j => by
    rw [root_coe, root_coe, max_eq_left (dist2_nonneg _ _), max_eq_left (dist2_nonneg _ _), EReal.coe_le_coe_iff, EReal.coe_le_coe_iff,
      Real.sqrt_le_sqrt_iff (dist2_nonneg _ _)]

/-- The factor inside the sum. -/
theorem dist_scaled (x b : Fin 384 → ℝ) :
    ∑ k, (x k : EReal) * x k + ∑ k, (x k : EReal) * (((-2 : ℝ) : EReal) * b k) + ∑ k, (b k : EReal) * b k = (dist2 x b : EReal) := by
  have e : ∑ k, (x k : EReal) * (((-2 : ℝ) : EReal) * b k) = ((∑ k, x k * (-2 * b k) : ℝ) : EReal) := by
    rw [coe_sum]
    exact sum_congr rfl fun k _ => by rw [← EReal.coe_mul, ← EReal.coe_mul]
  rw [sum_mul_coe, sum_mul_coe, e, ← EReal.coe_add, ← EReal.coe_add]
  refine congrArg _ ?_
  unfold dist2
  rw [mul_sum, sub_eq_add_neg, ← sum_neg_distrib]
  refine congrArg (· + _) (congrArg (_ + ·) (sum_congr rfl fun k _ => ?_))
  ring

/-- Both rows scaled, and one scaled back. -/
theorem dist_scaled_back (x b : Fin 384 → ℝ) :
    ∑ k, (x k : EReal) * x k + ∑ k, (((-0.5 : ℝ) : EReal) * (((-2 : ℝ) : EReal) * x k)) * (((-2 : ℝ) : EReal) * b k) + ∑ k, (b k : EReal) * b k
      = (dist2 x b : EReal) := by
  rw [← dist_scaled]
  refine congrArg (· + _) (congrArg (_ + ·) (sum_congr rfl fun k _ => congrArg (· * _) ?_))
  rw [← EReal.coe_mul, ← EReal.coe_mul]
  refine congrArg _ ?_
  ring

end Cert.Maths

end
-- ==== Proof.RefGather.lean ====
/-
  The reference's reads at computed positions.
-/
module

public import proofs.«01_k».proof.Proof.RefPick
public import proofs.«01_k».proof.Proof.Distances

@[expose] public section

set_option maxRecDepth 16384

noncomputable section

namespace Cert.ReferenceIdeal.Read

open Cert.Maths Cert.ReferenceIdeal Cert.ReferenceIdeal.Gen Cert.ReferenceIdeal.Value
open Idealize.ShloMosaic Idealize.ShloMosaic.TcCoe Idealize.SL.Sem Idealize.ShloMosaic.StableHlo

/-- An entry read at a pair of words. -/
theorem gather_pair {α : Type} (x : S4x784.Idx → α) (idx : IVec S4x2 32) (b c : Fin 4) (p : Fin 784)
    (h0 : idx (ix2 b 0) = BitVec.ofNat 32 c.val) (h1 : idx (ix2 b 1) = BitVec.ofNat 32 p.val) :
    Host.gather gather_S4x784_S4x2_S4_n_01_n_n_01_1_11 x idx (ix1 b) = x (ix2 c p) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero, GatherDims.offCoord_eq_zero _ _ _ (by revert a; decide), Nat.add_zero]
  unfold GatherDims.start
  match a with
  | ⟨0, _⟩ =>
    rw [dif_pos (by decide +revert)]
    have hi : (gather_S4x784_S4x2_S4_n_01_n_n_01_1_11).siIdx (ix1 b) ⟨List.idxOf 0 (gather_S4x784_S4x2_S4_n_01_n_n_01_1_11).startIndexMap, List.idxOf_lt_length_iff.2 (by decide)⟩ = ix2 b 0 := by
      funext c; refine Fin.ext ?_
      match c with
      | ⟨0, _⟩ => rfl
      | ⟨1, _⟩ => rfl
    refine (congrArg (fun i => min (idx i).toInt.toNat _) hi).trans ?_
    rw [h0, toInt_word (by have := c.isLt; omega)]
    exact min_eq_left (by have := c.isLt; show c.val ≤ 3; omega)
  | ⟨1, _⟩ =>
    rw [dif_pos (by decide +revert)]
    have hi : (gather_S4x784_S4x2_S4_n_01_n_n_01_1_11).siIdx (ix1 b) ⟨List.idxOf 1 (gather_S4x784_S4x2_S4_n_01_n_n_01_1_11).startIndexMap, List.idxOf_lt_length_iff.2 (by decide)⟩ = ix2 b 1 := by
      funext c; refine Fin.ext ?_
      match c with
      | ⟨0, _⟩ => rfl
      | ⟨1, _⟩ => rfl
    refine (congrArg (fun i => min (idx i).toInt.toNat _) hi).trans ?_
    rw [h1, toInt_word (by have := p.isLt; omega)]
    exact min_eq_left (by have := p.isLt; show p.val ≤ 783; omega)

/-- A row read at a pair of words. -/
theorem gather_pairRow {α : Type} (x : S4x784x384.Idx → α) (idx : IVec S4x2 32) (b c : Fin 4) (p : Fin 784) (k : Fin 384)
    (h0 : idx (ix2 b 0) = BitVec.ofNat 32 c.val) (h1 : idx (ix2 b 1) = BitVec.ofNat 32 p.val) :
    Host.gather gather_S4x784x384_S4x2_S4x384_1_01_n_n_01_1_11384 x idx (ix2 b k) = x (ix3 c p k) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hi : (gather_S4x784x384_S4x2_S4x384_1_01_n_n_01_1_11384).siIdx (ix2 b k) ⟨List.idxOf 0 (gather_S4x784x384_S4x2_S4x384_1_01_n_n_01_1_11384).startIndexMap, List.idxOf_lt_length_iff.2 (by decide)⟩ = ix2 b 0 := by
      funext c; refine Fin.ext ?_
      match c with
      | ⟨0, _⟩ => rfl
      | ⟨1, _⟩ => rfl
    refine (congrArg (fun i => min (idx i).toInt.toNat _) hi).trans ?_
    rw [h0, toInt_word (by have := c.isLt; omega)]
    exact min_eq_left (by have := c.isLt; show c.val ≤ 3; omega)
  | ⟨1, _⟩ =>
    rw [GatherDims.offCoord_eq_zero _ _ _ (by decide +revert), Nat.add_zero]
    unfold GatherDims.start
    rw [dif_pos (by decide +revert)]
    have hi : (gather_S4x784x384_S4x2_S4x384_1_01_n_n_01_1_11384).siIdx (ix2 b k) ⟨List.idxOf 1 (gather_S4x784x384_S4x2_S4x384_1_01_n_n_01_1_11384).startIndexMap, List.idxOf_lt_length_iff.2 (by decide)⟩ = ix2 b 1 := by
      funext c; refine Fin.ext ?_
      match c with
      | ⟨0, _⟩ => rfl
      | ⟨1, _⟩ => rfl
    refine (congrArg (fun i => min (idx i).toInt.toNat _) hi).trans ?_
    rw [h1, toInt_word (by have := p.isLt; omega)]
    exact min_eq_left (by have := p.isLt; show p.val ≤ 783; omega)
  | ⟨2, _⟩ =>
    unfold GatherDims.start GatherDims.offCoord
    rw [dif_neg (by decide +revert), dif_pos (by decide +revert), Nat.zero_add]
    rfl

/-- A row read at a word. -/
theorem gather_row {α : Type} (x : S16384x384.Idx → α) (idx : IVec S4x1 32) (b : Fin 4) (j : Fin 16384) (k : Fin 384)
    (h : idx (ix2 b 0) = BitVec.ofNat 32 j.val) :
    Host.gather gather_S16384x384_S4x1_S4x384_1_0_n_n_0_1_1384 x idx (ix2 b k) = x (ix2 j k) := by
  unfold Host.gather
  refine congrArg x ?_
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hi : (gather_S16384x384_S4x1_S4x384_1_0_n_n_0_1_1384).siIdx (ix2 b k) ⟨List.idxOf 0 (gather_S16384x384_S4x1_S4x384_1_0_n_n_0_1_1384).startIndexMap, List.idxOf_lt_length_iff.2 (by decide)⟩ = ix2 b 0 := by
      funext c; refine Fin.ext ?_
      match c with
      | ⟨0, _⟩ => rfl
      | ⟨1, _⟩ => rfl
    refine (congrArg (fun i => min (idx i).toInt.toNat _) hi).trans ?_
    rw [h, toInt_word (by have := j.isLt; omega)]
    exact min_eq_left (by have := j.isLt; show j.val ≤ 16383; omega)
  | ⟨1, _⟩ =>
    unfold GatherDims.start GatherDims.offCoord
    rw [dif_neg (by decide +revert), dif_pos (by decide +revert), Nat.zero_add]
    rfl

/-- Nine rows read at nine words. -/
theorem gather_rowsOf {α : Type} (x : S16384x384.Idx → α) (idx : IVec S4x9x1 32) (b : Fin 4) (t : Fin 9) (j : Fin 16384) (k : Fin 384)
    (h : idx (ix3 b t 0) = BitVec.ofNat 32 j.val) :
    Host.gather gather_S16384x384_S4x9x1_S4x9x384_2_0_n_n_0_2_1384 x idx (ix3 b t k) = x (ix2 j k) := by
  unfold Host.gather
  refine congrArg x ?_
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (by decide +revert), Nat.add_zero]
    unfold GatherDims.start
    rw [dif_pos (by decide +revert)]
    have hi : (gather_S16384x384_S4x9x1_S4x9x384_2_0_n_n_0_2_1384).siIdx (ix3 b t k) ⟨List.idxOf 0 (gather_S16384x384_S4x9x1_S4x9x384_2_0_n_n_0_2_1384).startIndexMap, List.idxOf_lt_length_iff.2 (by decide)⟩ = ix3 b t 0 := by
      funext c; refine Fin.ext ?_
      match c with
      | ⟨0, _⟩ => rfl
      | ⟨1, _⟩ => rfl
      | ⟨2, _⟩ => rfl
    refine (congrArg (fun i => min (idx i).toInt.toNat _) hi).trans ?_
    rw [h, toInt_word (by have := j.isLt; omega)]
    exact min_eq_left (by have := j.isLt; show j.val ≤ 16383; omega)
  | ⟨1, _⟩ =>
    unfold GatherDims.start GatherDims.offCoord
    rw [dif_neg (by decide +revert), dif_pos (by decide +revert), Nat.zero_add]
    rfl

/-- A small word is not below zero, so the wrap leaves it. -/
theorem wrap (n : ℕ) (h : n < 2 ^ 31) (c : BitVec 32) : Scalar.select (IntOp.cmpi .slt (BitVec.ofNat 32 n) 0#32) c (BitVec.ofNat 32 n) = BitVec.ofNat 32 n := by
  have : IntOp.cmpi .slt (BitVec.ofNat 32 n) 0#32 = 0#1 := by
    have e := toInt_small h
    have h0 : ¬ ((n : ℤ) < 0) := by omega
    simp only [IntOp.cmpi, BitVec.slt, e, BitVec.toInt_zero, h0]
    rfl
  rw [this]
  rfl

theorem refPairs_apply (t : IVec S4 32) (b : Fin 4) (p : Fin 784) (h : t (ix1 b) = BitVec.ofNat 32 p.val) :
    refPairs t (ix2 b 0) = BitVec.ofNat 32 b.val ∧ refPairs t (ix2 b 1) = BitVec.ofNat 32 p.val := by
  constructor
  · pointwise [refPairs]
    exact wrap _ (by have := b.isLt; omega) _
  · pointwise [refPairs]
    rw [h]
    exact wrap _ (by have := p.isLt; omega) _

/-- The feature of the chosen patch. -/
theorem refFeature_apply (X : FVec Ideal S3136x384 .f32) (q : IVec S4x2 32) (b : Fin 4) (p : Fin 784) (k : Fin 384)
    (h0 : q (ix2 b 0) = BitVec.ofNat 32 b.val) (h1 : q (ix2 b 1) = BitVec.ofNat 32 p.val) :
    refFeature X q (ix2 b k) = X (ix2 ⟨784 * b.val + p.val, by have := b.isLt; have := p.isLt; omega⟩ k) := by
  unfold refFeature
  rw [gather_pairRow _ _ b b p k h0 h1]
  pointwise
  exact congrArg (fun a => X (ix2 a k)) (Fin.ext (show b.val * 784 + p.val = 784 * b.val + p.val by omega))

theorem refBest_apply (s : FVec Ideal S4x784 .f32) (q : IVec S4x2 32) (b : Fin 4) (p : Fin 784)
    (h0 : q (ix2 b 0) = BitVec.ofNat 32 b.val) (h1 : q (ix2 b 1) = BitVec.ofNat 32 p.val) :
    refBest s q (ix1 b) = s (ix2 b p) := gather_pair _ _ b b p h0 h1

theorem refPlace_apply (l : IVec S4x784 32) (q : IVec S4x2 32) (b : Fin 4) (p : Fin 784)
    (h0 : q (ix2 b 0) = BitVec.ofNat 32 b.val) (h1 : q (ix2 b 1) = BitVec.ofNat 32 p.val) :
    refPlace l q (ix1 b) = l (ix2 b p) := gather_pair _ _ b b p h0 h1

/-- The bank row a word names. -/
theorem refNearest_apply (B : FVec Ideal S16384x384 .f32) (w : IVec S4 32) (b : Fin 4) (j : Fin 16384) (k : Fin 384)
    (h : w (ix1 b) = BitVec.ofNat 32 j.val) : refNearest B w (ix2 b k) = B (ix2 j k) := by
  unfold refNearest
  refine gather_row _ _ b j k ?_
  pointwise
  rw [h]
  exact wrap _ (by have := j.isLt; omega) _

/-- The bank rows nine words name. -/
theorem refSupport_apply (B : FVec Ideal S16384x384 .f32) (w : IVec S4x9 32) (b : Fin 4) (t : Fin 9) (j : Fin 16384) (k : Fin 384)
    (h : w (ix2 b t) = BitVec.ofNat 32 j.val) : refSupport B w (ix3 b t k) = B (ix2 j k) := by
  unfold refSupport
  refine gather_rowsOf _ _ b t j k ?_
  pointwise
  rw [h]
  exact wrap _ (by have := j.isLt; omega) _

theorem refDist_apply (X : FVec Ideal S3136x384 .f32) (B : FVec Ideal S16384x384 .f32) (n : Fin 3136) (j : Fin 16384) :
    refDist X B (ix2 n j) = root (away (fun k => X (ix2 n k)) fun k => B (ix2 j k)) := by
  pointwise [refDist]
  rw [ofBits_two]
  rfl

theorem refNeg_apply (f : FVec Ideal S4x384 .f32) (B : FVec Ideal S16384x384 .f32) (b : Fin 4) (j : Fin 16384) :
    refNeg f B (ix2 b j) = -root (away (fun k => f (ix2 b k)) fun k => B (ix2 j k)) := by
  pointwise [refNeg]
  rw [ofBits_two]
  rfl

theorem refAway_apply (f : FVec Ideal S4x384 .f32) (g : FVec Ideal S4x9x384 .f32) (b : Fin 4) (j : Fin 9) :
    refAway f g (ix2 b j) = root (away (fun k => f (ix2 b k)) fun k => g (ix3 b j k)) := by
  pointwise [refAway]
  rw [ofBits_two]
  rfl

theorem refWeighed_apply (d : FVec Ideal S4x9 .f32) (s : FVec Ideal S4 .f32) (b : Fin 4) :
    refWeighed (refExp d) s (ix1 b) = weigh (fun k => d (ix2 b k)) (s (ix1 b)) := by
  pointwise [refWeighed, refExp]
  rw [ofBits_bot]
  simp only [bot_le, max_eq_right]
  rfl

/-- One number per row, the rows of an image together. -/
theorem rows_read {α : Type} (s : S3136.Idx → α) (b : Fin 4) (p : Fin 784) :
    shapeCast S4x784 s shapeCasts_S3136_S4x784 (ix2 b p) = s (ix1 ⟨784 * b.val + p.val, by have := b.isLt; have := p.isLt; omega⟩) := by
  pointwise
  exact congrArg (fun a => s (ix1 a)) (Fin.ext (show b.val * 784 + p.val = 784 * b.val + p.val by omega))

end Cert.ReferenceIdeal.Read

end
-- ==== Proof.RefSort.lean ====
/-
  The reference's nine nearest bank rows: the first nine positions of a stable sort are the picks.
-/
module

public import proofs.«01_k».proof.Proof.First
public import proofs.«01_k».proof.Proof.RefTerm

@[expose] public section

set_option maxRecDepth 16384

noncomputable section

namespace Cert.ReferenceIdeal.Read

open Cert.Maths Cert.ReferenceIdeal Cert.ReferenceIdeal.Gen Cert.ReferenceIdeal.Value
open Idealize.ShloMosaic Idealize.ShloMosaic.TcCoe Idealize.SL.Sem Idealize.ShloMosaic.StableHlo

theorem slice_row {α : Type} {M N K : ℕ} (hK : K ≤ N) (x : (⟨2, ![M, N]⟩ : Shape).Idx → α) (h : (⟨2, ![M, N]⟩ : Shape).Slices (fun _ => 0) ⟨2, ![M, K]⟩)
    (b : Fin M) (k : Fin K) : extractStridedSlice ⟨2, ![M, K]⟩ (fun _ => 0) x h (ix2 b k) = x (ix2 b (k.castLE hK)) := by
  refine congrArg x (funext fun a => ?_)
  match a with
  | ⟨0, _⟩ => exact Fin.ext (Nat.zero_add _)
  | ⟨1, _⟩ => exact Fin.ext (Nat.zero_add _)

/-- The greatest of a row of negated entries, stably, are the picks of the entries. -/
theorem top_row {M N K : ℕ} [NeZero N] (hK : K ≤ N) (d : FVec Ideal ⟨2, ![M, N]⟩ .f32) (h : (⟨2, ![M, N]⟩ : Shape).Slices (fun _ => 0) ⟨2, ![M, K]⟩)
    (b : Fin M) (k : Fin K) (f : Fin N → EReal) (hf : ∀ j, f j ≠ ⊤) (hd : ∀ j, d (ix2 b j) = -f j)
    (g : IVec ⟨2, ![M, K]⟩ 32) (hg : g = (Host.topK ⟨2, ![M, K]⟩ 1 (FloatOps.cmpfTotal (F := Ideal) (φ := .f32) .gt) d h).2) :
    g (ix2 b k) = BitVec.ofNat 32 (pick f k.val).val := by
  have hr : 1 < (⟨2, ![M, N]⟩ : Shape).rank := Nat.one_lt_two
  have hw : ∀ q : Fin N, (ix2 b (k.castLE hK) : (⟨2, ![M, N]⟩ : Shape).Idx).along ⟨1, hr⟩ q = ix2 b q := by
    intro q
    funext a
    match a with
    | ⟨0, _⟩ => rfl
    | ⟨1, _⟩ => rfl
  have hc : (fun q q' : Fin N => FloatOps.cmpfTotal (F := Ideal) (φ := .f32) .gt (d (ix2 b q)) (d (ix2 b q')) == 1#1) = fun q q' => decide (f q < f q') := by
    funext q q'
    rw [hd, hd]
    show (Ideal.cmp .ogt (-f q) (-f q') == 1#1) = _
    simp only [Ideal.cmp, EReal.neg_lt_neg_iff]
    cases decide (f q < f q') <;> rfl
  rw [hg]
  unfold Host.topK Host.sort2
  simp only []
  rw [dif_pos hr, slice_row hK]
  simp only []
  rw [dif_pos hr]
  show BitVec.ofNat 32 (sortedFrom (fun q q' : Fin N => FloatOps.cmpfTotal (F := Ideal) (φ := .f32) .gt
    (d ((ix2 b (k.castLE hK) : (⟨2, ![M, N]⟩ : Shape).Idx).along ⟨1, hr⟩ q)) (d ((ix2 b (k.castLE hK) : (⟨2, ![M, N]⟩ : Shape).Idx).along ⟨1, hr⟩ q')) == 1#1) (k.castLE hK)).val = _
  simp only [hw]
  rw [hc, sortedFrom_pick f hf hK k]

theorem refNine_apply (d : FVec Ideal S4x16384 .f32) (b : Fin 4) (k : Fin 9) (f : Fin 16384 → EReal) (hf : ∀ j, f j ≠ ⊤) (hd : ∀ j, d (ix2 b j) = -f j) :
    refNine d (ix2 b k) = BitVec.ofNat 32 (pick f k.val).val :=
  top_row (M := 4) (N := 16384) (K := 9) (by norm_num) d sliceFits_S4x16384_S4x9 b k f hf hd (refNine d) rfl

end Cert.ReferenceIdeal.Read

end
-- ==== Proof.RefChoose.lean ====
/-
  The reference's second result at one image: the patch of the greatest score, the bank row nearest to it, the nine bank
  rows nearest to that one, and the score reweighed by the distances to them.
-/
module

public import proofs.«01_k».proof.Proof.RefGather
public import proofs.«01_k».proof.Proof.RefSort

@[expose] public section

set_option maxRecDepth 16384

noncomputable section

namespace Cert.ReferenceIdeal.Read

open Cert.Maths Cert.ReferenceIdeal Cert.ReferenceIdeal.Gen Cert.ReferenceIdeal.Value
open Idealize.ShloMosaic Idealize.ShloMosaic.TcCoe Idealize.SL.Sem Idealize.ShloMosaic.StableHlo

variable (X : FVec Ideal S3136x384 .f32) (B : FVec Ideal S16384x384 .f32) (b : Fin 4)

/-- The score of image `b`'s patch `p`. -/
def patchScore (p : Fin 784) : EReal :=
  score (fun k => X (ix2 ⟨784 * b.val + p.val, by have := b.isLt; have := p.isLt; omega⟩ k)) fun j k => B (ix2 j k)

/-- The row of image `b`'s patch of the greatest score, -/
def bestRow : Fin 3136 :=
  ⟨784 * b.val + (topPatch (patchScore X B b)).val, by have := b.isLt; have := (topPatch (patchScore X B b)).isLt; omega⟩

/-- the bank row nearest to it, -/
def nearRow : Fin 16384 := first fun j => root (away (fun k => X (ix2 (bestRow X B b) k)) fun k => B (ix2 j k))

/-- and the distances from that bank row to all. -/
def nearDist (j : Fin 16384) : EReal := root (away (fun k => B (ix2 (nearRow X B b) k)) fun k => B (ix2 j k))

theorem refRowsOf_apply (p : Fin 784) : refRowsOf X B (ix2 b p) = patchScore X B b p := by
  unfold refRowsOf
  rw [rows_read, refScore_apply]
  rfl

theorem refWhere_apply : refWhere X B (ix2 b 0) = BitVec.ofNat 32 b.val
    ∧ refWhere X B (ix2 b 1) = BitVec.ofNat 32 (topPatch (patchScore X B b)).val := by
  unfold refWhere
  refine refPairs_apply _ b _ ((refTop_apply _ b).trans ?_)
  unfold topPatch
  refine congrArg (fun i : Fin 784 => BitVec.ofNat 32 i.val) (congrArg first (funext fun p => ?_))
  rw [refRowsOf_apply]

theorem refPlaces_apply : refPlace (refPlaces X B) (refWhere X B) (ix1 b) = BitVec.ofNat 32 (nearRow X B b).val := by
  rw [refPlace_apply _ _ b _ (refWhere_apply X B b).1 (refWhere_apply X B b).2]
  unfold refPlaces
  rw [rows_read, refNear_apply]
  unfold nearRow
  refine congrArg (fun i : Fin 16384 => BitVec.ofNat 32 i.val) (congrArg first (funext fun j => ?_))
  rw [refDist_apply]
  rfl

theorem refNinth_apply (hf : ∀ j, nearDist X B b j ≠ ⊤) (k : Fin 9) :
    refNinth X B (ix2 b k) = BitVec.ofNat 32 (pick (nearDist X B b) k.val).val := by
  unfold refNinth
  refine refNine_apply _ b k _ hf fun j => ?_
  rw [refNeg_apply]
  refine congrArg (fun f => -root (away f _)) (funext fun l => ?_)
  exact refNearest_apply B _ b _ l (refPlaces_apply X B b)

/-- The second result of image `b`. -/
theorem refPred_apply (hf : ∀ j, nearDist X B b j ≠ ⊤) :
    refPred X B (ix1 b) = weigh (fun k => root (away (fun l => X (ix2 (bestRow X B b) l)) fun l => B (ix2 (pick (nearDist X B b) k.val) l)))
      (patchScore X B b (topPatch (patchScore X B b))) := by
  obtain ⟨h0, h1⟩ := refWhere_apply X B b
  unfold refPred
  rw [refWeighed_apply, refBest_apply _ _ b _ h0 h1, refRowsOf_apply]
  refine congrArg (weigh · _) (funext fun k => ?_)
  rw [refAway_apply]
  refine congrArg root (congrArg₂ away (funext fun l => refFeature_apply X _ b _ l h0 h1) (funext fun l => ?_))
  exact refSupport_apply B _ b k _ l (refNinth_apply X B b hf k)

end Cert.ReferenceIdeal.Read

end
-- ==== Proof.Choice.lean ====
/-
  The kernel's second result is the reference's: of finite arguments both choose the same patch and the same bank rows, and
  weigh the same score by the same distances.
-/
module

public import proofs.«01_k».proof.Proof.KernelPred
public import proofs.«01_k».proof.Proof.RefChoose
public import proofs.«01_k».proof.Proof.Value

@[expose] public section

set_option maxRecDepth 16384

noncomputable section

namespace Cert.KernelIdeal.Run

open Cert.KernelIdeal Cert.KernelIdeal.Gen Cert.Maths
open Idealize.ShloMosaic Idealize.ShloMosaic.TcCoe Idealize.SL.Sem Idealize.ShloMosaic.StableHlo
open Cert.ReferenceIdeal.Read (patchScore bestRow nearRow nearDist refPred)

/-- The score the second body finds at image `b`, patch `p`. -/
theorem imageRows_apply (P : FVec Ideal S3328x384 .f32) (B : FVec Ideal S16384x384 .f32) (b : Fin 4) (p : Fin 784) :
    imageRows (allScores P B) (ix2 b p) = lateScore (fun k => P (ix2 ⟨784 * b.val + p.val, by omega⟩ k)) (fun l k => B (ix2 l k)) := by
  pointwise [imageRows]
  refine congrArg (fun f => lateScore f _) (funext fun k => congrArg (fun a => P (ix2 a k)) (Fin.ext ?_))
  show 256 * ((b.val * 784 + p.val) / 256) + (b.val * 784 + p.val) % 256 = 784 * b.val + p.val
  omega

theorem oneRow_apply (P : FVec Ideal S3328x384 .f32) (n : Fin 3328) :
    oneRow (allNorms P) (ix2 0 n) = ∑ k, P (ix2 n k) * P (ix2 n k) := by
  pointwise [oneRow]
  have e : ∀ h, (⟨256 * (n.val / 256) + n.val % 256, h⟩ : Fin 3328) = n := fun h => Fin.ext (Nat.div_add_mod _ _)
  refine Finset.sum_congr rfl fun k _ => ?_
  exact congrArg (fun a => P (ix2 a k) * P (ix2 a k)) (e _)

section
variable (X : FVec Ideal S3136x384 .f32) (B : FVec Ideal S16384x384 .f32) (x : Fin 3136 → Fin 384 → ℝ) (b : Fin 16384 → Fin 384 → ℝ)
  (hX : ∀ n k, X (ix2 n k) = (x n k : EReal)) (hB : ∀ j k, B (ix2 j k) = (b j k : EReal))
include hX hB

theorem rows_eq (i : Fin 4) : (fun p => imageRows (allScores (padRows X) B) (ix2 i p)) = patchScore X B i := by
  funext p
  rw [imageRows_apply]
  refine Eq.trans (congrArg (fun f => lateScore f _) (funext fun l => padRows_apply X ⟨784 * i.val + p.val, by omega⟩ l)) ?_
  exact lateScore_eq (x _) b _ _ (hX _) hB

theorem away_row (n : Fin 3136) (j : Fin 16384) : away (fun k => X (ix2 n k)) (fun k => B (ix2 j k)) = (dist2 (x n) (b j) : EReal) := by
  rw [← away_coe]
  exact congrArg₂ away (funext (hX n)) (funext (hB j))

omit hX in
theorem away_bank (i j : Fin 16384) : away (fun k => B (ix2 i k)) (fun k => B (ix2 j k)) = (dist2 (b i) (b j) : EReal) := by
  rw [← away_coe]
  exact congrArg₂ away (funext (hB i)) (funext (hB j))

theorem nearDist_eq (i : Fin 4) : nearDist X B i = fun j => root (dist2 (b (nearRow X B i)) (b j) : EReal) := by
  funext j
  unfold nearDist
  rw [away_bank B b hB]

theorem nearRow_eq (i : Fin 4) : nearRow X B i = first fun j => (dist2 (x (bestRow X B i)) (b j) : EReal) := by
  rw [← first_root]
  unfold nearRow
  refine congrArg first (funext fun j => ?_)
  rw [away_row X B x b hX hB]

theorem pred_eq (i : Fin 4) :
    preds (imageRows (allScores (padRows X) B)) (padRows X) (bankScaled (F := Ideal) B) (oneRow (allNorms (padRows X))) (bankNorms (F := Ideal) B) (ix2 i 0)
      = refPred X B (ix1 i) := by
  have hs := rows_eq X B x b hX hB i
  have hn : topRow (imageRows (allScores (padRows X) B)) i = ⟨(bestRow X B i).val, by have := (bestRow X B i).isLt; omega⟩ := by
    unfold topRow
    exact Fin.ext (congrArg (fun s => 784 * i.val + (topPatch s).val) hs)
  have hd : (fun j => oneRow (allNorms (padRows X)) (ix2 0 (topRow (imageRows (allScores (padRows X) B)) i))
      + ∑ k, padRows X (ix2 (topRow (imageRows (allScores (padRows X) B)) i) k) * bankScaled (F := Ideal) B (ix2 j k) + bankNorms (F := Ideal) B (ix2 0 j))
      = fun j => (dist2 (x (bestRow X B i)) (b j) : EReal) := by
    funext j
    rw [hn, oneRow_apply, bankNorms_apply]
    simp only [bankScaled_apply, padRows_apply, hX, hB]
    exact dist_scaled _ _
  rw [preds_apply]
  simp only []
  rw [hd, ← nearRow_eq X B x b hX hB i]
  have he : (fun j => root (bankNorms (F := Ideal) B (ix2 0 (nearRow X B i)) + ∑ k, (((-0.5 : ℝ) : EReal) * bankScaled (F := Ideal) B (ix2 (nearRow X B i) k))
      * bankScaled (F := Ideal) B (ix2 j k) + bankNorms (F := Ideal) B (ix2 0 j))) = nearDist X B i := by
    rw [nearDist_eq X B x b hX hB i]
    funext j
    rw [bankNorms_apply, bankNorms_apply]
    simp only [bankScaled_apply, hB]
    exact congrArg root (dist_scaled_back _ _)
  rw [he, Cert.ReferenceIdeal.Read.refPred_apply X B i (fun j => by
    rw [nearDist_eq X B x b hX hB i]
    exact (congrArg (· ≠ ⊤) (root_coe _)).mpr (EReal.coe_ne_top _))]
  have hs' : imageRows (allScores (padRows X) B) (ix2 i (topPatch fun p => imageRows (allScores (padRows X) B) (ix2 i p))) = patchScore X B i (topPatch (patchScore X B i)) := by
    rw [← hs]
  rw [hs']
  refine congrArg (weigh · _) (funext fun k => ?_)
  rw [away_row X B x b hX hB]
  exact congrArg root (congrFun hd _)
end

/-- The kernel's second result, of finite arguments. -/
theorem out1 (m : (ℓ : Loc nD τ sig) → Buf (Elt Ideal) ℓ) (ρ : Dev nD → PrngReg) (c : Dev nD)
    (x : Fin 3136 → Fin 384 → ℝ) (b : Fin 16384 → Fin 384 → ℝ)
    (hX : ∀ n k, (m ((c.tc : Thread nD τ).loc main_arg0) : FVec Ideal S3136x384 .f32) (ix2 n k) = (x n k : EReal))
    (hB : ∀ j k, (m ((c.tc : Thread nD τ).loc main_arg1) : FVec Ideal S16384x384 .f32) (ix2 j k) = (b j k : EReal)) :
    W5 m ρ c (Proc.devRef .tc main_v0_1) = refPred (m ((c.tc : Thread nD τ).loc main_arg0)) (m ((c.tc : Thread nD τ).loc main_arg1)) := by
  rw [W5_pred, preds_final, V3_rows, V3_pad, V3_bankScaled, V3_norms, V3_bankNorms, scores_final, norms_final, bankNorms_final, bankScaled_final, V1_pad, V1_bank]
  funext y
  idx_vars y
  refine Eq.trans ?_ (pred_eq _ _ x b hX hB y0)
  generalize preds _ _ _ _ _ = s
  pointwise

end Cert.KernelIdeal.Run

end
-- ==== Proof.Finite.lean ====
/-
  The precondition decoded: an array whose printed predicate holds is an array of reals.
-/
module

public import proofs.«01_k».proof.Proof.Gen.Pre_finite
public import proofs.«01_k».proof.Proof.Score
public import Idealize.ShloMosaic.Lib.ReduceAll
public import Idealize.ShloMosaic.Lib.Affine

@[expose] public section

set_option maxRecDepth 16384

noncomputable section

namespace Cert.Pre_finite

open Cert.Pre_finite Cert.Pre_finite.Gen Cert.Maths
open Idealize.ShloMosaic Idealize.SL.Sem

/-- An extended real whose absolute value is under the top one is a real. -/
theorem real_of_abs {x : EReal} (h : Ideal.cmp .olt (max x (-x)) ⊤ = 1#1) : ∃ r : ℝ, x = (r : EReal) := by
  have h' : max x (-x) < ⊤ := by
    by_contra hn
    simp [Ideal.cmp, hn] at h
  refine ⟨x.toReal, (EReal.coe_toReal (fun e => ?_) (fun e => ?_)).symm⟩
  · rw [e] at h'; simp at h'
  · rw [e] at h'; simp at h'

theorem reals [hF : Facts] (X : FVec Ideal S3136x384 .f32) (B : FVec Ideal S16384x384 .f32) (h : fn (F := Ideal) X B = fun _ => 1#1) :
    (∃ x : Fin 3136 → Fin 384 → ℝ, ∀ n k, X (ix2 n k) = (x n k : EReal)) ∧ ∃ b : Fin 16384 → Fin 384 → ℝ, ∀ j k, B (ix2 j k) = (b j k : EReal) := by
  have hs : Subsingleton S_.Idx := ⟨fun a b => funext fun d => d.elim0⟩
  have h0 := congrFun h (fun d => d.elim0)
  obtain ⟨h1, h2⟩ := IntOp.andi_eq_one.mp h0
  have key : ∀ n k, ∃ r : ℝ, X (ix2 n k) = (r : EReal) := fun n k => by
    have := Host.reduce_andi_all _ _ _ _ _ h1 (ix2 n k)
    exact real_of_abs (by rw [← ofBits_top]; exact this)
  have keyB : ∀ n k, ∃ r : ℝ, B (ix2 n k) = (r : EReal) := fun n k => by
    have := Host.reduce_andi_all _ _ _ _ _ h2 (ix2 n k)
    exact real_of_abs (by rw [← ofBits_top]; exact this)
  choose x hx using key
  choose b hb using keyB
  exact ⟨⟨x, hx⟩, b, hb⟩

end Cert.Pre_finite

end
-- ==== Proof.lean ====
/-
  The certificate's assembly: the three programs' runs, and the equality of the kernel's two results with the reference's
  (`proof/Proof/Region0.lean`, `Region1.lean`, `Run.lean` and their `Ideal…` twins: the runs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Run
public import proofs.«01_k».proof.Proof.IdealRun
public import proofs.«01_k».proof.Proof.Value
public import proofs.«01_k».proof.Proof.Choice
public import proofs.«01_k».proof.Proof.Finite

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Run.frame m ρ,
  fun m ρ _ => Cert.KernelIdeal.Run.frame m ρ,
  fun m ρ _ => Cert.KernelIdeal.Run.frame m ρ,
  fun m ρ _ => (θ_run Cert.ReferenceIdeal.defs _ _).mono (fun r h => ⟨fun c => (h c).2.2, sem_eq_zero_of_no_sems (by decide) r.2⟩)
    (Cert.ReferenceIdeal.Value.run m ρ),
  fun m ρ _ => (θ_run Cert.ReferenceIdeal.defs _ _).mono (fun r h => ⟨fun c => (h c).2.2, sem_eq_zero_of_no_sems (by decide) r.2⟩)
    (Cert.ReferenceIdeal.Value.run m ρ),
  trivial,
  fun m ρ m' ρ' hp ha => ⟨fun c => Cert.ReferenceIdeal.Read.refMap (m ((c.tc : Thread _ _).loc Cert.KernelIdeal.main_arg0)) (m ((c.tc : Thread _ _).loc Cert.KernelIdeal.main_arg1)),
    fun c => Cert.ReferenceIdeal.Read.refPred (m ((c.tc : Thread _ _).loc Cert.KernelIdeal.main_arg0)) (m ((c.tc : Thread _ _).loc Cert.KernelIdeal.main_arg1)),
    (θ_run Cert.KernelIdeal.defs _ _).mono (fun r h c => by
      obtain ⟨⟨x, hx⟩, b, hb⟩ := Cert.Pre_finite.reals (hF := Cert.Pre_finite.Gen.facts) _ _ (hp c)
      exact ⟨(h c).1.trans (Cert.KernelIdeal.Run.out0 m ρ c x b hx hb), (h c).2.1.trans (Cert.KernelIdeal.Run.out1 m ρ c x b hx hb), (h c).2.2⟩)
      (Cert.KernelIdeal.Run.result m ρ),
    (θ_run Cert.ReferenceIdeal.defs _ _).mono (fun r h c =>
      ⟨(h c).1.trans (congrArg₂ Cert.ReferenceIdeal.Read.refMap (ha c).1 (ha c).2),
        (h c).2.1.trans (congrArg₂ Cert.ReferenceIdeal.Read.refPred (ha c).1 (ha c).2), (h c).2.2⟩) (Cert.ReferenceIdeal.Read.run m' ρ')⟩⟩

end Cert.Proof

end
